-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v33) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v12)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v12) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v49) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v12)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v52) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v12_0)) (v1 : (c : Dev Cert.Kernel9Ideal.nD) → Buf (Elt Ideal) ((c.tc : Thread Cert.Kernel9Ideal.nD Cert.Kernel9Ideal.τ).loc Cert.Kernel9Ideal.main_v12_1)) (v2 : (c : Dev Cert.Kernel9Ideal.nD) → Buf (Elt Ideal) ((c.tc : Thread Cert.Kernel9Ideal.nD Cert.Kernel9Ideal.τ).loc Cert.Kernel9Ideal.main_v12_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_0) = v0 c
          ∧ r.2.mem ((c.tc : Thread Cert.Kernel9Ideal.nD Cert.Kernel9Ideal.τ).loc Cert.Kernel9Ideal.main_v12_1) = v1 c
          ∧ r.2.mem ((c.tc : Thread Cert.Kernel9Ideal.nD Cert.Kernel9Ideal.τ).loc Cert.Kernel9Ideal.main_v12_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v75) = v0 c
          ∧ r.2.mem ((c.tc : Thread Cert.Reference9Ideal.nD Cert.Reference9Ideal.τ).loc Cert.Reference9Ideal.main_v77) = v1 c
          ∧ r.2.mem ((c.tc : Thread Cert.Reference9Ideal.nD Cert.Reference9Ideal.τ).loc Cert.Reference9Ideal.main_v79) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2x4096x1024 : Shape := ⟨3, ![2, 4096, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)

variable [Facts]

def fn_part1 {F : FTy → Type} [FloatOps F] (main_arg5 : FVec F S2x4096x1024 .f32) (main_v18 : IVec S2x4096x1024 1) : IVec S2x4096x1024 1 :=
  let main_v19 : FVec F S2x4096x1024 .f32 := Host.absf main_arg5
  let main_cst_4 : FVec F S_ .f32 := constant S_ .f32 0x7F800000#32
  let main_v20 : FVec F S2x4096x1024 .f32 := broadcastInDim S2x4096x1024 ![] bcast_S_S2x4096x1024 main_cst_4
  let main_v21 : IVec S2x4096x1024 1 := cmpf .olt main_v19 main_v20
  let main_v22 : IVec S2x4096x1024 1 := andi main_v18 main_v21
  main_v22

def fn {F : FTy → Type} [FloatOps F] (main_arg0 : FVec F S2x4096x1024 .f32) (main_arg1 : FVec F S2x4096x1024 .f32) (main_arg2 : FVec F S2x4096x1024 .f32) (main_arg3 : FVec F S2x4096x1024 .f32) (main_arg4 : FVec F S2x4096x1024 .f32) (main_arg5 : FVec F S2x4096x1024 .f32) (main_arg6 : FVec F S2x4096x1024 .f32) (main_arg7 : FVec F S2x4096x1024 .f32) (main_arg8 : FVec F S1024 .f32) (main_arg9 : FVec F S1024 .f32) : IVec S2x4096x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x4096x1024 .f32 := Host.absf main_arg1
  let main_cst_0 : FVec F S_ .f32 := constant S_ .f32 0x7F800000#32
  let main_v4 : FVec F S2x4096x1024 .f32 := broadcastInDim S2x4096x1024 ![] bcast_S_S2x4096x1024 main_cst_0
  let main_v5 : IVec S2x4096x1024 1 := cmpf .olt main_v3 main_v4
  let main_v6 : IVec S2x4096x1024 1 := andi main_v2 main_v5
  let main_v7 : FVec F S2x4096x1024 .f32 := Host.absf main_arg2
  let main_cst_1 : FVec F S_ .f32 := constant S_ .f32 0x7F800000#32
  let main_v8 : FVec F S2x4096x1024 .f32 := broadcastInDim S2x4096x1024 ![] bcast_S_S2x4096x1024 main_cst_1
  let main_v9 : IVec S2x4096x1024 1 := cmpf .olt main_v7 main_v8
  let main_v10 : IVec S2x4096x1024 1 := andi main_v6 main_v9
  let main_v11 : FVec F S2x4096x1024 .f32 := Host.absf main_arg3
  let main_cst_2 : FVec F S_ .f32 := constant S_ .f32 0x7F800000#32
  let main_v12 : FVec F S2x4096x1024 .f32 := broadcastInDim S2x4096x1024 ![] bcast_S_S2x4096x1024 main_cst_2
  let main_v13 : IVec S2x4096x1024 1 := cmpf .olt main_v11 main_v12
  let main_v14 : IVec S2x4096x1024 1 := andi main_v10 main_v13
  let main_v15 : FVec F S2x4096x1024 .f32 := Host.absf main_arg4
  let main_cst_3 : FVec F S_ .f32 := constant S_ .f32 0x7F800000#32
  let main_v16 : FVec F S2x4096x1024 .f32 := broadcastInDim S2x4096x1024 ![] bcast_S_S2x4096x1024 main_cst_3
  let main_v17 : IVec S2x4096x1024 1 := cmpf .olt main_v15 main_v16
  let main_v18 : IVec S2x4096x1024 1 := andi main_v14 main_v17
  fn_part1 (F := F) main_arg5 main_v18
-- ==== Kernel.lean ====
abbrev S2x4096x1024 : Shape := ⟨3, ![2, 4096, 1024]⟩
abbrev S1024 : Shape := ⟨1, ![1024]⟩
abbrev S8192x1024 : Shape := ⟨2, ![8192, 1024]⟩
abbrev S1x1024 : Shape := ⟨2, ![1, 1024]⟩
abbrev S256x1024 : Shape := ⟨2, ![256, 1024]⟩
abbrev S8x128x128 : Shape := ⟨3, ![8, 128, 128]⟩
abbrev S64x64 : Shape := ⟨2, ![64, 64]⟩
abbrev S64x1024 : Shape := ⟨2, ![64, 1024]⟩
abbrev S1x128 : Shape := ⟨2, ![1, 128]⟩
abbrev S128x128 : Shape := ⟨2, ![128, 128]⟩
abbrev S64x128 : Shape := ⟨2, ![64, 128]⟩
abbrev S256x128 : Shape := ⟨2, ![256, 128]⟩
abbrev S256x256 : Shape := ⟨2, ![256, 256]⟩
abbrev S128x256 : Shape := ⟨2, ![128, 256]⟩
abbrev S1x128x128 : Shape := ⟨3, ![1, 128, 128]⟩
abbrev S128 : Shape := ⟨1, ![128]⟩
abbrev S128x1 : Shape := ⟨2, ![128, 1]⟩

abbrev nBuf : Space → Nat
  | .hbm => 30
  | .vmem => 21
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S1024, .f32⟩
  | .hbm, ⟨9, _⟩ => ⟨S1024, .f32⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S8192x1024, .bf16⟩
  | .hbm, ⟨27, _⟩ => ⟨S1x1024, .f32⟩
  | .hbm, ⟨28, _⟩ => ⟨S1x1024, .f32⟩
  | .hbm, ⟨29, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S8x128x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x4096x1024 : Shape := ⟨3, ![2, 4096, 1024]⟩
abbrev S1024 : Shape := ⟨1, ![1024]⟩
abbrev S_ : Shape := ⟨0, ![]⟩
abbrev S2x16x64x64 : Shape := ⟨4, ![2, 16, 64, 64]⟩
abbrev S2x4096x16x64 : Shape := ⟨4, ![2, 4096, 16, 64]⟩
abbrev S4096x2x16x64 : Shape := ⟨4, ![4096, 2, 16, 64]⟩
abbrev S1x2x16x64 : Shape := ⟨4, ![1, 2, 16, 64]⟩
abbrev S2x16x64 : Shape := ⟨3, ![2, 16, 64]⟩
abbrev S2x16x1x64 : Shape := ⟨4, ![2, 16, 1, 64]⟩
abbrev S2x16x64x1 : Shape := ⟨4, ![2, 16, 64, 1]⟩
abbrev S2x4096x16 : Shape := ⟨3, ![2, 4096, 16]⟩
abbrev S2x4096x16x1 : Shape := ⟨4, ![2, 4096, 16, 1]⟩
abbrev S1x1x1024 : Shape := ⟨3, ![1, 1, 1024]⟩
abbrev S8192x1024 : Shape := ⟨2, ![8192, 1024]⟩

abbrev nBuf : Space → Nat
  | .hbm => 130
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x4096x1024, .f32⟩
  | 3 => ⟨S2x4096x1024, .f32⟩
  | 4 => ⟨S2x4096x1024, .f32⟩
  | 5 => ⟨S2x4096x1024, .f32⟩
  | 6 => ⟨S2x4096x1024, .f32⟩
  | 7 => ⟨S2x4096x1024, .f32⟩
  | 8 => ⟨S1024, .f32⟩
  | 9 => ⟨S1024, .f32⟩
  | 10 => ⟨S2x4096x1024, .f32⟩
  | 11 => ⟨S_, .f32⟩
  | 12 => ⟨S2x16x64x64, .f32⟩
  | 13 => ⟨S2x4096x16x64, .f32⟩
  | 14 => ⟨S4096x2x16x64, .f32⟩
  | 15 => ⟨S2x4096x16x64, .f32⟩
  | 16 => ⟨S4096x2x16x64, .f32⟩
  | 17 => ⟨S2x4096x16x64, .f32⟩
  | 18 => ⟨S4096x2x16x64, .f32⟩
  | 19 => ⟨S2x4096x16x64, .f32⟩
  | 20 => ⟨S4096x2x16x64, .f32⟩
  | 21 => ⟨S2x4096x16x64, .f32⟩
  | 22 => ⟨S4096x2x16x64, .f32⟩
  | 23 => ⟨S2x4096x16x64, .f32⟩
  | 24 => ⟨S4096x2x16x64, .f32⟩
  | 25 => ⟨S_, .f32⟩
  | 26 => ⟨S4096x2x16x64, .f32⟩
  | 27 => ⟨S_, .i32⟩
  | 28 => ⟨S4096x2x16x64, .f32⟩
  | 29 => ⟨S4096x2x16x64, .f32⟩
  | 30 => ⟨S4096x2x16x64, .f32⟩
  | 31 => ⟨S4096x2x16x64, .f32⟩
  | 32 => ⟨S4096x2x16x64, .f32⟩
  | 33 => ⟨S4096x2x16x64, .f32⟩
  | 34 => ⟨S_, .i32⟩
  | 35 => ⟨S2x16x64x64, .f32⟩
  | 36 => ⟨S4096x2x16x64, .f32⟩
  | 37 => ⟨S_, .i32⟩
  | 38 => ⟨S_, .i1⟩
  | 39 => ⟨S_, .i32⟩
  | 40 => ⟨S_, .i32⟩
  | 41 => ⟨S_, .i32⟩
  | 42 => ⟨S1x2x16x64, .f32⟩
  | 43 => ⟨S2x16x64, .f32⟩
  | 44 => ⟨S_, .i32⟩
  | 45 => ⟨S_, .i32⟩
  | 46 => ⟨S_, .i32⟩
  | 47 => ⟨S1x2x16x64, .f32⟩
  | 48 => ⟨S2x16x64, .f32⟩
  | 49 => ⟨S_, .i32⟩
  | 50 => ⟨S_, .i32⟩
  | 51 => ⟨S_, .i32⟩
  | 52 => ⟨S1x2x16x64, .f32⟩
  | 53 => ⟨S2x16x64, .f32⟩
  | 54 => ⟨S_, .i32⟩
  | 55 => ⟨S_, .i32⟩
  | 56 => ⟨S_, .i32⟩
  | 57 => ⟨S1x2x16x64, .f32⟩
  | 58 => ⟨S2x16x64, .f32⟩
  | 59 => ⟨S_, .i32⟩
  | 60 => ⟨S_, .i32⟩
  | 61 => ⟨S_, .i32⟩
  | 62 => ⟨S1x2x16x64, .f32⟩
  | 63 => ⟨S2x16x64, .f32⟩
  | 64 => ⟨S_, .i32⟩
  | 65 => ⟨S_, .i32⟩
  | 66 => ⟨S_, .i32⟩
  | 67 => ⟨S1x2x16x64, .f32⟩
  | 68 => ⟨S2x16x64, .f32⟩
  | 69 => ⟨S2x16x64, .f32⟩
  | 70 => ⟨S2x16x64, .f32⟩
  | 71 => ⟨S2x16x1x64, .f32⟩
  | 72 => ⟨S2x16x64x64, .f32⟩
  | 73 => ⟨S2x16x64x64, .f32⟩
  | 74 => ⟨S2x16x64x1, .f32⟩
  | 75 => ⟨S2x16x64, .f32⟩
  | 76 => ⟨S2x16x1x64, .f32⟩
  | 77 => ⟨S2x16x64x64, .f32⟩
  | 78 => ⟨S2x16x64x64, .f32⟩
  | 79 => ⟨S2x16x64x64, .f32⟩
  | 80 => ⟨S2x16x64x64, .f32⟩
  | 81 => ⟨S2x16x64x1, .f32⟩
  | 82 => ⟨S2x16x1x64, .f32⟩
  | 83 => ⟨S2x16x64x64, .f32⟩
  | 84 => ⟨S2x16x64x64, .f32⟩
  | 85 => ⟨S2x16x64x64, .f32⟩
  | 86 => ⟨S2x16x64x64, .f32⟩
  | 87 => ⟨S2x16x64, .f32⟩
  | 88 => ⟨S1x2x16x64, .f32⟩
  | 89 => ⟨S_, .i32⟩
  | 90 => ⟨S_, .i32⟩
  | 91 => ⟨S_, .i32⟩
  | 92 => ⟨S4096x2x16x64, .f32⟩
  | 93 => ⟨S_, .i32⟩
  | 94 => ⟨S_, .i32⟩
  | 95 => ⟨S2x4096x16x64, .f32⟩
  | 96 => ⟨S_, .f32⟩
  | 97 => ⟨S2x4096x16, .f32⟩
  | 98 => ⟨S2x4096x16x1, .f32⟩
  | 99 => ⟨S_, .f32⟩
  | 100 => ⟨S2x4096x16x1, .f32⟩
  | 101 => ⟨S2x4096x16x1, .f32⟩
  | 102 => ⟨S2x4096x16x64, .f32⟩
  | 103 => ⟨S2x4096x16x64, .f32⟩
  | 104 => ⟨S2x4096x16x64, .f32⟩
  | 105 => ⟨S_, .f32⟩
  | 106 => ⟨S2x4096x16, .f32⟩
  | 107 => ⟨S2x4096x16x1, .f32⟩
  | 108 => ⟨S_, .f32⟩
  | 109 => ⟨S2x4096x16x1, .f32⟩
  | 110 => ⟨S2x4096x16x1, .f32⟩
  | 111 => ⟨S2x4096x16x64, .f32⟩
  | 112 => ⟨S2x4096x16x64, .f32⟩
  | 113 => ⟨S_, .f32⟩
  | 114 => ⟨S2x4096x16x1, .f32⟩
  | 115 => ⟨S2x4096x16x1, .f32⟩
  | 116 => ⟨S2x4096x16x1, .f32⟩
  | 117 => ⟨S2x4096x16x64, .f32⟩
  | 118 => ⟨S2x4096x16x64, .f32⟩
  | 119 => ⟨S2x4096x1024, .f32⟩
  | 120 => ⟨S1x1x1024, .f32⟩
  | 121 => ⟨S2x4096x1024, .f32⟩
  | 122 => ⟨S2x4096x1024, .f32⟩
  | 123 => ⟨S1x1x1024, .f32⟩
  | 124 => ⟨S2x4096x1024, .f32⟩
  | 125 => ⟨S2x4096x1024, .f32⟩
  | 126 => ⟨S2x4096x1024, .f32⟩
  | 127 => ⟨S2x4096x1024, .f32⟩
  | _ => ⟨S2x4096x1024, .f32⟩

abbrev hbmTy0_1 (i : Nat) : BufTy := match i % 128 with
  | 0 => ⟨S8192x1024, .f32⟩
  | 1 => ⟨S8192x1024, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_c : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev main_v15_6 : Ref sig .tc := ⟨.hbm, 34, rfl⟩
abbrev main_v15_7 : Ref sig .tc := ⟨.hbm, 35, rfl⟩
abbrev main_v15_8 : Ref sig .tc := ⟨.hbm, 36, rfl⟩
abbrev main_while0c_c_14 : Ref sig .tc := ⟨.hbm, 37, rfl⟩
abbrev main_while0c_v46 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_v0 : Ref sig .tc := ⟨.hbm, 42, rfl⟩
abbrev main_while0b_v46 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_v0 : Ref sig .tc := ⟨.hbm, 47, rfl⟩
abbrev main_while0b_v47 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_v0 : Ref sig .tc := ⟨.hbm, 52, rfl⟩
abbrev main_while0b_v48 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_c_1 : Ref sig .tc := ⟨.hbm, 56, rfl⟩
abbrev main_while0b_call3_v0 : Ref sig .tc := ⟨.hbm, 57, rfl⟩
abbrev main_while0b_v49 : Ref sig .tc := ⟨.hbm, 58, rfl⟩
abbrev main_while0b_call4_c : Ref sig .tc := ⟨.hbm, 59, rfl⟩
abbrev main_while0b_call4_c_0 : Ref sig .tc := ⟨.hbm, 60, rfl⟩
abbrev main_while0b_call4_c_1 : Ref sig .tc := ⟨.hbm, 61, rfl⟩
abbrev main_while0b_call4_v0 : Ref sig .tc := ⟨.hbm, 62, rfl⟩
abbrev main_while0b_v50 : Ref sig .tc := ⟨.hbm, 63, rfl⟩
abbrev main_while0b_call5_c : Ref sig .tc := ⟨.hbm, 64, rfl⟩
abbrev main_while0b_call5_c_0 : Ref sig .tc := ⟨.hbm, 65, rfl⟩
abbrev main_while0b_call5_c_1 : Ref sig .tc := ⟨.hbm, 66, rfl⟩
abbrev main_while0b_call5_v0 : Ref sig .tc := ⟨.hbm, 67, rfl⟩
abbrev main_while0b_v51 : Ref sig .tc := ⟨.hbm, 68, rfl⟩
abbrev main_while0b_v52 : Ref sig .tc := ⟨.hbm, 69, rfl⟩
abbrev main_while0b_v53 : Ref sig .tc := ⟨.hbm, 70, rfl⟩
abbrev main_while0b_v54 : Ref sig .tc := ⟨.hbm, 71, rfl⟩
abbrev main_while0b_v55 : Ref sig .tc := ⟨.hbm, 72, rfl⟩
abbrev main_while0b_v56 : Ref sig .tc := ⟨.hbm, 73, rfl⟩
abbrev main_while0b_v57 : Ref sig .tc := ⟨.hbm, 74, rfl⟩
abbrev main_while0b_v58 : Ref sig .tc := ⟨.hbm, 75, rfl⟩
abbrev main_while0b_v59 : Ref sig .tc := ⟨.hbm, 76, rfl⟩
abbrev main_while0b_v60 : Ref sig .tc := ⟨.hbm, 77, rfl⟩
abbrev main_while0b_v61 : Ref sig .tc := ⟨.hbm, 78, rfl⟩
abbrev main_while0b_v62 : Ref sig .tc := ⟨.hbm, 79, rfl⟩
abbrev main_while0b_v63 : Ref sig .tc := ⟨.hbm, 80, rfl⟩
abbrev main_while0b_v64 : Ref sig .tc := ⟨.hbm, 81, rfl⟩
abbrev main_while0b_v65 : Ref sig .tc := ⟨.hbm, 82, rfl⟩
abbrev main_while0b_v66 : Ref sig .tc := ⟨.hbm, 83, rfl⟩
abbrev main_while0b_v67 : Ref sig .tc := ⟨.hbm, 84, rfl⟩
abbrev main_while0b_v68 : Ref sig .tc := ⟨.hbm, 85, rfl⟩
abbrev main_while0b_v69 : Ref sig .tc := ⟨.hbm, 86, rfl⟩
abbrev main_while0b_v70 : Ref sig .tc := ⟨.hbm, 87, rfl⟩
abbrev main_while0b_call6_v0 : Ref sig .tc := ⟨.hbm, 88, rfl⟩
abbrev main_while0b_call6_c : Ref sig .tc := ⟨.hbm, 89, rfl⟩
abbrev main_while0b_call6_c_0 : Ref sig .tc := ⟨.hbm, 90, rfl⟩
abbrev main_while0b_call6_c_1 : Ref sig .tc := ⟨.hbm, 91, rfl⟩
abbrev main_while0b_v71 : Ref sig .tc := ⟨.hbm, 92, rfl⟩
abbrev main_while0b_c_14 : Ref sig .tc := ⟨.hbm, 93, rfl⟩
abbrev main_while0b_v72 : Ref sig .tc := ⟨.hbm, 94, rfl⟩
abbrev main_v16 : Ref sig .tc := ⟨.hbm, 95, rfl⟩
abbrev main_cst_1 : Ref sig .tc := ⟨.hbm, 96, rfl⟩
abbrev main_v17 : Ref sig .tc := ⟨.hbm, 97, rfl⟩
abbrev main_v18 : Ref sig .tc := ⟨.hbm, 98, rfl⟩
abbrev main_cst_2 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_cst_3 : Ref sig .tc := ⟨.hbm, 105, rfl⟩
abbrev main_v24 : Ref sig .tc := ⟨.hbm, 106, rfl⟩
abbrev main_v25 : Ref sig .tc := ⟨.hbm, 107, rfl⟩
abbrev main_cst_4 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_cst_5 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S2x4096x2048 : Shape := ⟨3, ![2, 4096, 2048]⟩
abbrev S2048x5632 : Shape := ⟨2, ![2048, 5632]⟩
abbrev S8192x2048 : Shape := ⟨2, ![8192, 2048]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S8192x2048, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x4096x2048 : Shape := ⟨3, ![2, 4096, 2048]⟩
abbrev S2048x5632 : Shape := ⟨2, ![2048, 5632]⟩
abbrev S2x4096x5632 : Shape := ⟨3, ![2, 4096, 5632]⟩
abbrev S_ : Shape := ⟨0, ![]⟩
abbrev S8192x5632 : Shape := ⟨2, ![8192, 5632]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x5632, .f32⟩
  | .hbm, ⟨2, _⟩ => ⟨S2048x5632, .f32⟩
  | .hbm, ⟨3, _⟩ => ⟨S2x4096x5632, .f32⟩
  | .hbm, ⟨4, _⟩ => ⟨S2x4096x5632, .f32⟩
  | .hbm, ⟨5, _⟩ => ⟨S2x4096x5632, .f32⟩
  | .hbm, ⟨6, _⟩ => ⟨S_, .f32⟩
  | .hbm, ⟨7, _⟩ => ⟨S2x4096x5632, .f32⟩
  | .hbm, ⟨8, _⟩ => ⟨S2x4096x5632, .f32⟩
  | .hbm, ⟨9, _⟩ => ⟨S_, .f32⟩
  | .hbm, ⟨10, _⟩ => ⟨S2x4096x5632, .f32⟩
  | .hbm, ⟨11, _⟩ => ⟨S2x4096x5632, .f32⟩
  | .hbm, ⟨12, _⟩ => ⟨S2x4096x5632, .f32⟩
  | .hbm, ⟨13, _⟩ => ⟨S2x4096x5632, .f32⟩
  | .hbm, ⟨14, _⟩ => ⟨S2x4096x5632, .f32⟩
  | .hbm, ⟨15, _⟩ => ⟨S8192x5632, .f32⟩
  | .hbm, ⟨16, _⟩ => ⟨S8192x5632, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel3.lean ====
abbrev S2x4096x5632 : Shape := ⟨3, ![2, 4096, 5632]⟩
abbrev S5632x2048 : Shape := ⟨2, ![5632, 2048]⟩
abbrev S2x4096x2048 : Shape := ⟨3, ![2, 4096, 2048]⟩
abbrev S2x12288 : Shape := ⟨2, ![2, 12288]⟩
abbrev S8192x5632 : Shape := ⟨2, ![8192, 5632]⟩
abbrev S8192x2048 : Shape := ⟨2, ![8192, 2048]⟩
abbrev S12x1x2048 : Shape := ⟨3, ![12, 1, 2048]⟩
abbrev S512x5632 : Shape := ⟨2, ![512, 5632]⟩
abbrev S5632x512 : Shape := ⟨2, ![5632, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 9
  | .vmem => 11
  | .smem => 0
  | _ => 0

abbrev bufTy : (tb : Table) → Fin (tcTables nBuf tb) → BufTy
  | .hbm, ⟨0, _⟩ => ⟨S2x4096x5632, .f32⟩
  | .hbm, ⟨1, _⟩ => ⟨S5632x2048, .f32⟩
  | .hbm, ⟨2, _⟩ => ⟨S2x4096x2048, .f32⟩
  | .hbm, ⟨3, _⟩ => ⟨S2x12288, .f32⟩
  | .hbm, ⟨4, _⟩ => ⟨S8192x5632, .f32⟩
  | .hbm, ⟨5, _⟩ => ⟨S8192x5632, .bf16⟩
  | .hbm, ⟨6, _⟩ => ⟨S8192x2048, .f32⟩
  | .hbm, ⟨7, _⟩ => ⟨S12x1x2048, .f32⟩
  | .hbm, ⟨8, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S5632x512, .bf16⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  ![v18.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S2x4096x5632 : Shape := ⟨3, ![2, 4096, 5632]⟩
abbrev S5632x2048 : Shape := ⟨2, ![5632, 2048]⟩
abbrev S2x4096x2048 : Shape := ⟨3, ![2, 4096, 2048]⟩
abbrev S2x12288 : Shape := ⟨2, ![2, 12288]⟩
abbrev S2x1x12288 : Shape := ⟨3, ![2, 1, 12288]⟩
abbrev S2x1x2048 : Shape := ⟨3, ![2, 1, 2048]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S5632x2048, .f32⟩
  | .hbm, ⟨2, _⟩ => ⟨S2x4096x2048, .f32⟩
  | .hbm, ⟨3, _⟩ => ⟨S2x12288, .f32⟩
  | .hbm, ⟨4, _⟩ => ⟨S2x1x12288, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S8192x2048, .f32⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel4.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S2x12288 : Shape := ⟨2, ![2, 12288]⟩
abbrev S2048 : Shape := ⟨1, ![2048]⟩
abbrev S8192x1024 : Shape := ⟨2, ![8192, 1024]⟩
abbrev S8192x2048 : Shape := ⟨2, ![8192, 2048]⟩
abbrev S12x1x2048 : Shape := ⟨3, ![12, 1, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 15
  | .vmem => 21
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x2048, .f32⟩
  | .hbm, ⟨3, _⟩ => ⟨S2x4096x2048, .f32⟩
  | .hbm, ⟨4, _⟩ => ⟨S2x12288, .f32⟩
  | .hbm, ⟨5, _⟩ => ⟨S2048, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S8192x2048, .f32⟩
  | .hbm, ⟨11, _⟩ => ⟨S12x1x2048, .f32⟩
  | .hbm, ⟨12, _⟩ => ⟨S1x2048, .f32⟩
  | .hbm, ⟨13, _⟩ => ⟨S8192x2048, .f32⟩
  | .hbm, ⟨14, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .f32⟩
  | .local _ .vmem, ⟨5, _⟩ => ⟨S1024x2048, .f32⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | .local _ .vmem, ⟨19, _⟩ => ⟨S1024x2048, .bf16⟩
  | .local _ .vmem, ⟨20, _⟩ => ⟨S1024x2048, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S2x4096x1024 : Shape := ⟨3, ![2, 4096, 1024]⟩
abbrev S2048x2048 : Shape := ⟨2, ![2048, 2048]⟩
abbrev S2x4096x2048 : Shape := ⟨3, ![2, 4096, 2048]⟩
abbrev S2x12288 : Shape := ⟨2, ![2, 12288]⟩
abbrev S2048 : Shape := ⟨1, ![2048]⟩
abbrev S2x1x12288 : Shape := ⟨3, ![2, 1, 12288]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2048x2048, .f32⟩
  | .hbm, ⟨3, _⟩ => ⟨S2x4096x2048, .f32⟩
  | .hbm, ⟨4, _⟩ => ⟨S2x12288, .f32⟩
  | .hbm, ⟨5, _⟩ => ⟨S2048, .f32⟩
  | .hbm, ⟨6, _⟩ => ⟨S2x1x12288, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x2048, .f32⟩
  | .hbm, ⟨30, _⟩ => ⟨S2x4096x2048, .f32⟩
  | .hbm, ⟨31, _⟩ => ⟨S1x1x2048, .f32⟩
  | .hbm, ⟨32, _⟩ => ⟨S2x4096x2048, .f32⟩
  | .hbm, ⟨33, _⟩ => ⟨S2x4096x2048, .f32⟩
  | .hbm, ⟨34, _⟩ => ⟨S_, .f32⟩
  | .hbm, ⟨35, _⟩ => ⟨S2x1x2048, .f32⟩
  | .hbm, ⟨36, _⟩ => ⟨S2x1x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel5.lean ====
abbrev S2x4096x2048 : Shape := ⟨3, ![2, 4096, 2048]⟩
abbrev S2048x7696 : Shape := ⟨2, ![2048, 7696]⟩
abbrev S8192x2048 : Shape := ⟨2, ![8192, 2048]⟩
abbrev S7696x2048 : Shape := ⟨2, ![7696, 2048]⟩
abbrev S8192x3072 : Shape := ⟨2, ![8192, 3072]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S8192x2048, .f32⟩
  | .hbm, ⟨3, _⟩ => ⟨S8192x2048, .bf16⟩
  | .hbm, ⟨4, _⟩ => ⟨S7696x2048, .f32⟩
  | .hbm, ⟨5, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let c4176_i32 : BitVec 32 := 4176#32
  let arg0 : BitVec 32 := BitVec.ofNat 32 (i 0).val
  let c1024_i32 : BitVec 32 := 1024#32
  let v0 : BitVec 32 := Scalar.muli arg0 c1024_i32
  let v1 : BitVec 32 := Scalar.addi c4176_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4176_i32 : BitVec 32 := 4176#32
  let v1 : BitVec 32 := Scalar.addi c4176_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2x4096x2048 : Shape := ⟨3, ![2, 4096, 2048]⟩
abbrev S2048x7696 : Shape := ⟨2, ![2048, 7696]⟩
abbrev S2x4096x7696 : Shape := ⟨3, ![2, 4096, 7696]⟩
abbrev S2x4096x3072 : Shape := ⟨3, ![2, 4096, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S2x4096x7696, .f32⟩
  | .hbm, ⟨3, _⟩ => ⟨S2x4096x3072, .f32⟩
  | .hbm, ⟨4, _⟩ => ⟨S8192x3072, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2x4096x2048 : Shape := ⟨3, ![2, 4096, 2048]⟩
abbrev S2048x7696 : Shape := ⟨2, ![2048, 7696]⟩
abbrev S_ : Shape := ⟨0, ![]⟩
abbrev S8x1 : Shape := ⟨2, ![8, 1]⟩
abbrev S8192x2048 : Shape := ⟨2, ![8192, 2048]⟩
abbrev S7696x2048 : Shape := ⟨2, ![7696, 2048]⟩
abbrev S1x8192 : Shape := ⟨2, ![1, 8192]⟩
abbrev S8x16x144x512 : Shape := ⟨4, ![8, 16, 144, 512]⟩
abbrev S1024x2048 : Shape := ⟨2, ![1024, 2048]⟩
abbrev S1x1024 : Shape := ⟨2, ![1, 1024]⟩
abbrev S8x2x144x512 : Shape := ⟨4, ![8, 2, 144, 512]⟩
abbrev S1024x1024 : Shape := ⟨2, ![1024, 1024]⟩
abbrev S16x512 : Shape := ⟨2, ![16, 512]⟩
abbrev S128x512 : Shape := ⟨2, ![128, 512]⟩
abbrev S1x1x128x512 : Shape := ⟨4, ![1, 1, 128, 512]⟩
abbrev S1x1x16x512 : Shape := ⟨4, ![1, 1, 16, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S_, .f32⟩
  | .hbm, ⟨3, _⟩ => ⟨S8x1, .f32⟩
  | .hbm, ⟨4, _⟩ => ⟨S8192x2048, .f32⟩
  | .hbm, ⟨5, _⟩ => ⟨S8192x2048, .bf16⟩
  | .hbm, ⟨6, _⟩ => ⟨S7696x2048, .f32⟩
  | .hbm, ⟨7, _⟩ => ⟨S_, .i32⟩
  | .hbm, ⟨8, _⟩ => ⟨S1x8192, .i32⟩
  | .hbm, ⟨9, _⟩ => ⟨S8x16x144x512, .bf16⟩
  | .local _ .vmem, ⟨0, _⟩ => ⟨S1024x2048, .f32⟩
  | .local _ .vmem, ⟨1, _⟩ => ⟨S1024x2048, .bf16⟩
  | .local _ .vmem, ⟨2, _⟩ => ⟨S1024x2048, .bf16⟩
  | .local _ .vmem, ⟨3, _⟩ => ⟨S1x1024, .i32⟩
  | .local _ .vmem, ⟨4, _⟩ => ⟨S1x1024, .i32⟩
  | .local _ .vmem, ⟨5, _⟩ => ⟨S8x1, .f32⟩
  | .local _ .vmem, ⟨6, _⟩ => ⟨S8x1, .f32⟩
  | .local _ .vmem, ⟨7, _⟩ => ⟨S8x2x144x512, .bf16⟩
  | .local _ .vmem, ⟨8, _⟩ => ⟨S8x2x144x512, .bf16⟩
  | .local _ .vmem, ⟨9, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2048_i32 : BitVec 32 := 2048#32
  let c0_i32 : BitVec 32 := 0#32
  let c0_i32_0 : BitVec 32 := 0#32
  ![c2048_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x2x144x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2x4096x2048 : Shape := ⟨3, ![2, 4096, 2048]⟩
abbrev S2048x7696 : Shape := ⟨2, ![2048, 7696]⟩
abbrev S2x4096x7696 : Shape := ⟨3, ![2, 4096, 7696]⟩
abbrev S2x4096x1024 : Shape := ⟨3, ![2, 4096, 1024]⟩
abbrev S8192x8x128 : Shape := ⟨3, ![8192, 8, 128]⟩
abbrev S_ : Shape := ⟨0, ![]⟩
abbrev S8192x8x1 : Shape := ⟨3, ![8192, 8, 1]⟩
abbrev S8192x8x15 : Shape := ⟨3, ![8192, 8, 15]⟩
abbrev S8192x8x144 : Shape := ⟨3, ![8192, 8, 144]⟩
abbrev S16x512x8x144 : Shape := ⟨4, ![16, 512, 8, 144]⟩
abbrev S8x16x144x512 : Shape := ⟨4, ![8, 16, 144, 512]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S2x4096x7696, .f32⟩
  | .hbm, ⟨3, _⟩ => ⟨S2x4096x1024, .f32⟩
  | .hbm, ⟨4, _⟩ => ⟨S8192x8x128, .f32⟩
  | .hbm, ⟨5, _⟩ => ⟨S_, .f32⟩
  | .hbm, ⟨6, _⟩ => ⟨S8192x8x1, .f32⟩
  | .hbm, ⟨7, _⟩ => ⟨S_, .f32⟩
  | .hbm, ⟨8, _⟩ => ⟨S8192x8x15, .f32⟩
  | .hbm, ⟨9, _⟩ => ⟨S8192x8x144, .f32⟩
  | .hbm, ⟨10, _⟩ => ⟨S16x512x8x144, .f32⟩
  | .hbm, ⟨11, _⟩ => ⟨S8x16x144x512, .f32⟩
  | .hbm, ⟨12, _⟩ => ⟨S8x16x144x512, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S2x4096x2048 : Shape := ⟨3, ![2, 4096, 2048]⟩
abbrev S2048x7696 : Shape := ⟨2, ![2048, 7696]⟩
abbrev S128 : Shape := ⟨1, ![128]⟩
abbrev S2x4096 : Shape := ⟨2, ![2, 4096]⟩
abbrev S8192x2048 : Shape := ⟨2, ![8192, 2048]⟩
abbrev S7696x2048 : Shape := ⟨2, ![7696, 2048]⟩
abbrev S1x8192 : Shape := ⟨2, ![1, 8192]⟩
abbrev S128x1 : Shape := ⟨2, ![128, 1]⟩
abbrev S16 : Shape := ⟨1, ![16]⟩
abbrev S_ : Shape := ⟨0, ![]⟩
abbrev S16x1 : Shape := ⟨2, ![16, 1]⟩
abbrev S8192x1024 : Shape := ⟨2, ![8192, 1024]⟩
abbrev S1024x2048 : Shape := ⟨2, ![1024, 2048]⟩
abbrev S1x1024 : Shape := ⟨2, ![1, 1024]⟩
abbrev S1024x1024 : Shape := ⟨2, ![1024, 1024]⟩
abbrev S16x1024 : Shape := ⟨2, ![16, 1024]⟩
abbrev S128x1024 : Shape := ⟨2, ![128, 1024]⟩
abbrev S1024 : Shape := ⟨1, ![1024]⟩
abbrev S96x1024 : Shape := ⟨2, ![96, 1024]⟩
abbrev S1024x128 : Shape := ⟨2, ![1024, 128]⟩

abbrev nBuf : Space → Nat
  | .hbm => 19
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S128, .f32⟩
  | .hbm, ⟨3, _⟩ => ⟨S2x4096, .i32⟩
  | .hbm, ⟨4, _⟩ => ⟨S8192x2048, .f32⟩
  | .hbm, ⟨5, _⟩ => ⟨S8192x2048, .bf16⟩
  | .hbm, ⟨6, _⟩ => ⟨S7696x2048, .f32⟩
  | .hbm, ⟨7, _⟩ => ⟨S1x8192, .i32⟩
  | .hbm, ⟨8, _⟩ => ⟨S128x1, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S8192x1024, .bf16⟩
  | .local _ .vmem, ⟨0, _⟩ => ⟨S1024x2048, .f32⟩
  | .local _ .vmem, ⟨1, _⟩ => ⟨S1024x2048, .bf16⟩
  | .local _ .vmem, ⟨2, _⟩ => ⟨S1024x2048, .bf16⟩
  | .local _ .vmem, ⟨3, _⟩ => ⟨S1x1024, .i32⟩
  | .local _ .vmem, ⟨4, _⟩ => ⟨S1x1024, .i32⟩
  | .local _ .vmem, ⟨5, _⟩ => ⟨S128x1, .f32⟩
  | .local _ .vmem, ⟨6, _⟩ => ⟨S16x1, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1024_i32 : BitVec 32 := 1024#32
  let c0_i32 : BitVec 32 := 0#32
  let c0_i32_0 : BitVec 32 := 0#32
  ![c1024_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S2x4096x2048 : Shape := ⟨3, ![2, 4096, 2048]⟩
abbrev S2048x7696 : Shape := ⟨2, ![2048, 7696]⟩
abbrev S128 : Shape := ⟨1, ![128]⟩
abbrev S2x4096 : Shape := ⟨2, ![2, 4096]⟩
abbrev S2x4096x7696 : Shape := ⟨3, ![2, 4096, 7696]⟩
abbrev S2x4096x1024 : Shape := ⟨3, ![2, 4096, 1024]⟩
abbrev S2x4096x8x128 : Shape := ⟨4, ![2, 4096, 8, 128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S16 : Shape := ⟨1, ![16]⟩
abbrev S2x4096x1 : Shape := ⟨3, ![2, 4096, 1]⟩
abbrev S1x1x16 : Shape := ⟨3, ![1, 1, 16]⟩
abbrev S2x4096x16 : Shape := ⟨3, ![2, 4096, 16]⟩
abbrev S2x4096x1x16 : Shape := ⟨4, ![2, 4096, 1, 16]⟩
abbrev S2x4096x8x32 : Shape := ⟨4, ![2, 4096, 8, 32]⟩
abbrev S2x4096x8x16 : Shape := ⟨4, ![2, 4096, 8, 16]⟩
abbrev S2x4096x8x96 : Shape := ⟨4, ![2, 4096, 8, 96]⟩
abbrev S8192x1024 : Shape := ⟨2, ![8192, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S128, .f32⟩
  | .hbm, ⟨3, _⟩ => ⟨S2x4096, .i32⟩
  | .hbm, ⟨4, _⟩ => ⟨S2x4096x7696, .f32⟩
  | .hbm, ⟨5, _⟩ => ⟨S2x4096x1024, .f32⟩
  | .hbm, ⟨6, _⟩ => ⟨S2x4096x8x128, .f32⟩
  | .hbm, ⟨7, _⟩ => ⟨S2x4096x8x128, .f32⟩
  | .hbm, ⟨8, _⟩ => ⟨S_, .f32⟩
  | .hbm, ⟨9, _⟩ => ⟨S2x4096x8, .f32⟩
  | .hbm, ⟨10, _⟩ => ⟨S2x4096x8x1, .f32⟩
  | .hbm, ⟨11, _⟩ => ⟨S_, .f32⟩
  | .hbm, ⟨12, _⟩ => ⟨S2x4096x8x1, .f32⟩
  | .hbm, ⟨13, _⟩ => ⟨S2x4096x8x1, .f32⟩
  | .hbm, ⟨14, _⟩ => ⟨S_, .f32⟩
  | .hbm, ⟨15, _⟩ => ⟨S2x4096x8x1, .f32⟩
  | .hbm, ⟨16, _⟩ => ⟨S2x4096x8x1, .f32⟩
  | .hbm, ⟨17, _⟩ => ⟨S2x4096x8x1, .f32⟩
  | .hbm, ⟨18, _⟩ => ⟨S2x4096x8x128, .f32⟩
  | .hbm, ⟨19, _⟩ => ⟨S2x4096x8x128, .f32⟩
  | .hbm, ⟨20, _⟩ => ⟨S1x1x1x128, .f32⟩
  | .hbm, ⟨21, _⟩ => ⟨S2x4096x8x128, .f32⟩
  | .hbm, ⟨22, _⟩ => ⟨S2x4096x8x128, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S2x4096, .f32⟩
  | .hbm, ⟨32, _⟩ => ⟨S2x4096x1, .f32⟩
  | .hbm, ⟨33, _⟩ => ⟨S1x1x16, .f32⟩
  | .hbm, ⟨34, _⟩ => ⟨S2x4096x16, .f32⟩
  | .hbm, ⟨35, _⟩ => ⟨S2x4096x16, .f32⟩
  | .hbm, ⟨36, _⟩ => ⟨S2x4096x16, .f32⟩
  | .hbm, ⟨37, _⟩ => ⟨S2x4096x16, .f32⟩
  | .hbm, ⟨38, _⟩ => ⟨S2x4096x1x16, .f32⟩
  | .hbm, ⟨39, _⟩ => ⟨S2x4096x16, .f32⟩
  | .hbm, ⟨40, _⟩ => ⟨S2x4096x1x16, .f32⟩
  | .hbm, ⟨41, _⟩ => ⟨S2x4096x8x32, .f32⟩
  | .hbm, ⟨42, _⟩ => ⟨S2x4096x8x16, .f32⟩
  | .hbm, ⟨43, _⟩ => ⟨S2x4096x8x16, .f32⟩
  | .hbm, ⟨44, _⟩ => ⟨S2x4096x8x16, .f32⟩
  | .hbm, ⟨45, _⟩ => ⟨S2x4096x8x16, .f32⟩
  | .hbm, ⟨46, _⟩ => ⟨S2x4096x8x16, .f32⟩
  | .hbm, ⟨47, _⟩ => ⟨S2x4096x8x16, .f32⟩
  | .hbm, ⟨48, _⟩ => ⟨S2x4096x8x16, .f32⟩
  | .hbm, ⟨49, _⟩ => ⟨S2x4096x8x16, .f32⟩
  | .hbm, ⟨50, _⟩ => ⟨S2x4096x8x16, .f32⟩
  | .hbm, ⟨51, _⟩ => ⟨S2x4096x8x16, .f32⟩
  | .hbm, ⟨52, _⟩ => ⟨S2x4096x8x16, .f32⟩
  | .hbm, ⟨53, _⟩ => ⟨S2x4096x8x16, .f32⟩
  | .hbm, ⟨54, _⟩ => ⟨S2x4096x8x32, .f32⟩
  | .hbm, ⟨55, _⟩ => ⟨S2x4096x8x96, .f32⟩
  | .hbm, ⟨56, _⟩ => ⟨S2x4096x8x128, .f32⟩
  | .hbm, ⟨57, _⟩ => ⟨S8192x1024, .f32⟩
  | .hbm, ⟨58, _⟩ => ⟨S8192x1024, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel8.lean ====
abbrev S2x4096x2048 : Shape := ⟨3, ![2, 4096, 2048]⟩
abbrev S2048x7696 : Shape := ⟨2, ![2048, 7696]⟩
abbrev S128 : Shape := ⟨1, ![128]⟩
abbrev S2x4096 : Shape := ⟨2, ![2, 4096]⟩
abbrev S8192x2048 : Shape := ⟨2, ![8192, 2048]⟩
abbrev S7696x2048 : Shape := ⟨2, ![7696, 2048]⟩
abbrev S1x8192 : Shape := ⟨2, ![1, 8192]⟩
abbrev S128x1 : Shape := ⟨2, ![128, 1]⟩
abbrev S16 : Shape := ⟨1, ![16]⟩
abbrev S_ : Shape := ⟨0, ![]⟩
abbrev S16x1 : Shape := ⟨2, ![16, 1]⟩
abbrev S8x128x8192 : Shape := ⟨3, ![8, 128, 8192]⟩
abbrev S1024x2048 : Shape := ⟨2, ![1024, 2048]⟩
abbrev S1x1024 : Shape := ⟨2, ![1, 1024]⟩
abbrev S8x128x1024 : Shape := ⟨3, ![8, 128, 1024]⟩
abbrev S1024x1024 : Shape := ⟨2, ![1024, 1024]⟩
abbrev S16x1024 : Shape := ⟨2, ![16, 1024]⟩
abbrev S128x1024 : Shape := ⟨2, ![128, 1024]⟩
abbrev S1024 : Shape := ⟨1, ![1024]⟩
abbrev S96x1024 : Shape := ⟨2, ![96, 1024]⟩
abbrev S1x128x1024 : Shape := ⟨3, ![1, 128, 1024]⟩

abbrev nBuf : Space → Nat
  | .hbm => 19
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S128, .f32⟩
  | .hbm, ⟨3, _⟩ => ⟨S2x4096, .i32⟩
  | .hbm, ⟨4, _⟩ => ⟨S8192x2048, .f32⟩
  | .hbm, ⟨5, _⟩ => ⟨S8192x2048, .bf16⟩
  | .hbm, ⟨6, _⟩ => ⟨S7696x2048, .f32⟩
  | .hbm, ⟨7, _⟩ => ⟨S1x8192, .i32⟩
  | .hbm, ⟨8, _⟩ => ⟨S128x1, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S8x128x8192, .bf16⟩
  | .local _ .vmem, ⟨0, _⟩ => ⟨S1024x2048, .f32⟩
  | .local _ .vmem, ⟨1, _⟩ => ⟨S1024x2048, .bf16⟩
  | .local _ .vmem, ⟨2, _⟩ => ⟨S1024x2048, .bf16⟩
  | .local _ .vmem, ⟨3, _⟩ => ⟨S1x1024, .i32⟩
  | .local _ .vmem, ⟨4, _⟩ => ⟨S1x1024, .i32⟩
  | .local _ .vmem, ⟨5, _⟩ => ⟨S128x1, .f32⟩
  | .local _ .vmem, ⟨6, _⟩ => ⟨S16x1, .f32⟩
  | .local _ .vmem, ⟨7, _⟩ => ⟨S8x128x1024, .bf16⟩
  | .local _ .vmem, ⟨8, _⟩ => ⟨S8x128x1024, .bf16⟩
  | .local _ .vmem, ⟨9, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S2x4096x2048 : Shape := ⟨3, ![2, 4096, 2048]⟩
abbrev S2048x7696 : Shape := ⟨2, ![2048, 7696]⟩
abbrev S128 : Shape := ⟨1, ![128]⟩
abbrev S2x4096 : Shape := ⟨2, ![2, 4096]⟩
abbrev S2x4096x7696 : Shape := ⟨3, ![2, 4096, 7696]⟩
abbrev S2x4096x1024 : Shape := ⟨3, ![2, 4096, 1024]⟩
abbrev S2x4096x8x128 : Shape := ⟨4, ![2, 4096, 8, 128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S16 : Shape := ⟨1, ![16]⟩
abbrev S2x4096x1 : Shape := ⟨3, ![2, 4096, 1]⟩
abbrev S1x1x16 : Shape := ⟨3, ![1, 1, 16]⟩
abbrev S2x4096x16 : Shape := ⟨3, ![2, 4096, 16]⟩
abbrev S2x4096x1x16 : Shape := ⟨4, ![2, 4096, 1, 16]⟩
abbrev S2x4096x8x32 : Shape := ⟨4, ![2, 4096, 8, 32]⟩
abbrev S2x4096x8x16 : Shape := ⟨4, ![2, 4096, 8, 16]⟩
abbrev S2x4096x8x96 : Shape := ⟨4, ![2, 4096, 8, 96]⟩
abbrev S8192x8x128 : Shape := ⟨3, ![8192, 8, 128]⟩
abbrev S8x128x8192 : Shape := ⟨3, ![8, 128, 8192]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S128, .f32⟩
  | .hbm, ⟨3, _⟩ => ⟨S2x4096, .i32⟩
  | .hbm, ⟨4, _⟩ => ⟨S2x4096x7696, .f32⟩
  | .hbm, ⟨5, _⟩ => ⟨S2x4096x1024, .f32⟩
  | .hbm, ⟨6, _⟩ => ⟨S2x4096x8x128, .f32⟩
  | .hbm, ⟨7, _⟩ => ⟨S2x4096x8x128, .f32⟩
  | .hbm, ⟨8, _⟩ => ⟨S_, .f32⟩
  | .hbm, ⟨9, _⟩ => ⟨S2x4096x8, .f32⟩
  | .hbm, ⟨10, _⟩ => ⟨S2x4096x8x1, .f32⟩
  | .hbm, ⟨11, _⟩ => ⟨S_, .f32⟩
  | .hbm, ⟨12, _⟩ => ⟨S2x4096x8x1, .f32⟩
  | .hbm, ⟨13, _⟩ => ⟨S2x4096x8x1, .f32⟩
  | .hbm, ⟨14, _⟩ => ⟨S_, .f32⟩
  | .hbm, ⟨15, _⟩ => ⟨S2x4096x8x1, .f32⟩
  | .hbm, ⟨16, _⟩ => ⟨S2x4096x8x1, .f32⟩
  | .hbm, ⟨17, _⟩ => ⟨S2x4096x8x1, .f32⟩
  | .hbm, ⟨18, _⟩ => ⟨S2x4096x8x128, .f32⟩
  | .hbm, ⟨19, _⟩ => ⟨S2x4096x8x128, .f32⟩
  | .hbm, ⟨20, _⟩ => ⟨S1x1x1x128, .f32⟩
  | .hbm, ⟨21, _⟩ => ⟨S2x4096x8x128, .f32⟩
  | .hbm, ⟨22, _⟩ => ⟨S2x4096x8x128, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S2x4096, .f32⟩
  | .hbm, ⟨32, _⟩ => ⟨S2x4096x1, .f32⟩
  | .hbm, ⟨33, _⟩ => ⟨S1x1x16, .f32⟩
  | .hbm, ⟨34, _⟩ => ⟨S2x4096x16, .f32⟩
  | .hbm, ⟨35, _⟩ => ⟨S2x4096x16, .f32⟩
  | .hbm, ⟨36, _⟩ => ⟨S2x4096x16, .f32⟩
  | .hbm, ⟨37, _⟩ => ⟨S2x4096x16, .f32⟩
  | .hbm, ⟨38, _⟩ => ⟨S2x4096x1x16, .f32⟩
  | .hbm, ⟨39, _⟩ => ⟨S2x4096x16, .f32⟩
  | .hbm, ⟨40, _⟩ => ⟨S2x4096x1x16, .f32⟩
  | .hbm, ⟨41, _⟩ => ⟨S2x4096x8x32, .f32⟩
  | .hbm, ⟨42, _⟩ => ⟨S2x4096x8x16, .f32⟩
  | .hbm, ⟨43, _⟩ => ⟨S2x4096x8x16, .f32⟩
  | .hbm, ⟨44, _⟩ => ⟨S2x4096x8x16, .f32⟩
  | .hbm, ⟨45, _⟩ => ⟨S2x4096x8x16, .f32⟩
  | .hbm, ⟨46, _⟩ => ⟨S2x4096x8x16, .f32⟩
  | .hbm, ⟨47, _⟩ => ⟨S2x4096x8x16, .f32⟩
  | .hbm, ⟨48, _⟩ => ⟨S2x4096x8x16, .f32⟩
  | .hbm, ⟨49, _⟩ => ⟨S2x4096x8x16, .f32⟩
  | .hbm, ⟨50, _⟩ => ⟨S2x4096x8x16, .f32⟩
  | .hbm, ⟨51, _⟩ => ⟨S2x4096x8x16, .f32⟩
  | .hbm, ⟨52, _⟩ => ⟨S2x4096x8x16, .f32⟩
  | .hbm, ⟨53, _⟩ => ⟨S2x4096x8x16, .f32⟩
  | .hbm, ⟨54, _⟩ => ⟨S2x4096x8x32, .f32⟩
  | .hbm, ⟨55, _⟩ => ⟨S2x4096x8x96, .f32⟩
  | .hbm, ⟨56, _⟩ => ⟨S2x4096x8x128, .f32⟩
  | .hbm, ⟨57, _⟩ => ⟨S_, .f32⟩
  | .hbm, ⟨58, _⟩ => ⟨S2x4096x8x128, .f32⟩
  | .hbm, ⟨59, _⟩ => ⟨S2x4096x8x128, .f32⟩
  | .hbm, ⟨60, _⟩ => ⟨S8192x8x128, .f32⟩
  | .hbm, ⟨61, _⟩ => ⟨S8x128x8192, .f32⟩
  | .hbm, ⟨62, _⟩ => ⟨S8x128x8192, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩

abbrev nD : Nat := 1
abbrev τ : Topo := Topo.v7x

variable {F : FTy → Type} [FloatOps F]
-- ==== Kernel9.lean ====
abbrev S2x4096x2048 : Shape := ⟨3, ![2, 4096, 2048]⟩
abbrev S2048x7696 : Shape := ⟨2, ![2048, 7696]⟩
abbrev S2x4096 : Shape := ⟨2, ![2, 4096]⟩
abbrev S_ : Shape := ⟨0, ![]⟩
abbrev S8x1 : Shape := ⟨2, ![8, 1]⟩
abbrev S8192x2048 : Shape := ⟨2, ![8192, 2048]⟩
abbrev S7696x2048 : Shape := ⟨2, ![7696, 2048]⟩
abbrev S1x8192 : Shape := ⟨2, ![1, 8192]⟩
abbrev S8 : Shape := ⟨1, ![8]⟩
abbrev S8x128x8192 : Shape := ⟨3, ![8, 128, 8192]⟩
abbrev S8192x128 : Shape := ⟨2, ![8192, 128]⟩
abbrev S16x8192 : Shape := ⟨2, ![16, 8192]⟩
abbrev S1152x2048 : Shape := ⟨2, ![1152, 2048]⟩
abbrev S1024x2048 : Shape := ⟨2, ![1024, 2048]⟩
abbrev S1x1024 : Shape := ⟨2, ![1, 1024]⟩
abbrev S8x128x1024 : Shape := ⟨3, ![8, 128, 1024]⟩
abbrev S1024x128 : Shape := ⟨2, ![1024, 128]⟩
abbrev S16x1024 : Shape := ⟨2, ![16, 1024]⟩
abbrev S1152x1024 : Shape := ⟨2, ![1152, 1024]⟩
abbrev S8x1024 : Shape := ⟨2, ![8, 1024]⟩
abbrev S64x1024 : Shape := ⟨2, ![64, 1024]⟩
abbrev S48x1024 : Shape := ⟨2, ![48, 1024]⟩
abbrev S1x64x1024 : Shape := ⟨3, ![1, 64, 1024]⟩
abbrev S128x1024 : Shape := ⟨2, ![128, 1024]⟩

abbrev nBuf : Space → Nat
  | .hbm => 21
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S2x4096, .i32⟩
  | .hbm, ⟨3, _⟩ => ⟨S_, .f32⟩
  | .hbm, ⟨4, _⟩ => ⟨S8x1, .f32⟩
  | .hbm, ⟨5, _⟩ => ⟨S8192x2048, .f32⟩
  | .hbm, ⟨6, _⟩ => ⟨S8192x2048, .bf16⟩
  | .hbm, ⟨7, _⟩ => ⟨S7696x2048, .f32⟩
  | .hbm, ⟨8, _⟩ => ⟨S1x8192, .i32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S8x128x8192, .bf16⟩
  | .hbm, ⟨19, _⟩ => ⟨S8192x128, .bf16⟩
  | .hbm, ⟨20, _⟩ => ⟨S16x8192, .f32⟩
  | .local _ .vmem, ⟨0, _⟩ => ⟨S1152x2048, .f32⟩
  | .local _ .vmem, ⟨1, _⟩ => ⟨S1024x2048, .bf16⟩
  | .local _ .vmem, ⟨2, _⟩ => ⟨S1024x2048, .bf16⟩
  | .local _ .vmem, ⟨3, _⟩ => ⟨S1x1024, .i32⟩
  | .local _ .vmem, ⟨4, _⟩ => ⟨S1x1024, .i32⟩
  | .local _ .vmem, ⟨5, _⟩ => ⟨S8x1, .f32⟩
  | .local _ .vmem, ⟨6, _⟩ => ⟨S8x1, .f32⟩
  | .local _ .vmem, ⟨7, _⟩ => ⟨S8x128x1024, .bf16⟩
  | .local _ .vmem, ⟨8, _⟩ => ⟨S8x128x1024, .bf16⟩
  | .local _ .vmem, ⟨9, _⟩ => ⟨S1024x128, .bf16⟩
  | .local _ .vmem, ⟨10, _⟩ => ⟨S1024x128, .bf16⟩
  | .local _ .vmem, ⟨11, _⟩ => ⟨S16x1024, .f32⟩
  | .local _ .vmem, ⟨12, _⟩ => ⟨S16x1024, .f32⟩
  | .local _ .vmem, ⟨13, _⟩ => ⟨S1152x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3072_i32 : BitVec 32 := 3072#32
  let c0_i32 : BitVec 32 := 0#32
  let c0_i32_0 : BitVec 32 := 0#32
  ![c3072_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S2x4096x2048 : Shape := ⟨3, ![2, 4096, 2048]⟩
abbrev S2048x7696 : Shape := ⟨2, ![2048, 7696]⟩
abbrev S2x4096 : Shape := ⟨2, ![2, 4096]⟩
abbrev S2x4096x7696 : Shape := ⟨3, ![2, 4096, 7696]⟩
abbrev S2x4096x1024 : Shape := ⟨3, ![2, 4096, 1024]⟩
abbrev S2x4096x16x64 : Shape := ⟨4, ![2, 4096, 16, 64]⟩
abbrev S8 : Shape := ⟨1, ![8]⟩
abbrev S_ : Shape := ⟨0, ![]⟩
abbrev S2x4096x1 : Shape := ⟨3, ![2, 4096, 1]⟩
abbrev S1x1x8 : Shape := ⟨3, ![1, 1, 8]⟩
abbrev S2x4096x8 : Shape := ⟨3, ![2, 4096, 8]⟩
abbrev S2x4096x1x8 : Shape := ⟨4, ![2, 4096, 1, 8]⟩
abbrev S2x4096x16x16 : Shape := ⟨4, ![2, 4096, 16, 16]⟩
abbrev S2x4096x16x8 : Shape := ⟨4, ![2, 4096, 16, 8]⟩
abbrev S2x4096x16x48 : Shape := ⟨4, ![2, 4096, 16, 48]⟩
abbrev S2x4096x64 : Shape := ⟨3, ![2, 4096, 64]⟩
abbrev S2x4096x1x64 : Shape := ⟨4, ![2, 4096, 1, 64]⟩
abbrev S2x4096x1x16 : Shape := ⟨4, ![2, 4096, 1, 16]⟩
abbrev S2x4096x1x48 : Shape := ⟨4, ![2, 4096, 1, 48]⟩
abbrev S2x4096x128 : Shape := ⟨3, ![2, 4096, 128]⟩
abbrev S2x4096x16 : Shape := ⟨3, ![2, 4096, 16]⟩
abbrev S8192x8x128 : Shape := ⟨3, ![8192, 8, 128]⟩
abbrev S8x128x8192 : Shape := ⟨3, ![8, 128, 8192]⟩
abbrev S8192x128 : Shape := ⟨2, ![8192, 128]⟩
abbrev S8192x16 : Shape := ⟨2, ![8192, 16]⟩
abbrev S16x8192 : Shape := ⟨2, ![16, 8192]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x7696, .f32⟩
  | .hbm, ⟨2, _⟩ => ⟨S2x4096, .i32⟩
  | .hbm, ⟨3, _⟩ => ⟨S2x4096x7696, .f32⟩
  | .hbm, ⟨4, _⟩ => ⟨S2x4096x1024, .f32⟩
  | .hbm, ⟨5, _⟩ => ⟨S2x4096x16x64, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S2x4096, .f32⟩
  | .hbm, ⟨15, _⟩ => ⟨S2x4096x1, .f32⟩
  | .hbm, ⟨16, _⟩ => ⟨S1x1x8, .f32⟩
  | .hbm, ⟨17, _⟩ => ⟨S2x4096x8, .f32⟩
  | .hbm, ⟨18, _⟩ => ⟨S2x4096x8, .f32⟩
  | .hbm, ⟨19, _⟩ => ⟨S2x4096x8, .f32⟩
  | .hbm, ⟨20, _⟩ => ⟨S2x4096x8, .f32⟩
  | .hbm, ⟨21, _⟩ => ⟨S2x4096x1x8, .f32⟩
  | .hbm, ⟨22, _⟩ => ⟨S2x4096x8, .f32⟩
  | .hbm, ⟨23, _⟩ => ⟨S2x4096x1x8, .f32⟩
  | .hbm, ⟨24, _⟩ => ⟨S2x4096x16x16, .f32⟩
  | .hbm, ⟨25, _⟩ => ⟨S2x4096x16x8, .f32⟩
  | .hbm, ⟨26, _⟩ => ⟨S2x4096x16x8, .f32⟩
  | .hbm, ⟨27, _⟩ => ⟨S2x4096x16x8, .f32⟩
  | .hbm, ⟨28, _⟩ => ⟨S2x4096x16x8, .f32⟩
  | .hbm, ⟨29, _⟩ => ⟨S2x4096x16x8, .f32⟩
  | .hbm, ⟨30, _⟩ => ⟨S2x4096x16x8, .f32⟩
  | .hbm, ⟨31, _⟩ => ⟨S2x4096x16x8, .f32⟩
  | .hbm, ⟨32, _⟩ => ⟨S2x4096x16x8, .f32⟩
  | .hbm, ⟨33, _⟩ => ⟨S2x4096x16x8, .f32⟩
  | .hbm, ⟨34, _⟩ => ⟨S2x4096x16x8, .f32⟩
  | .hbm, ⟨35, _⟩ => ⟨S2x4096x16x8, .f32⟩
  | .hbm, ⟨36, _⟩ => ⟨S2x4096x16x8, .f32⟩
  | .hbm, ⟨37, _⟩ => ⟨S2x4096x16x16, .f32⟩
  | .hbm, ⟨38, _⟩ => ⟨S2x4096x16x48, .f32⟩
  | .hbm, ⟨39, _⟩ => ⟨S2x4096x16x64, .f32⟩
  | .hbm, ⟨40, _⟩ => ⟨S_, .f32⟩
  | .hbm, ⟨41, _⟩ => ⟨S2x4096x16x64, .f32⟩
  | .hbm, ⟨42, _⟩ => ⟨S2x4096x16x64, .f32⟩
  | .hbm, ⟨43, _⟩ => ⟨S2x4096x64, .f32⟩
  | .hbm, ⟨44, _⟩ => ⟨S2x4096x1x64, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S2x4096, .f32⟩
  | .hbm, ⟨54, _⟩ => ⟨S2x4096x1, .f32⟩
  | .hbm, ⟨55, _⟩ => ⟨S1x1x8, .f32⟩
  | .hbm, ⟨56, _⟩ => ⟨S2x4096x8, .f32⟩
  | .hbm, ⟨57, _⟩ => ⟨S2x4096x8, .f32⟩
  | .hbm, ⟨58, _⟩ => ⟨S2x4096x8, .f32⟩
  | .hbm, ⟨59, _⟩ => ⟨S2x4096x8, .f32⟩
  | .hbm, ⟨60, _⟩ => ⟨S2x4096x1x8, .f32⟩
  | .hbm, ⟨61, _⟩ => ⟨S2x4096x8, .f32⟩
  | .hbm, ⟨62, _⟩ => ⟨S2x4096x1x8, .f32⟩
  | .hbm, ⟨63, _⟩ => ⟨S2x4096x1x16, .f32⟩
  | .hbm, ⟨64, _⟩ => ⟨S2x4096x1x8, .f32⟩
  | .hbm, ⟨65, _⟩ => ⟨S2x4096x1x8, .f32⟩
  | .hbm, ⟨66, _⟩ => ⟨S2x4096x1x8, .f32⟩
  | .hbm, ⟨67, _⟩ => ⟨S2x4096x1x8, .f32⟩
  | .hbm, ⟨68, _⟩ => ⟨S2x4096x1x8, .f32⟩
  | .hbm, ⟨69, _⟩ => ⟨S2x4096x1x8, .f32⟩
  | .hbm, ⟨70, _⟩ => ⟨S2x4096x1x8, .f32⟩
  | .hbm, ⟨71, _⟩ => ⟨S2x4096x1x8, .f32⟩
  | .hbm, ⟨72, _⟩ => ⟨S2x4096x1x16, .f32⟩
  | .hbm, ⟨73, _⟩ => ⟨S2x4096x1x48, .f32⟩
  | .hbm, ⟨74, _⟩ => ⟨S2x4096x1x64, .f32⟩
  | .hbm, ⟨75, _⟩ => ⟨S2x4096x64, .f32⟩
  | .hbm, ⟨76, _⟩ => ⟨S2x4096x64, .f32⟩
  | .hbm, ⟨77, _⟩ => ⟨S2x4096x128, .f32⟩
  | .hbm, ⟨78, _⟩ => ⟨S2x4096x16, .f32⟩
  | .hbm, ⟨79, _⟩ => ⟨S_, .f32⟩
  | .hbm, ⟨80, _⟩ => ⟨S2x4096x16, .f32⟩
  | .hbm, ⟨81, _⟩ => ⟨S2x4096x16, .f32⟩
  | .hbm, ⟨82, _⟩ => ⟨S8192x8x128, .f32⟩
  | .hbm, ⟨83, _⟩ => ⟨S8x128x8192, .f32⟩
  | .hbm, ⟨84, _⟩ => ⟨S8x128x8192, .bf16⟩
  | .hbm, ⟨85, _⟩ => ⟨S8192x128, .f32⟩
  | .hbm, ⟨86, _⟩ => ⟨S8192x128, .bf16⟩
  | .hbm, ⟨87, _⟩ => ⟨S8192x16, .f32⟩
  | .hbm, ⟨88, _⟩ => ⟨S16x8192, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_4 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩

abbrev nD : Nat := 1
abbrev τ : Topo := Topo.v7x

variable {F : FTy → Type} [FloatOps F]
-- ==== Proof.Chain.lean ====
/-
  One chunk of 64 steps for one pair of heads, as the kernel computes it: definitions over any float
  arithmetic, operation for operation. The kernel's body runs these for 4 chunks of each of 8 pairs.

  A pair of heads sits in 128 lanes. A `stacked` operand has 128 rows: the chunk's 64 steps with the
  first head's lanes kept, then the same steps with the second head's lanes kept, zero elsewhere.
-/
module

public import proofs.«01_k».proof.Proof.Gen.KernelIdeal

@[expose] public section

noncomputable section

namespace RwkvCore

open Idealize.ShloMosaic Cert.KernelIdeal Cert.KernelIdeal.Gen

variable {F : FTy → Type} [FloatOps F]

/-! ## What one chunk makes of its rows of all the lanes -/

/-- Ones on and below the diagonal. -/
def tri : FVec F S64x64 .bf16 :=
  truncf .bf16 (select (cmpi .sle (iota .tc S64x64 32 [1] iota_S64x64_d1_w32) (iota .tc S64x64 32 [0] iota_S64x64_d0_w32))
    (broadcast S64x64 (Scalar.ofBits .f32 0x3F800000#32 : F .f32))
    (broadcast S64x64 (Scalar.ofBits .f32 0x00000000#32 : F .f32))) bitsLt_bf16_f32

/-- A product with the triangle of ones: a running sum over the steps. -/
def running (x : FVec F S64x1024 .bf16) : FVec F S64x1024 .f32 :=
  matmul dot_S64x64_S64x1024_S64x1024_1_0_0_1_n_n none (tri (F := F)) x (constant S64x1024 .f32 0x00000000#32)

/-- The log decays as read. -/
def logs (lw : Vec F S64x1024 .f32) : FVec F S64x1024 .f32 := shapeCast S64x1024 lw shapeCasts_S64x1024_S64x1024

/-- The log decays rounded once. -/
def logHi (lw : Vec F S64x1024 .f32) : FVec F S64x1024 .bf16 := truncf .bf16 (logs lw) bitsLt_bf16_f32

/-- What the first rounding leaves. -/
def logRem (lw : Vec F S64x1024 .f32) : FVec F S64x1024 .f32 :=
  subf (logs lw) (extf .f32 (logHi lw) bitsLt_bf16_f32)

/-- That rounded. -/
def logMid (lw : Vec F S64x1024 .f32) : FVec F S64x1024 .bf16 := truncf .bf16 (logRem lw) bitsLt_bf16_f32

/-- What is left of that, rounded. -/
def logLo (lw : Vec F S64x1024 .f32) : FVec F S64x1024 .bf16 :=
  truncf .bf16 (subf (logRem lw) (extf .f32 (logMid lw) bitsLt_bf16_f32)) bitsLt_bf16_f32

/-- The running sums of the log decays, from their three rounded parts. -/
def logSum (lw : Vec F S64x1024 .f32) : FVec F S64x1024 .f32 :=
  addf (addf (running (logHi lw)) (running (logMid lw))) (running (logLo lw))

/-- The decay through each step. -/
def decayIn (lw : Vec F S64x1024 .f32) : FVec F S64x1024 .f32 := exp (logSum lw)
/-- The decay before each step. -/
def decayEx (lw : Vec F S64x1024 .f32) : FVec F S64x1024 .f32 := exp (subf (logSum lw) (logs lw))
/-- The inverse decay through each step. -/
def decayInv (lw : Vec F S64x1024 .f32) : FVec F S64x1024 .f32 :=
  exp (subf (broadcast S64x1024 (Scalar.ofBits .f32 0x00000000#32 : F .f32)) (logSum lw))
/-- The decay through the whole chunk. -/
def decayEnd (lw : Vec F S64x1024 .f32) : FVec F S1x1024 .f32 :=
  extractStridedSlice S1x1024 ![63, 0] (decayIn lw) slices_S64x1024_o63_0_S1x1024

/-- A chunk of a bf16 operand, widened. -/
def wide (x : Vec F S64x1024 .bf16) : FVec F S64x1024 .f32 :=
  extf .f32 (shapeCast S64x1024 x shapeCasts_S64x1024_S64x1024 : FVec F S64x1024 .bf16) bitsLt_bf16_f32

/-- An operand with the decays divided out. -/
def hatInv (lw : Vec F S64x1024 .f32) (x : Vec F S64x1024 .bf16) : FVec F S64x1024 .f32 := mulf (wide x) (decayInv lw)
/-- The removal keys, negated, under the decay before their steps. -/
def hatA (lw : Vec F S64x1024 .f32) (kk : Vec F S64x1024 .bf16) : FVec F S64x1024 .f32 :=
  mulf (subf (broadcast S64x1024 (Scalar.ofBits .f32 0x00000000#32 : F .f32)) (wide kk)) (decayEx lw)
/-- The receptances under the decay through their steps. -/
def hatR (lw : Vec F S64x1024 .f32) (r : Vec F S64x1024 .bf16) : FVec F S64x1024 .f32 := mulf (wide r) (decayIn lw)
/-- An operand under the decay from its step to the chunk's end. -/
def hatEnd (lw : Vec F S64x1024 .f32) (x : Vec F S64x1024 .bf16) : FVec F S64x1024 .f32 :=
  mulf (hatInv lw x) (broadcastTo S64x1024 (decayEnd lw) broadcasts_S1x1024_S64x1024)

/-! ## Masks -/

/-- The first head's lanes. -/
def head0 : IVec S1x128 1 := cmpi .slt (iota .tc S1x128 32 [1] iota_S1x128_d1_w32) (broadcast S1x128 64#32)
/-- Row numbers. -/
def rowNo : IVec S128x128 32 := iota .tc S128x128 32 [0] iota_S128x128_d0_w32
/-- Lane numbers. -/
def laneNo : IVec S128x128 32 := iota .tc S128x128 32 [1] iota_S128x128_d1_w32
/-- Row and lane of one head. -/
def own : IVec S128x128 1 :=
  xori (xori (cmpi .sge rowNo (broadcast S128x128 64#32)) (cmpi .sge laneNo (broadcast S128x128 64#32)))
    (constantI S128x128 1 1#1)
/-- One head, and the lane strictly before the row. -/
def strict : IVec S128x128 1 := andi own (cmpi .slt laneNo rowNo)
/-- One head, and the lane not after the row. -/
def incl : IVec S128x128 1 := andi own (cmpi .sle laneNo rowNo)
/-- The diagonal. -/
def eye : IVec S128x128 1 := cmpi .eq rowNo laneNo

/-! ## One chunk of one pair of heads -/

/-- A zero matrix. -/
def zeros : FVec F S128x128 .f32 := broadcast S128x128 (Scalar.ofBits .f32 0x00000000#32 : F .f32)

/-- The two heads' rows stacked. -/
def stacked (x : FVec F S64x128 .f32) : FVec F S128x128 .f32 :=
  concatenate S128x128 0
    [⟨S64x128, select (broadcastTo S64x128 (shapeCast S1x128 head0 shapeCasts_S1x128_S1x128) broadcasts_S1x128_S64x128) x
        (broadcast S64x128 (Scalar.ofBits .f32 0x00000000#32 : F .f32))⟩,
     ⟨S64x128, select (broadcastTo S64x128 (shapeCast S1x128 head0 shapeCasts_S1x128_S1x128) broadcasts_S1x128_S64x128)
        (broadcast S64x128 (Scalar.ofBits .f32 0x00000000#32 : F .f32)) x⟩] concatenates_S64x128_S64x128_S128x128_d0

/-- Rounded to bf16. -/
def narrow {s : Shape} (x : FVec F s .f32) : FVec F s .bf16 := truncf .bf16 x bitsLt_bf16_f32

/-- A product of two square matrices. -/
def dot (x y : FVec F S128x128 .bf16) : FVec F S128x128 .f32 :=
  matmul dot_S128x128_S128x128_S128x128_1_0_0_1_n_n none x y (constant S128x128 .f32 0x00000000#32)
/-- A product contracting both first axes. -/
def dotT (x y : FVec F S128x128 .bf16) : FVec F S128x128 .f32 :=
  matmul dot_S128x128_S128x128_S128x128_0_0_1_1_n_n none x y (constant S128x128 .f32 0x00000000#32)

/-- The eight stacked operands of one chunk of one pair, and the decay through the chunk. -/
structure Operands (F : FTy → Type) [FloatOps F] where
  /-- removal keys -/
  a : FVec F S128x128 .f32
  /-- receptances -/
  r : FVec F S128x128 .f32
  /-- values -/
  v : FVec F S128x128 .f32
  /-- replacement keys, decays divided out -/
  b : FVec F S128x128 .f32
  /-- keys, decays divided out -/
  k : FVec F S128x128 .f32
  /-- replacement keys, decayed to the end -/
  bEnd : FVec F S128x128 .f32
  /-- keys, decayed to the end -/
  kEnd : FVec F S128x128 .f32
  /-- decay through the chunk -/
  pEnd : FVec F S1x128 .f32

variable (s : Operands F)

/-- All products of the removal keys and receptances with the replacement keys and keys. -/
def gram : FVec F S256x256 .f32 :=
  matmul dot_S256x128_S256x128_S256x256_1_1_0_0_n_n none
    (narrow (concatenate S256x128 0 [⟨S128x128, s.a⟩, ⟨S128x128, s.r⟩] concatenates_S128x128_S128x128_S256x128_d0))
    (narrow (concatenate S256x128 0 [⟨S128x128, s.b⟩, ⟨S128x128, s.k⟩] concatenates_S128x128_S128x128_S256x128_d0))
    (constant S256x256 .f32 0x00000000#32)

/-- A matrix where the mask holds, zero elsewhere, rounded. -/
def masked (mask : IVec S128x128 1) (x : FVec F S128x128 .f32) : FVec F S128x128 .bf16 := narrow (select mask x zeros)

/-- Removal keys against replacement keys, earlier steps. -/
def gAB : FVec F S128x128 .bf16 := masked strict (extractStridedSlice S128x128 ![0, 0] (gram s) slices_S256x256_o0_0_S128x128)
/-- Receptances against replacement keys, steps up to the row's. -/
def gRB : FVec F S128x128 .bf16 := masked incl (extractStridedSlice S128x128 ![128, 0] (gram s) slices_S256x256_o128_0_S128x128)
/-- Receptances against keys, steps up to the row's. -/
def gRK : FVec F S128x128 .bf16 := masked incl (extractStridedSlice S128x128 ![128, 128] (gram s) slices_S256x256_o128_128_S128x128)
/-- Removal keys against keys, earlier steps. -/
def gAK : FVec F S128x128 .bf16 := masked strict (extractStridedSlice S128x128 ![0, 128] (gram s) slices_S256x256_o0_128_S128x128)

/-- Rotated by half the lanes. -/
def turn (x : FVec F S128x128 .f32) : FVec F S128x128 .f32 := dynamicRotate 1 64#32 none x rotates_S128x128_d1
/-- The lanes of the row's own head. -/
def keepOwn (x : FVec F S128x128 .f32) : FVec F S128x128 .f32 := select own x zeros
/-- The lanes of the other head, moved to the row's own. -/
def turnOff (x : FVec F S128x128 .f32) : FVec F S128x128 .f32 := turn (select own zeros x)

/-- The right-hand side: the removal keys in each row's own lanes, what the keys bring in the other lanes. -/
def rhs : FVec F S128x128 .f32 := addf s.a (turn (dot (gAK s) (narrow s.v)))

/-- The matrix times itself and times the right-hand side. -/
def doubled (p : FVec F S128x128 .bf16) (x : FVec F S128x128 .f32) : FVec F S128x256 .f32 :=
  matmul dot_S128x128_S128x256_S128x256_1_0_0_1_n_n none p
    (concatenate S128x256 1 [⟨S128x128, p⟩, ⟨S128x128, narrow x⟩] concatenates_S128x128_S128x128_S128x256_d1)
    (constant S128x256 .f32 0x00000000#32)
/-- The matrix doubled. -/
def doubledP (p : FVec F S128x128 .bf16) (x : FVec F S128x128 .f32) : FVec F S128x128 .bf16 :=
  narrow (extractStridedSlice S128x128 ![0, 0] (doubled p x) slices_S128x256_o0_0_S128x128)
/-- The right-hand side doubled. -/
def doubledX (p : FVec F S128x128 .bf16) (x : FVec F S128x128 .f32) : FVec F S128x128 .f32 :=
  addf x (extractStridedSlice S128x128 ![0, 128] (doubled p x) slices_S128x256_o0_128_S128x128)
/-- The matrix and the right-hand side doubled, as a pair. -/
def doubledPX (px : FVec F S128x128 .bf16 × FVec F S128x128 .f32) : FVec F S128x128 .bf16 × FVec F S128x128 .f32 :=
  (doubledP px.1 px.2, doubledX px.1 px.2)

/-- The pair after each of the five first doublings. -/
def px0 : FVec F S128x128 .bf16 × FVec F S128x128 .f32 := (gAB s, rhs s)
/-- After one. -/
def px1 : FVec F S128x128 .bf16 × FVec F S128x128 .f32 := doubledPX (px0 s)
/-- After two. -/
def px2 : FVec F S128x128 .bf16 × FVec F S128x128 .f32 := doubledPX (px1 s)
/-- After three. -/
def px3 : FVec F S128x128 .bf16 × FVec F S128x128 .f32 := doubledPX (px2 s)
/-- After four. -/
def px4 : FVec F S128x128 .bf16 × FVec F S128x128 .f32 := doubledPX (px3 s)
/-- After five. -/
def px5 : FVec F S128x128 .bf16 × FVec F S128x128 .f32 := doubledPX (px4 s)
/-- The solution: six doublings. -/
def sol : FVec F S128x128 .f32 := addf (px5 s).2 (dot (px5 s).1 (narrow (px5 s).2))

/-- The receptances against the solution. -/
def rSol : FVec F S128x128 .f32 := dot (gRB s) (narrow (sol s))
/-- What the chunk's own values give each step's output. -/
def outVal : FVec F S128x128 .f32 := addf (turnOff (rSol s)) (dot (gRK s) (narrow s.v))
/-- The replacement keys at the end against the solution. -/
def bSol : FVec F S128x128 .f32 := dotT (narrow s.bEnd) (narrow (sol s))
/-- What the chunk's keys and values leave in the state. -/
def kVal : FVec F S128x128 .f32 := dotT (narrow s.kEnd) (narrow s.v)
/-- What the start state gives each step's output. -/
def qMat : FVec F S128x128 .f32 := addf s.r (keepOwn (rSol s))
/-- What becomes of the start state. -/
def mMat : FVec F S128x128 .f32 :=
  addf (keepOwn (bSol s)) (select eye
    (broadcastTo S128x128 (shapeCast S1x128 s.pEnd shapeCasts_S1x128_S1x128) broadcasts_S1x128_S128x128) zeros)

/-- Both applied to the start state. -/
def applied (z : Vec F S1x128x128 .f32) : FVec F S256x128 .f32 :=
  matmul dot_S256x128_S128x128_S256x128_1_0_0_1_n_n none
    (narrow (concatenate S256x128 0 [⟨S128x128, qMat s⟩, ⟨S128x128, mMat s⟩] concatenates_S128x128_S128x128_S256x128_d0))
    (narrow (shapeCast S128x128 z shapeCasts_S1x128x128_S128x128))
    (constant S256x128 .f32 0x00000000#32)

/-- The state after the chunk. -/
def nextState (z : Vec F S1x128x128 .f32) : FVec F S1x128x128 .f32 :=
  shapeCast S1x128x128 (addf (addf (extractStridedSlice S128x128 ![128, 0] (applied s z) slices_S256x128_o128_0_S128x128)
    (turnOff (bSol s))) (kVal s)) shapeCasts_S128x128_S1x128x128

/-- The recurrence's outputs of the chunk, stacked. -/
def outRows (z : Vec F S1x128x128 .f32) : FVec F S128x128 .f32 :=
  addf (extractStridedSlice S128x128 ![0, 0] (applied s z) slices_S256x128_o0_0_S128x128) (outVal s)

/-! ## The group norm and the gates -/

/-- A row's sum over the lanes, times 1/64, as a column. -/
def laneMean (x : FVec F S128x128 .f32) : FVec F S128x1 .f32 :=
  mulf (shapeCast S128x1 (multiReduction .add [1] S128 x 0x00000000#32 reduces_S128x128_S128 (.inl rfl) rfl) shapeCasts_S128_S128x1)
    (broadcast S128x1 (Scalar.ofBits .f32 0x3C800000#32 : F .f32))
/-- A column spread over the lanes. -/
def spread (x : FVec F S128x1 .f32) : FVec F S128x128 .f32 := broadcastTo S128x128 x broadcasts_S128x1_S128x128
/-- The deviations from the head's mean, in the row's own lanes. -/
def dev (o : FVec F S128x128 .f32) : FVec F S128x128 .f32 := select own (subf o (spread (laneMean o))) zeros
/-- The deviations over the square root of variance plus epsilon. -/
def normed (o : FVec F S128x128 .f32) : FVec F S128x128 .f32 :=
  mulf (dev o) (spread (rsqrt (addf (laneMean (mulf (dev o) (dev o)))
    (broadcast S128x1 (Scalar.ofBits .f32 0x3A27C5AC#32 : F .f32)))))
/-- The two stacked halves added. -/
def folded (y : FVec F S128x128 .f32) : FVec F S64x128 .f32 :=
  addf (extractStridedSlice S64x128 ![0, 0] y slices_S128x128_o0_0_S64x128)
    (extractStridedSlice S64x128 ![64, 0] y slices_S128x128_o64_0_S64x128)
/-- A weight row spread over the steps. -/
def overSteps (x : Vec F S1x128 .f32) : FVec F S64x128 .f32 :=
  broadcastTo S64x128 (shapeCast S1x128 x shapeCasts_S1x128_S1x128 : FVec F S1x128 .f32) broadcasts_S1x128_S64x128
/-- A bf16 operand's block, widened. -/
def wideP (x : Vec F S64x128 .bf16) : FVec F S64x128 .f32 :=
  extf .f32 (shapeCast S64x128 x shapeCasts_S64x128_S64x128 : FVec F S64x128 .bf16) bitsLt_bf16_f32

/-- The block of results: normalised, scaled and shifted, the bonus added, gated, rounded. -/
def outPiece (o : FVec F S128x128 .f32) (lg lb : Vec F S1x128 .f32) (bon g : Vec F S64x128 .bf16) : FVec F S64x128 .bf16 :=
  narrow (mulf (addf (addf (mulf (folded (normed o)) (overSteps lg)) (overSteps lb)) (wideP bon)) (wideP g))

/-! ## The operands of one pair out of a chunk -/

/-- The 128 lanes from `off`. -/
def lanesAt (off : ℕ) (h : S64x1024.Slices ![0, off] S64x128) (x : FVec F S64x1024 .f32) : FVec F S64x128 .f32 :=
  extractStridedSlice S64x128 ![0, off] x h

/-- The operands of the pair in the lanes from `off`, from the chunk's rows of the six arrays. -/
def operandsAt (off : ℕ) (h : S64x1024.Slices ![0, off] S64x128) (h1 : S1x1024.Slices ![0, off] S1x128)
    (r : Vec F S64x1024 .bf16) (lw : Vec F S64x1024 .f32) (k v kk bb : Vec F S64x1024 .bf16) : Operands F where
  a := stacked (lanesAt off h (hatA lw kk))
  r := stacked (lanesAt off h (hatR lw r))
  v := stacked (lanesAt off h (wide v))
  b := stacked (lanesAt off h (hatInv lw bb))
  k := stacked (lanesAt off h (hatInv lw k))
  bEnd := stacked (lanesAt off h (hatEnd lw bb))
  kEnd := stacked (lanesAt off h (hatEnd lw k))
  pEnd := extractStridedSlice S1x128 ![0, off] (decayEnd lw) h1

end RwkvCore

end
-- ==== Proof.Point.lean ====
/-
  What one grid point leaves: its blocks hold four chunks of 64 steps of eight lane pairs; chunk by chunk
  each pair's state goes on and a 64 × 128 tile of results is written.
-/
module

public import proofs.«01_k».proof.Proof.Chain
public import Idealize.ShloMosaic.Lib.Pipeline.ValueKit

@[expose] public section

set_option maxRecDepth 16384

noncomputable section

namespace RwkvCore

open Idealize.ShloMosaic Cert.KernelIdeal Cert.KernelIdeal.Gen

variable {F : FTy → Type} [FloatOps F]

/-- The blocks a grid point works on. -/
structure Blocks (F : FTy → Type) [FloatOps F] where
  r : Vec F S256x1024 .bf16
  lw : Vec F S256x1024 .f32
  k : Vec F S256x1024 .bf16
  v : Vec F S256x1024 .bf16
  kk : Vec F S256x1024 .bf16
  bb : Vec F S256x1024 .bf16
  g : Vec F S256x1024 .bf16
  bon : Vec F S256x1024 .bf16
  lg : Vec F S1x1024 .f32
  lb : Vec F S1x1024 .f32

theorem inb_rows (j : Fin 4) : ∀ a, (![64 * j.val, 0] : Fin 2 → ℕ) a + S64x1024.size a ≤ S256x1024.size a
  | ⟨0, _⟩ => by show 64 * j.val + 64 ≤ 256; omega
  | ⟨1, _⟩ => by show 0 + 1024 ≤ 1024; omega

theorem inb_tile (j : Fin 4) (p : Fin 8) :
    ∀ a, (![64 * j.val, 128 * p.val] : Fin 2 → ℕ) a + S64x128.size a ≤ S256x1024.size a
  | ⟨0, _⟩ => by show 64 * j.val + 64 ≤ 256; omega
  | ⟨1, _⟩ => by show 128 * p.val + 128 ≤ 1024; omega

theorem inb_lanes (p : Fin 8) : ∀ a, (![0, 128 * p.val] : Fin 2 → ℕ) a + S1x128.size a ≤ S1x1024.size a
  | ⟨0, _⟩ => by show 0 + 1 ≤ 1; omega
  | ⟨1, _⟩ => by show 128 * p.val + 128 ≤ 1024; omega

theorem inb_slab (p : Fin 8) : ∀ a, (![p.val, 0, 0] : Fin 3 → ℕ) a + S1x128x128.size a ≤ S8x128x128.size a
  | ⟨0, _⟩ => by show p.val + 1 ≤ 8; omega
  | ⟨1, _⟩ => by show 0 + 128 ≤ 128; omega
  | ⟨2, _⟩ => by show 0 + 128 ≤ 128; omega

theorem slices_pair (p : Fin 8) : S64x1024.Slices ![0, 128 * p.val] S64x128 :=
  ⟨rfl, fun a => match a with
    | ⟨0, _⟩ => by show 0 + 64 ≤ 64; omega
    | ⟨1, _⟩ => by show 128 * p.val + 128 ≤ 1024; omega⟩

theorem slices_pair1 (p : Fin 8) : S1x1024.Slices ![0, 128 * p.val] S1x128 :=
  ⟨rfl, fun a => match a with
    | ⟨0, _⟩ => by show 0 + 1 ≤ 1; omega
    | ⟨1, _⟩ => by show 128 * p.val + 128 ≤ 1024; omega⟩

/-- The rows of chunk `j`. -/
def rowsAt {φ : EltTy} (j : Fin 4) (x : S256x1024.Idx → Elt F φ) : S64x1024.Idx → Elt F φ :=
  View.ld x (Rect.unit ![64 * j.val, 0] S64x1024.size (inb_rows j))

/-- The tile of chunk `j` and pair `p`. -/
def tileAt {φ : EltTy} (j : Fin 4) (p : Fin 8) (x : S256x1024.Idx → Elt F φ) : S64x128.Idx → Elt F φ :=
  View.ld x (Rect.unit ![64 * j.val, 128 * p.val] S64x128.size (inb_tile j p))

/-- The lanes of pair `p` of a row. -/
def pairLanes {φ : EltTy} (p : Fin 8) (x : S1x1024.Idx → Elt F φ) : S1x128.Idx → Elt F φ :=
  View.ld x (Rect.unit ![0, 128 * p.val] S1x128.size (inb_lanes p))

/-- The state of pair `p` out of the eight. -/
def slabAt {φ : EltTy} (p : Fin 8) (x : S8x128x128.Idx → Elt F φ) : S1x128x128.Idx → Elt F φ :=
  View.ld x (Rect.unit ![p.val, 0, 0] S1x128x128.size (inb_slab p))

/-- The operands of chunk `j` and pair `p`. -/
def opsAt (X : Blocks F) (j : Fin 4) (p : Fin 8) : Operands F :=
  operandsAt (128 * p.val) (slices_pair p) (slices_pair1 p) (rowsAt j X.r) (rowsAt j X.lw) (rowsAt j X.k) (rowsAt j X.v)
    (rowsAt j X.kk) (rowsAt j X.bb)

/-- Pair `p`'s state before chunk `j`, from the eight states `z` before the point. -/
def carried (X : Blocks F) (z : Vec F S8x128x128 .f32) (p : Fin 8) : ℕ → Vec F S1x128x128 .f32
  | 0 => slabAt p z
  | j + 1 => nextState (opsAt X (Fin.ofNat 4 j) p) (carried X z p j)

/-- The tile of results of chunk `j` and pair `p`. -/
def tileOut (X : Blocks F) (z : Vec F S8x128x128 .f32) (j : Fin 4) (p : Fin 8) : FVec F S64x128 .bf16 :=
  outPiece (outRows (opsAt X j p) (carried X z p j.val)) (pairLanes p X.lg) (pairLanes p X.lb) (tileAt j p X.bon) (tileAt j p X.g)

/-- The chunk of the `n`-th last tile written. -/
def chunkOf (n : Fin 32) : Fin 4 := ⟨3 - n.val / 8, by omega⟩
/-- Its pair. -/
def pairOfTile (n : Fin 32) : Fin 8 := ⟨7 - n.val % 8, by omega⟩

/-- The tiles written, the last one first. -/
def outTiles (X : Blocks F) (z : Vec F S8x128x128 .f32) : List (View.Piece (Elt F) S256x1024 .bf16) :=
  List.ofFn fun n : Fin 32 => ⟨Rect.unit ![64 * (chunkOf n).val, 128 * (pairOfTile n).val] S64x128.size
    (inb_tile (chunkOf n) (pairOfTile n)), tileOut X z (chunkOf n) (pairOfTile n)⟩

/-- The states written in chunk `j`, the last one first. -/
def stateSlabs (X : Blocks F) (z : Vec F S8x128x128 .f32) (j : ℕ) : List (View.Piece (Elt F) S8x128x128 .f32) :=
  List.ofFn fun n : Fin 8 => ⟨Rect.unit ![(Fin.rev n).val, 0, 0] S1x128x128.size (inb_slab (Fin.rev n)),
    carried X z (Fin.rev n) (j + 1)⟩

end RwkvCore
-- ==== Proof.DeltaRule.lean ====
/-
  The recurrence of one head over the reals, and its closed form over a run of steps.

  One step multiplies the state by a decay per key channel, adds a rank-one correction read off the
  state, and adds the outer product of the step's key and value. With the decays' running products
  divided out, the state after `t` steps is the start state plus a sum over the earlier steps, and the
  read-offs `u` solve a unit lower triangular system. Nothing here mentions a program.
-/
module

public import Mathlib.Analysis.SpecialFunctions.Exp
public import Mathlib.Algebra.BigOperators.Intervals

@[expose] public section

noncomputable section

namespace RwkvCore

open Finset

variable {K V : Type} [Fintype K]

/-- The state after `t` steps from `z`: decay `exp lw`, correction along `b` by what `a` reads off the
    state, and the outer product of `k` and `v`. -/
def state (lw a b k : ℕ → K → ℝ) (v : ℕ → V → ℝ) (z : K → V → ℝ) : ℕ → K → V → ℝ
  | 0 => z
  | t + 1 => fun c d =>
      state lw a b k v z t c d * Real.exp (lw t c)
        + (∑ c', state lw a b k v z t c' d * a t c') * b t c + v t d * k t c

/-- The sum of the first `t` log decays. -/
def cum (lw : ℕ → K → ℝ) (t : ℕ) (c : K) : ℝ := ∑ s ∈ range t, lw s c

variable (lw a b k : ℕ → K → ℝ) (v : ℕ → V → ℝ) (z : K → V → ℝ)

/-- What `a` reads off the state before step `t`. -/
def readOff (t : ℕ) (d : V) : ℝ := ∑ c, state lw a b k v z t c d * a t c

/-- A vector of step `s` with the decays up to and including that step divided out. -/
def undecay (x : ℕ → K → ℝ) (s : ℕ) (c : K) : ℝ := x s c * Real.exp (-cum lw (s + 1) c)

theorem cum_succ (t : ℕ) (c : K) : cum lw (t + 1) c = cum lw t c + lw t c := by
  simp [cum, sum_range_succ]

/-- Splitting a run: the state after `s + t` steps is the state after `t` further steps of the later
    data from the state after `s`. -/
theorem state_add (s t : ℕ) :
    state lw a b k v z (s + t)
      = state (fun i => lw (s + i)) (fun i => a (s + i)) (fun i => b (s + i)) (fun i => k (s + i))
          (fun i => v (s + i)) (state lw a b k v z s) t := by
  induction t with
  | zero => rfl
  | succ t ih =>
    funext c d
    show state lw a b k v z (s + t + 1) c d = _
    rw [state, state, ih]

/-- The state after `t` steps: the decays' product times the start state plus the earlier steps'
    corrections and outer products, each with its own decays divided out. -/
theorem state_closed (t : ℕ) (c : K) (d : V) :
    state lw a b k v z t c d
      = Real.exp (cum lw t c) * (z c d + ∑ s ∈ range t,
          (undecay lw b s c * readOff lw a b k v z s d + undecay lw k s c * v s d)) := by
  induction t with
  | zero => simp [cum, state]
  | succ t ih =>
    have hu : (∑ c', state lw a b k v z t c' d * a t c') = readOff lw a b k v z t d := rfl
    have he : Real.exp (cum lw (t + 1) c) * Real.exp (-cum lw (t + 1) c) = 1 := by
      rw [← Real.exp_add]; simp
    show state lw a b k v z t c d * Real.exp (lw t c)
      + (∑ c', state lw a b k v z t c' d * a t c') * b t c + v t d * k t c = _
    rw [hu, ih, sum_range_succ]
    have hs : Real.exp (cum lw t c) * Real.exp (lw t c) = Real.exp (cum lw (t + 1) c) := by
      rw [cum_succ, Real.exp_add]
    simp only [undecay]
    linear_combination (z c d + ∑ s ∈ range t,
        (b s c * Real.exp (-cum lw (s + 1) c) * readOff lw a b k v z s d
          + k s c * Real.exp (-cum lw (s + 1) c) * v s d)) * hs
      - (b t c * readOff lw a b k v z t d + k t c * v t d) * he

/-- A read of the state after `t` steps by weights `x`, in terms of the start state and the earlier
    read-offs: the weights meet the state with the decays folded into them. -/
theorem read_closed (x : K → ℝ) (t : ℕ) (d : V) :
    ∑ c, state lw a b k v z t c d * x c
      = (∑ c, x c * Real.exp (cum lw t c) * z c d)
        + ∑ s ∈ range t,
          ((∑ c, x c * Real.exp (cum lw t c) * undecay lw b s c) * readOff lw a b k v z s d
            + (∑ c, x c * Real.exp (cum lw t c) * undecay lw k s c) * v s d) := by
  simp only [state_closed lw a b k v z t]
  simp only [sum_mul, mul_add, add_mul, sum_add_distrib, mul_sum]
  rw [sum_comm (s := range t), sum_comm (s := range t)]
  congr 1
  · exact sum_congr rfl fun c _ => by ring
  congr 1
  · exact sum_congr rfl fun c _ => sum_congr rfl fun s _ => by ring
  · exact sum_congr rfl fun c _ => sum_congr rfl fun s _ => by ring

/-- The triangular system has one solution: whatever satisfies, at each of the first `n` steps, the
    equation of the read-offs in terms of its own earlier values is the read-offs. -/
theorem readOff_unique (n : ℕ) (u : ℕ → V → ℝ)
    (hu : ∀ t < n, ∀ d, u t d
      = (∑ c, a t c * Real.exp (cum lw t c) * z c d)
        + ∑ s ∈ range t,
          ((∑ c, a t c * Real.exp (cum lw t c) * undecay lw b s c) * u s d
            + (∑ c, a t c * Real.exp (cum lw t c) * undecay lw k s c) * v s d)) :
    ∀ t < n, ∀ d, u t d = readOff lw a b k v z t d := by
  intro t
  induction t using Nat.strong_induction_on with
  | _ t ih =>
    intro ht d
    rw [hu t ht d, readOff, read_closed]
    congr 1
    refine sum_congr rfl fun s hs => ?_
    have hst := mem_range.1 hs
    rw [ih s hst (by omega) d]

end RwkvCore

end
-- ==== Proof.Triangular.lean ====
/-
  A unit lower triangular system of two heads stacked (rows and columns 0–63 the first head's 64 steps,
  64–127 the second's), solved by doublings: `X ← X + P X`, `P ← P P`, six times, solves `X = X₀ + N X`
  because `N`, strictly lower triangular within each head, has 64th power zero.
-/
module

public import Mathlib.Data.Matrix.Basic
public import Mathlib.Data.Matrix.Mul
public import Mathlib.Data.Real.Basic

@[expose] public section

noncomputable section

namespace RwkvCore

/-- Square matrices over the stacked steps (or lanes) of two heads. -/
abbrev Mat := Matrix (Fin 128) (Fin 128) ℝ

/-- One doubling of a matrix and of a right-hand side. -/
def double (px : Mat × Mat) : Mat × Mat := (px.1 * px.1, px.2 + px.1 * px.2)

/-- Six doublings of `x` under `n`. -/
def solve (n x : Mat) : Mat := (double^[6] (n, x)).2

/-- Zero off the strictly lower triangle of each head's block. -/
def StrictLower (n : Mat) : Prop :=
  ∀ i j : Fin 128, ¬ (i.val / 64 = j.val / 64 ∧ j.val < i.val) → n i j = 0

/-- An entry of the `m`-th power is zero unless its row is at least `m` steps below its column in one head. -/
theorem StrictLower.pow {n : Mat} (h : StrictLower n) (m : ℕ) (i j : Fin 128)
    (hij : ¬ (i.val / 64 = j.val / 64 ∧ j.val + m ≤ i.val)) : (n ^ m) i j = 0 := by
  induction m generalizing i j with
  | zero =>
    rw [pow_zero]
    refine Matrix.one_apply_ne fun e => hij ?_
    subst e
    exact ⟨rfl, le_refl _⟩
  | succ m ih =>
    rw [pow_succ, Matrix.mul_apply]
    refine Finset.sum_eq_zero fun l _ => ?_
    by_cases h1 : i.val / 64 = l.val / 64 ∧ l.val + m ≤ i.val
    · rw [h l j fun h2 => hij ⟨h1.1.trans h2.1, by omega⟩, mul_zero]
    · rw [ih i l h1, zero_mul]

/-- The 64th power is zero. -/
theorem StrictLower.pow_eq_zero {n : Mat} (h : StrictLower n) : n ^ 64 = 0 := by
  ext i j
  exact h.pow 64 i j (by have := i.isLt; omega)

/-- After `i` doublings the matrix is the `2^i`-th power, and `(1 - N) X = (1 - N^(2^i)) X₀`. -/
theorem double_iter (n x : Mat) (i : ℕ) :
    (double^[i] (n, x)).1 = n ^ (2 ^ i) ∧
      (1 - n) * (double^[i] (n, x)).2 = (1 - n ^ (2 ^ i)) * x := by
  induction i with
  | zero => simp
  | succ i ih =>
    rw [Function.iterate_succ_apply']
    obtain ⟨h1, h2⟩ := ih
    constructor
    · show (double^[i] (n, x)).1 * (double^[i] (n, x)).1 = _
      rw [h1, ← pow_add, pow_succ, mul_two]
    · show (1 - n) * ((double^[i] (n, x)).2 + (double^[i] (n, x)).1 * (double^[i] (n, x)).2) = _
      have hc : (1 - n) * n ^ (2 ^ i) = n ^ (2 ^ i) * (1 - n) := by
        rw [sub_mul, mul_sub, one_mul, mul_one, ← pow_succ, ← pow_succ']
      rw [mul_add, ← mul_assoc, h1, hc, mul_assoc, h2, ← mul_assoc, ← add_mul,
        mul_sub (n ^ 2 ^ i), mul_one, sub_add_sub_cancel, pow_succ, mul_two, pow_add]

/-- Six doublings solve the system. -/
theorem solve_eq {n : Mat} (h : StrictLower n) (x : Mat) : solve n x = x + n * solve n x := by
  have h6 := (double_iter n x 6).2
  rw [show 2 ^ 6 = 64 from rfl, h.pow_eq_zero, sub_zero, one_mul, sub_mul, one_mul] at h6
  show (double^[6] (n, x)).2 = x + n * (double^[6] (n, x)).2
  exact sub_eq_iff_eq_add.1 h6

end RwkvCore

end
-- ==== Proof.PairAlgebra.lean ====
/-
  One chunk of 64 steps of a pair of heads as matrix algebra over the reals.

  The two heads' steps are stacked to 128 rows and their channels sit in 128 lanes; a matrix belonging
  to the pair is zero unless row and lane belong to one head. The chunk's triangular system is solved
  once for two right-hand sides, one in each row's own lanes and one in the other head's lanes. The
  theorems say that the state and the outputs so computed are the recurrence's.
-/
module

public import proofs.«01_k».proof.Proof.DeltaRule
public import proofs.«01_k».proof.Proof.Triangular
public import Mathlib.Algebra.BigOperators.Fin

@[expose] public section

noncomputable section

namespace RwkvCore

open Finset Matrix

/-- Two of the 128 rows or lanes belong to one head. -/
abbrev Same (i j : Fin 128) : Prop := i.val / 64 = j.val / 64

/-- Row or lane `c` of head `h`. -/
def pos (h : Fin 2) (c : Fin 64) : Fin 128 := ⟨64 * h.val + c.val, by omega⟩
/-- The head of a row or lane. -/
def headOf (i : Fin 128) : Fin 2 := ⟨i.val / 64, by omega⟩
/-- The place of a row or lane in its head. -/
def inHead (i : Fin 128) : Fin 64 := ⟨i.val % 64, by omega⟩

@[simp] theorem headOf_pos (h : Fin 2) (c : Fin 64) : headOf (pos h c) = h := by
  ext; simp only [headOf, pos]; omega
@[simp] theorem inHead_pos (h : Fin 2) (c : Fin 64) : inHead (pos h c) = c := by
  ext; simp only [inHead, pos]; omega
theorem pos_headOf (i : Fin 128) : pos (headOf i) (inHead i) = i := by
  ext; simp only [headOf, inHead, pos]; omega
theorem same_pos (h h' : Fin 2) (c c' : Fin 64) : Same (pos h c) (pos h' c') ↔ h = h' := by
  rw [Fin.ext_iff]; simp only [Same, pos]; omega
theorem lt_pos (h : Fin 2) (c c' : Fin 64) : (pos h c).val < (pos h c').val ↔ c.val < c'.val := by
  simp only [pos]; omega
theorem le_pos (h : Fin 2) (c c' : Fin 64) : (pos h c).val ≤ (pos h c').val ↔ c.val ≤ c'.val := by
  simp only [pos]; omega

/-- Zero unless row and lane belong to one head. -/
def Own (m : Mat) : Prop := ∀ i j, ¬ Same i j → m i j = 0

/-- A sum over 128 lanes of a function that vanishes off one head is the sum over that head's lanes. -/
theorem sum_head (h : Fin 2) (f : Fin 128 → ℝ) (hf : ∀ j, headOf j ≠ h → f j = 0) :
    ∑ j, f j = ∑ c : Fin 64, f (pos h c) := by
  have hs : ∑ j : Fin (64 + 64), f j = ∑ c : Fin 64, f (pos 0 c) + ∑ c : Fin 64, f (pos 1 c) := by
    rw [Fin.sum_univ_add]
    congr 1
  rw [show ∑ j : Fin 128, f j = ∑ j : Fin (64 + 64), f j from rfl, hs]
  fin_cases h
  · have : ∀ c, f (pos 1 c) = 0 := fun c => hf _ (by simp)
    simp [this]
  · have : ∀ c, f (pos 0 c) = 0 := fun c => hf _ (by simp)
    simp [this]

/-- A product with a pair's matrix on the left, at an entry: only the row's own head contributes. -/
theorem mul_pos {m : Mat} (hm : Own m) (n : Mat) (h : Fin 2) (i : Fin 64) (j : Fin 128) :
    (m * n) (pos h i) j = ∑ c, m (pos h i) (pos h c) * n (pos h c) j := by
  rw [Matrix.mul_apply]
  refine sum_head h _ fun l hl => ?_
  rw [hm _ _ (fun e => hl ?_), zero_mul]
  rw [← headOf_pos h i]; exact Fin.ext e.symm

theorem Own.mul {m n : Mat} (hm : Own m) (hn : Own n) : Own (m * n) := by
  intro i j hij
  rw [Matrix.mul_apply]
  refine sum_eq_zero fun l _ => ?_
  by_cases hl : Same i l
  · rw [hn l j (fun e => hij (hl.trans e)), mul_zero]
  · rw [hm i l hl, zero_mul]

theorem Own.add {m n : Mat} (hm : Own m) (hn : Own n) : Own (m + n) := by
  intro i j hij
  rw [Matrix.add_apply, hm i j hij, hn i j hij, add_zero]

theorem Own.transpose {m : Mat} (hm : Own m) : Own mᵀ := fun i j hij => hm j i (fun e => hij e.symm)

/-- Two matrices of the pair are equal when they agree in each head's block. -/
theorem Own.ext {m n : Mat} (hm : Own m) (hn : Own n)
    (h : ∀ (h : Fin 2) (i j : Fin 64), m (pos h i) (pos h j) = n (pos h i) (pos h j)) : m = n := by
  ext i j
  by_cases hij : Same i j
  · have e : headOf i = headOf j := Fin.ext hij
    have := h (headOf i) (inHead i) (inHead j)
    rw [pos_headOf, e, pos_headOf] at this
    exact this
  · rw [hm i j hij, hn i j hij]

/-- The entries in each row's own lanes. -/
def keepM (x : Mat) : Mat := fun i j => if Same i j then x i j else 0
/-- The rotation of the lanes by 64. -/
def turnM (x : Mat) : Mat := fun i j => x i (j + 64)
/-- The entries in the other head's lanes, moved to the row's own. -/
def offM (x : Mat) : Mat := fun i j => if Same i j then x i (j + 64) else 0

theorem same_turn (i j : Fin 128) : Same i (j + 64) ↔ ¬ Same i j := by
  have := i.isLt; have := j.isLt
  simp only [Same, Fin.val_add, show ((64 : Fin 128).val) = 64 from rfl]
  omega

theorem turn_turn (j : Fin 128) : j + 64 + 64 = j := by
  ext; have := j.isLt
  simp only [Fin.val_add, show ((64 : Fin 128).val) = 64 from rfl]
  omega

theorem own_keepM (x : Mat) : Own (keepM x) := fun _ _ h => if_neg h
theorem own_offM (x : Mat) : Own (offM x) := fun _ _ h => if_neg h

theorem keepM_add (x y : Mat) : keepM (x + y) = keepM x + keepM y := by
  ext i j; simp only [keepM, Matrix.add_apply]; split <;> simp
theorem offM_add (x y : Mat) : offM (x + y) = offM x + offM y := by
  ext i j; simp only [offM, Matrix.add_apply]; split <;> simp
theorem keepM_own {x : Mat} (h : Own x) : keepM x = x := by
  ext i j; simp only [keepM]; split
  · rfl
  · next e => exact (h i j e).symm
theorem offM_own {x : Mat} (h : Own x) : offM x = 0 := by
  ext i j; simp only [offM]; split
  · next e => exact h _ _ (fun e' => (same_turn i j).1 e' e)
  · rfl
theorem keepM_turnM {x : Mat} (h : Own x) : keepM (turnM x) = 0 := by
  ext i j; simp only [keepM, turnM]; split
  · next e => exact h _ _ (fun e' => (same_turn i j).1 e' e)
  · rfl
theorem offM_turnM {x : Mat} (h : Own x) : offM (turnM x) = x := by
  ext i j; simp only [offM, turnM, turn_turn]; split
  · rfl
  · next e => exact (h i j e).symm

theorem keepM_mul {m : Mat} (hm : Own m) (x : Mat) : keepM (m * x) = m * keepM x := by
  ext i j
  simp only [keepM, Matrix.mul_apply]
  split
  · next e =>
    refine sum_congr rfl fun l _ => ?_
    by_cases hl : Same i l
    · rw [if_pos (hl.symm.trans e)]
    · rw [hm i l hl, zero_mul, zero_mul]
  · next e =>
    refine (sum_eq_zero fun l _ => ?_).symm
    by_cases hl : Same i l
    · rw [if_neg (fun e' => e (hl.trans e')), mul_zero]
    · rw [hm i l hl, zero_mul]

theorem offM_mul {m : Mat} (hm : Own m) (x : Mat) : offM (m * x) = m * offM x := by
  ext i j
  simp only [offM, Matrix.mul_apply]
  split
  · next e =>
    refine sum_congr rfl fun l _ => ?_
    by_cases hl : Same i l
    · rw [if_pos (hl.symm.trans e)]
    · rw [hm i l hl, zero_mul, zero_mul]
  · next e =>
    refine (sum_eq_zero fun l _ => ?_).symm
    by_cases hl : Same i l
    · rw [if_neg (fun e' => e (hl.trans e')), mul_zero]
    · rw [hm i l hl, zero_mul]

/-- The operands of one chunk of one pair. -/
structure Mats where
  /-- removal keys under the decay before their steps -/
  a : Mat
  /-- receptances under the decay through their steps -/
  r : Mat
  /-- values -/
  v : Mat
  /-- replacement keys, decays divided out -/
  b : Mat
  /-- keys, decays divided out -/
  k : Mat
  /-- replacement keys decayed to the end -/
  bEnd : Mat
  /-- keys decayed to the end -/
  kEnd : Mat
  /-- decay through the chunk -/
  pEnd : Fin 128 → ℝ

/-- Entries of one head with the lane strictly before the row. -/
def strictM (x : Mat) : Mat := fun i j => if Same i j ∧ j.val < i.val then x i j else 0
/-- Entries of one head with the lane not after the row. -/
def inclM (x : Mat) : Mat := fun i j => if Same i j ∧ j.val ≤ i.val then x i j else 0

theorem own_strictM (x : Mat) : Own (strictM x) := fun _ _ h => if_neg (fun e => h e.1)
theorem own_inclM (x : Mat) : Own (inclM x) := fun _ _ h => if_neg (fun e => h e.1)

/-- A diagonal matrix. -/
def diagM (p : Fin 128 → ℝ) : Mat := fun i j => if i = j then p j else 0
/-- A matrix with its rows scaled. -/
def scaleM (p : Fin 128 → ℝ) (z : Mat) : Mat := fun i j => p i * z i j

theorem diagM_mul (p : Fin 128 → ℝ) (z : Mat) : diagM p * z = scaleM p z := by
  ext i j
  rw [Matrix.mul_apply]
  simp [diagM, scaleM]

variable (s : Mats)

/-- The system's matrix. -/
def Mats.ab : Mat := strictM (s.a * s.bᵀ)
/-- Removal keys against keys. -/
def Mats.ak : Mat := strictM (s.a * s.kᵀ)
/-- Receptances against replacement keys. -/
def Mats.rb : Mat := inclM (s.r * s.bᵀ)
/-- Receptances against keys. -/
def Mats.rk : Mat := inclM (s.r * s.kᵀ)
theorem Mats.own_ab : Own s.ab := own_strictM _
theorem Mats.own_ak : Own s.ak := own_strictM _
theorem Mats.own_rb : Own s.rb := own_inclM _
theorem Mats.own_rk : Own s.rk := own_inclM _

/-- The system's solution for both right-hand sides. -/
def Mats.sol : Mat := solve s.ab (s.a + turnM (s.ak * s.v))
/-- What the chunk makes of a start state. -/
def Mats.next (z : Mat) : Mat :=
  (keepM (s.bEndᵀ * s.sol) + diagM s.pEnd) * z + offM (s.bEndᵀ * s.sol) + s.kEndᵀ * s.v
/-- The chunk's outputs. -/
def Mats.out (z : Mat) : Mat :=
  (s.r + keepM (s.rb * s.sol)) * z + (offM (s.rb * s.sol) + s.rk * s.v)
/-- The read-offs from a start state. -/
def Mats.reads (z : Mat) : Mat := keepM s.sol * z + offM s.sol

theorem Mats.own_reads {z : Mat} (hz : Own z) : Own (s.reads z) := ((own_keepM _).mul hz).add (own_offM _)

/-- The read-offs satisfy the triangular system. -/
theorem Mats.reads_eq (ha : Own s.a) (hv : Own s.v) (z : Mat) :
    s.reads z = s.a * z + s.ak * s.v + s.ab * s.reads z := by
  have h : s.sol = s.a + turnM (s.ak * s.v) + s.ab * s.sol :=
    solve_eq (fun i j hij => if_neg hij) _
  have hav : Own (s.ak * s.v) := s.own_ak.mul hv
  have hk : keepM s.sol = s.a + s.ab * keepM s.sol := by
    conv_lhs => rw [h]
    rw [keepM_add, keepM_add, keepM_own ha, keepM_turnM hav, add_zero, keepM_mul s.own_ab]
  have ho : offM s.sol = s.ak * s.v + s.ab * offM s.sol := by
    conv_lhs => rw [h]
    rw [offM_add, offM_add, offM_own ha, offM_turnM hav, zero_add, offM_mul s.own_ab]
  have e : s.reads z = (s.a + s.ab * keepM s.sol) * z + (s.ak * s.v + s.ab * offM s.sol) := by
    rw [← hk, ← ho]; rfl
  refine e.trans ?_
  show _ = s.a * z + s.ak * s.v + s.ab * (keepM s.sol * z + offM s.sol)
  rw [Matrix.mul_add, Matrix.add_mul, Matrix.mul_assoc]
  abel

/-- The chunk's end state through the read-offs. -/
theorem Mats.next_eq (hb : Own s.bEnd) (z : Mat) :
    s.next z = scaleM s.pEnd z + s.bEndᵀ * s.reads z + s.kEndᵀ * s.v := by
  unfold Mats.next Mats.reads
  rw [keepM_mul hb.transpose, offM_mul hb.transpose, Matrix.add_mul, diagM_mul, Matrix.mul_add, Matrix.mul_assoc]
  abel

/-- The chunk's outputs through the read-offs. -/
theorem Mats.out_eq (z : Mat) : s.out z = s.r * z + s.rb * s.reads z + s.rk * s.v := by
  unfold Mats.out Mats.reads
  rw [keepM_mul s.own_rb, offM_mul s.own_rb, Matrix.add_mul, Matrix.mul_add, Matrix.mul_assoc]
  abel

/-! ## The operands of two heads' recurrences -/

/-- Both heads' rows stacked. -/
def rowsM (f : Fin 2 → ℕ → Fin 64 → ℝ) : Mat :=
  fun i j => if Same i j then f (headOf i) (inHead i).val (inHead j) else 0
/-- Both heads' states in one matrix. -/
def stateM (z : Fin 2 → Fin 64 → Fin 64 → ℝ) : Mat :=
  fun i j => if Same i j then z (headOf i) (inHead i) (inHead j) else 0

theorem own_rowsM (f : Fin 2 → ℕ → Fin 64 → ℝ) : Own (rowsM f) := fun _ _ h => if_neg h
theorem own_stateM (z : Fin 2 → Fin 64 → Fin 64 → ℝ) : Own (stateM z) := fun _ _ h => if_neg h
theorem rowsM_pos (f : Fin 2 → ℕ → Fin 64 → ℝ) (h : Fin 2) (i j : Fin 64) : rowsM f (pos h i) (pos h j) = f h i.val j := by
  simp only [rowsM, if_pos ((same_pos h h i j).2 rfl), headOf_pos, inHead_pos]
theorem stateM_pos (z : Fin 2 → Fin 64 → Fin 64 → ℝ) (h : Fin 2) (i j : Fin 64) :
    stateM z (pos h i) (pos h j) = z h i j := by
  simp only [stateM, if_pos ((same_pos h h i j).2 rfl), headOf_pos, inHead_pos]

variable (lw a b k v r : Fin 2 → ℕ → Fin 64 → ℝ)

/-- Vectors under the decay before their steps. -/
def before (x : Fin 2 → ℕ → Fin 64 → ℝ) (h : Fin 2) (t : ℕ) (c : Fin 64) : ℝ := x h t c * Real.exp (cum (lw h) t c)
/-- Vectors under the decay through their steps. -/
def through (x : Fin 2 → ℕ → Fin 64 → ℝ) (h : Fin 2) (t : ℕ) (c : Fin 64) : ℝ := x h t c * Real.exp (cum (lw h) (t + 1) c)
/-- Vectors with the decays through their steps divided out. -/
def without (x : Fin 2 → ℕ → Fin 64 → ℝ) (h : Fin 2) : ℕ → Fin 64 → ℝ := undecay (lw h) (x h)
/-- Vectors decayed from their steps to the chunk's end. -/
def toEnd (x : Fin 2 → ℕ → Fin 64 → ℝ) (h : Fin 2) (t : ℕ) (c : Fin 64) : ℝ :=
  undecay (lw h) (x h) t c * Real.exp (cum (lw h) 64 c)

/-- The operands the kernel forms from the heads' decays, keys, values and receptances. -/
def matsOf : Mats where
  a := rowsM (before lw a)
  r := rowsM (through lw r)
  v := rowsM v
  b := rowsM (without lw b)
  k := rowsM (without lw k)
  bEnd := rowsM (toEnd lw b)
  kEnd := rowsM (toEnd lw k)
  pEnd := fun j => Real.exp (cum (lw (headOf j)) 64 (inHead j))

/-- A sum over the steps before `t`. -/
theorem sum_lt (t : Fin 64) (f : ℕ → ℝ) : (∑ s : Fin 64, if s.val < t.val then f s.val else 0) = ∑ s ∈ range t.val, f s := by
  rw [Fin.sum_univ_eq_sum_range (fun s => if s < t.val then f s else 0) 64, ← sum_filter]
  congr 1
  ext s
  simp only [mem_filter, mem_range]
  have := t.isLt
  omega

/-- A sum over the steps up to `t`. -/
theorem sum_le (t : Fin 64) (f : ℕ → ℝ) : (∑ s : Fin 64, if s.val ≤ t.val then f s.val else 0) = ∑ s ∈ range (t.val + 1), f s := by
  rw [Fin.sum_univ_eq_sum_range (fun s => if s ≤ t.val then f s else 0) 64, ← sum_filter]
  congr 1
  ext s
  simp only [mem_filter, mem_range]
  have := t.isLt
  omega

/-- A strictly masked product of stacked rows with a matrix, at an entry. -/
theorem strict_mul (f g : Fin 2 → ℕ → Fin 64 → ℝ) (x : Mat) (y : ℕ → ℝ) (h : Fin 2) (t : Fin 64) (j : Fin 128)
    (hy : ∀ s : Fin 64, x (pos h s) j = y s.val) :
    (strictM (rowsM f * (rowsM g)ᵀ) * x) (pos h t) j
      = ∑ s ∈ range t.val, (∑ c, f h t.val c * g h s c) * y s := by
  rw [mul_pos (own_strictM _), ← sum_lt t (fun s => (∑ c, f h t.val c * g h s c) * y s)]
  refine sum_congr rfl fun s _ => ?_
  simp only [strictM, same_pos, lt_pos, true_and, hy]
  split
  · rw [mul_pos (own_rowsM f)]
    simp only [Matrix.transpose_apply, rowsM_pos]
  · rw [zero_mul]

/-- The same with the row's own step. -/
theorem incl_mul (f g : Fin 2 → ℕ → Fin 64 → ℝ) (x : Mat) (y : ℕ → ℝ) (h : Fin 2) (t : Fin 64) (j : Fin 128)
    (hy : ∀ s : Fin 64, x (pos h s) j = y s.val) :
    (inclM (rowsM f * (rowsM g)ᵀ) * x) (pos h t) j
      = ∑ s ∈ range (t.val + 1), (∑ c, f h t.val c * g h s c) * y s := by
  rw [mul_pos (own_inclM _), ← sum_le t (fun s => (∑ c, f h t.val c * g h s c) * y s)]
  refine sum_congr rfl fun s _ => ?_
  simp only [inclM, same_pos, le_pos, true_and, hy]
  split
  · rw [mul_pos (own_rowsM f)]
    simp only [Matrix.transpose_apply, rowsM_pos]
  · rw [zero_mul]

/-- A product contracting the steps, at an entry. -/
theorem steps_mul (f : Fin 2 → ℕ → Fin 64 → ℝ) (x : Mat) (y : ℕ → ℝ) (h : Fin 2) (c : Fin 64) (j : Fin 128)
    (hy : ∀ s : Fin 64, x (pos h s) j = y s.val) :
    ((rowsM f)ᵀ * x) (pos h c) j = ∑ s ∈ range 64, f h s c * y s := by
  rw [mul_pos (own_rowsM f).transpose, ← Fin.sum_univ_eq_sum_range (fun s => f h s c * y s) 64]
  refine sum_congr rfl fun s _ => ?_
  rw [hy, Matrix.transpose_apply, rowsM_pos]

variable (z : Fin 2 → Fin 64 → Fin 64 → ℝ)

/-- The system's solution, applied to the start state, is what the removal keys read off the states. -/
theorem reads_pos (h : Fin 2) (t : Fin 64) (d : Fin 64) :
    (matsOf lw a b k v r).reads (stateM z) (pos h t) (pos h d)
      = readOff (lw h) (a h) (b h) (k h) (v h) (z h) t.val d := by
  obtain ⟨u, hu⟩ : ∃ u : ℕ → Fin 64 → ℝ, ∀ (t : Fin 64) d, (matsOf lw a b k v r).reads (stateM z) (pos h t) (pos h d) = u t.val d :=
    ⟨fun t d => if ht : t < 64 then (matsOf lw a b k v r).reads (stateM z) (pos h ⟨t, ht⟩) (pos h d) else 0,
      fun t d => by simp⟩
  rw [hu]
  refine readOff_unique (lw h) (a h) (b h) (k h) (v h) (z h) 64 u ?_ t.val t.isLt d
  intro t ht d
  have e := congrFun (congrFun ((matsOf lw a b k v r).reads_eq (show Own (matsOf lw a b k v r).a from own_rowsM (before lw a)) (show Own (matsOf lw a b k v r).v from own_rowsM v)
    (stateM z)) (pos h ⟨t, ht⟩)) (pos h d)
  have e0 : ((matsOf lw a b k v r).a * stateM z) (pos h ⟨t, ht⟩) (pos h d) = ∑ c, a h t c * Real.exp (cum (lw h) t c) * z h c d := by
    rw [mul_pos (show Own (matsOf lw a b k v r).a from own_rowsM (before lw a))]
    refine sum_congr rfl fun c _ => ?_
    rw [stateM_pos]
    exact congrArg (· * z h c d) (rowsM_pos (before lw a) h ⟨t, ht⟩ c)
  have e1 : ((matsOf lw a b k v r).ak * (matsOf lw a b k v r).v) (pos h ⟨t, ht⟩) (pos h d) = _ :=
    strict_mul (before lw a) (without lw k) _ (fun s => v h s d) h ⟨t, ht⟩ (pos h d) (fun s => rowsM_pos v h s d)
  have e2 : ((matsOf lw a b k v r).ab * (matsOf lw a b k v r).reads (stateM z)) (pos h ⟨t, ht⟩) (pos h d) = _ :=
    strict_mul (before lw a) (without lw b) _ (fun s => u s d) h ⟨t, ht⟩ (pos h d) (fun s => hu s d)
  refine ((hu ⟨t, ht⟩ d).symm.trans e).trans ?_
  rw [Matrix.add_apply, Matrix.add_apply, e0, e1, e2, add_assoc, ← sum_add_distrib]
  congr 1
  exact sum_congr rfl fun s _ => add_comm _ _

/-- One chunk's state: the recurrence's state after 64 steps. -/
theorem next_stateM :
    (matsOf lw a b k v r).next (stateM z) = stateM fun h => state (lw h) (a h) (b h) (k h) (v h) (z h) 64 := by
  have hu := reads_pos lw a b k v r z
  have hb : Own (matsOf lw a b k v r).bEnd := own_rowsM (toEnd lw b)
  have hk : Own (matsOf lw a b k v r).kEnd := own_rowsM (toEnd lw k)
  have hv : Own (matsOf lw a b k v r).v := own_rowsM v
  have hz : Own (scaleM (matsOf lw a b k v r).pEnd (stateM z)) := fun i j hij => by
    show (matsOf lw a b k v r).pEnd i * stateM z i j = 0
    rw [own_stateM z i j hij, mul_zero]
  rw [(matsOf lw a b k v r).next_eq hb]
  refine Own.ext ((hz.add (hb.transpose.mul ((matsOf lw a b k v r).own_reads (own_stateM z)))).add (hk.transpose.mul hv))
    (own_stateM _) fun h c d => ?_
  have e0 : scaleM (matsOf lw a b k v r).pEnd (stateM z) (pos h c) (pos h d) = Real.exp (cum (lw h) 64 c) * z h c d := by
    show Real.exp (cum (lw (headOf (pos h c))) 64 (inHead (pos h c))) * stateM z (pos h c) (pos h d) = _
    rw [headOf_pos, inHead_pos, stateM_pos]
  have e1 : ((matsOf lw a b k v r).bEndᵀ * (matsOf lw a b k v r).reads (stateM z)) (pos h c) (pos h d) = _ :=
    steps_mul (toEnd lw b) _ (fun s => readOff (lw h) (a h) (b h) (k h) (v h) (z h) s d) h c (pos h d) (fun s => hu h s d)
  have e2 : ((matsOf lw a b k v r).kEndᵀ * (matsOf lw a b k v r).v) (pos h c) (pos h d) = _ :=
    steps_mul (toEnd lw k) _ (fun s => v h s d) h c (pos h d) (fun s => rowsM_pos v h s d)
  rw [Matrix.add_apply, Matrix.add_apply, stateM_pos, state_closed, e0, e1, e2, add_assoc, ← sum_add_distrib,
    mul_add, mul_sum]
  congr 1
  exact sum_congr rfl fun s _ => by simp only [toEnd]; ring

/-- One chunk's outputs: the receptances' reads of the states after their steps. -/
theorem out_rowsM :
    (matsOf lw a b k v r).out (stateM z)
      = rowsM fun h t d => ∑ c, state (lw h) (a h) (b h) (k h) (v h) (z h) (t + 1) c d * r h t c := by
  have hu := reads_pos lw a b k v r z
  have hr : Own (matsOf lw a b k v r).r := own_rowsM (through lw r)
  have hv : Own (matsOf lw a b k v r).v := own_rowsM v
  rw [(matsOf lw a b k v r).out_eq]
  refine Own.ext (((hr.mul (own_stateM z)).add ((matsOf lw a b k v r).own_rb.mul ((matsOf lw a b k v r).own_reads (own_stateM z)))).add ((matsOf lw a b k v r).own_rk.mul hv))
    (own_rowsM _) fun h t d => ?_
  have e0 : ((matsOf lw a b k v r).r * stateM z) (pos h t) (pos h d)
      = ∑ c, r h t.val c * Real.exp (cum (lw h) (t.val + 1) c) * z h c d := by
    rw [mul_pos hr]
    refine sum_congr rfl fun c _ => ?_
    rw [stateM_pos]
    exact congrArg (· * z h c d) (rowsM_pos (through lw r) h t c)
  have e1 : ((matsOf lw a b k v r).rb * (matsOf lw a b k v r).reads (stateM z)) (pos h t) (pos h d) = _ :=
    incl_mul (through lw r) (without lw b) _ (fun s => readOff (lw h) (a h) (b h) (k h) (v h) (z h) s d) h t (pos h d) (fun s => hu h s d)
  have e2 : ((matsOf lw a b k v r).rk * (matsOf lw a b k v r).v) (pos h t) (pos h d) = _ :=
    incl_mul (through lw r) (without lw k) _ (fun s => v h s d) h t (pos h d) (fun s => rowsM_pos v h s d)
  rw [Matrix.add_apply, Matrix.add_apply, rowsM_pos, read_closed, e0, e1, e2, add_assoc, ← sum_add_distrib]
  rfl

end RwkvCore

end
-- ==== Proof.Values.lean ====
/-
  The kernel's chunk over the extended reals: each of its matrices has real entries, and they are those
  of the matrix algebra of `PairAlgebra`.
-/
module

public import proofs.«01_k».proof.Proof.Chain
public import proofs.«01_k».proof.Proof.PairAlgebra
public import Idealize.ShloMosaic.Lib.Pipeline.ValueKit
public import Idealize.ShloMosaic.Lib.WordCmp

@[expose] public section

set_option maxRecDepth 16384

noncomputable section

namespace RwkvCore

open Idealize.ShloMosaic Cert.KernelIdeal Cert.KernelIdeal.Gen
open Idealize.ShloMosaic.Pointwise Idealize.ShloMosaic.WordCmp Finset

/-- A 128 × 128 vector has the real entries `A`. -/
def IsMat {φ : FTy} (x : FVec Ideal S128x128 φ) (A : Mat) : Prop :=
  ∀ i j : Fin 128, x (ix2 i j) = ((A i j : ℝ) : EReal)

theorem coe_sum {n : ℕ} (f : Fin n → ℝ) : ∑ i, ((f i : ℝ) : EReal) = ((∑ i, f i : ℝ) : EReal) := by
  induction n with
  | zero => simp
  | succ n ih => rw [Fin.sum_univ_castSucc, Fin.sum_univ_castSucc, ih, EReal.coe_add]

/-! ## Masks -/

theorem sge_64 (i : Fin 128) : IntOp.cmpi .sge (BitVec.ofNat 32 i.val) 64#32 = BitVec.ofBool (decide (64 ≤ i.val)) :=
  cmpi_sge_ofNat (a := i.val) (b := 64) (by have := i.isLt; omega) (by omega)

theorem slt_64 (i : Fin 128) : IntOp.cmpi .slt (BitVec.ofNat 32 i.val) 64#32 = BitVec.ofBool (decide (i.val < 64)) :=
  cmpi_slt_ofNat (a := i.val) (b := 64) (by have := i.isLt; omega) (by omega)

theorem own_apply (i j : Fin 128) : own (ix2 i j) = BitVec.ofBool (decide (Same i j)) := by
  pointwise [own, rowNo, laneNo]
  rw [sge_64, sge_64, xori_ofBool, show (1#1) = BitVec.ofBool true from rfl, xori_ofBool]
  congr 1
  have := i.isLt; have := j.isLt
  by_cases hi : 64 ≤ i.val <;> by_cases hj : 64 ≤ j.val <;> simp [hi, hj] <;> omega

theorem strict_apply (i j : Fin 128) : strict (ix2 i j) = BitVec.ofBool (decide (Same i j ∧ j.val < i.val)) := by
  pointwise [strict, laneNo, rowNo]
  rw [own_apply, cmpi_slt_ofNat (by have := j.isLt; omega) (by have := i.isLt; omega), andi_ofBool]
  simp

theorem incl_apply (i j : Fin 128) : incl (ix2 i j) = BitVec.ofBool (decide (Same i j ∧ j.val ≤ i.val)) := by
  pointwise [incl, laneNo, rowNo]
  rw [own_apply, cmpi_sle_ofNat (by have := j.isLt; omega) (by have := i.isLt; omega), andi_ofBool]
  simp

theorem eye_apply (i j : Fin 128) : eye (ix2 i j) = BitVec.ofBool (decide (i = j)) := by
  pointwise [eye, laneNo, rowNo]
  rw [cmpi_eq_ofNat (by have := i.isLt; omega) (by have := j.isLt; omega)]
  simp [Fin.ext_iff]

/-! ## The operations on matrices -/

theorem zeros_isMat : IsMat (zeros (F := Ideal)) 0 := by
  intro i j
  pointwise [zeros]
  simp

theorem select_isMat {mask : IVec S128x128 1} {P : Fin 128 → Fin 128 → Prop} [∀ i j, Decidable (P i j)]
    (hm : ∀ i j, mask (ix2 i j) = BitVec.ofBool (decide (P i j))) {x y : FVec Ideal S128x128 .f32} {A B : Mat}
    (hx : IsMat x A) (hy : IsMat y B) : IsMat (select mask x y) (fun i j => if P i j then A i j else B i j) := by
  intro i j
  show Scalar.select (mask (ix2 i j)) (x (ix2 i j)) (y (ix2 i j)) = _
  rw [hm, hx, hy, select_ofBool]
  by_cases h : P i j <;> simp [h]

theorem narrow_isMat {x : FVec Ideal S128x128 .f32} {A : Mat} (h : IsMat x A) : IsMat (narrow x) A := h

theorem addf_isMat {x y : FVec Ideal S128x128 .f32} {A B : Mat} (hx : IsMat x A) (hy : IsMat y B) :
    IsMat (addf x y) (A + B) := by
  intro i j
  pointwise
  rw [hx, hy, Matrix.add_apply, EReal.coe_add]

theorem dot_isMat {x y : FVec Ideal S128x128 .bf16} {A B : Mat} (hx : IsMat x A) (hy : IsMat y B) :
    IsMat (dot x y) (A * B) := by
  intro i j
  pointwise [dot]
  simp only [hx _ _, hy _ _, ← EReal.coe_mul, coe_sum, Matrix.mul_apply]

theorem dotT_isMat {x y : FVec Ideal S128x128 .bf16} {A B : Mat} (hx : IsMat x A) (hy : IsMat y B) :
    IsMat (dotT x y) (A.transpose * B) := by
  intro i j
  pointwise [dotT]
  simp only [hx _ _, hy _ _, ← EReal.coe_mul, coe_sum, Matrix.mul_apply, Matrix.transpose_apply]

theorem turn_isMat {x : FVec Ideal S128x128 .f32} {A : Mat} (hx : IsMat x A) : IsMat (turn x) (turnM A) := by
  intro i j
  pointwise [turn]
  rw [hx]
  congr 2

theorem keepOwn_isMat {x : FVec Ideal S128x128 .f32} {A : Mat} (hx : IsMat x A) : IsMat (keepOwn x) (keepM A) :=
  select_isMat own_apply hx zeros_isMat

theorem turnOff_isMat {x : FVec Ideal S128x128 .f32} {A : Mat} (hx : IsMat x A) : IsMat (turnOff x) (offM A) := by
  have h := turn_isMat (select_isMat own_apply zeros_isMat hx)
  intro i j
  refine (h i j).trans ?_
  simp only [turnM, offM, same_turn]
  by_cases hs : Same i j <;> simp [hs]

theorem doubledP_isMat {p : FVec Ideal S128x128 .bf16} {x : FVec Ideal S128x128 .f32} {A : Mat} (hp : IsMat p A) :
    IsMat (doubledP p x) (A * A) := by
  intro i j
  pointwise [doubledP, doubled, narrow]
  simp only [hp _ _, ← EReal.coe_mul, coe_sum, Matrix.mul_apply]

theorem doubledX_isMat {p : FVec Ideal S128x128 .bf16} {x : FVec Ideal S128x128 .f32} {A B : Mat} (hp : IsMat p A)
    (hx : IsMat x B) : IsMat (doubledX p x) (B + A * B) := by
  intro i j
  pointwise [doubledX, doubled, narrow]
  simp only [hp _ _, hx _ _, ← EReal.coe_mul, coe_sum, Matrix.mul_apply, Matrix.add_apply, EReal.coe_add]

/-- A rounded matrix and a right-hand side have the real entries of a pair of matrices. -/
def IsPair (px : FVec Ideal S128x128 .bf16 × FVec Ideal S128x128 .f32) (AB : Mat × Mat) : Prop :=
  IsMat px.1 AB.1 ∧ IsMat px.2 AB.2

theorem doubledPX_isPair {px : FVec Ideal S128x128 .bf16 × FVec Ideal S128x128 .f32} {AB : Mat × Mat} (h : IsPair px AB) :
    IsPair (doubledPX px) (double AB) :=
  ⟨doubledP_isMat h.1, doubledX_isMat h.1 h.2⟩

/-- The kernel's operands have the real entries of the matrices `m`. -/
structure IsMats (s : Operands Ideal) (m : Mats) : Prop where
  a : IsMat s.a m.a
  r : IsMat s.r m.r
  v : IsMat s.v m.v
  b : IsMat s.b m.b
  k : IsMat s.k m.k
  bEnd : IsMat s.bEnd m.bEnd
  kEnd : IsMat s.kEnd m.kEnd
  pEnd : ∀ j : Fin 128, s.pEnd (ix2 0 j) = ((m.pEnd j : ℝ) : EReal)

variable {s : Operands Ideal} {m : Mats} (hs : IsMats s m)
include hs

theorem gAB_isMat : IsMat (gAB s) m.ab := by
  refine select_isMat strict_apply (A := m.a * m.b.transpose) ?_ zeros_isMat
  intro i j
  pointwise [gram, narrow]
  simp only [hs.a _ _, hs.b _ _, ← EReal.coe_mul, coe_sum, Matrix.mul_apply, Matrix.transpose_apply]

theorem gAK_isMat : IsMat (gAK s) m.ak := by
  refine select_isMat strict_apply (A := m.a * m.k.transpose) ?_ zeros_isMat
  intro i j
  pointwise [gram, narrow]
  simp only [hs.a _ _, hs.k _ _, ← EReal.coe_mul, coe_sum, Matrix.mul_apply, Matrix.transpose_apply]

theorem gRB_isMat : IsMat (gRB s) m.rb := by
  refine select_isMat incl_apply (A := m.r * m.b.transpose) ?_ zeros_isMat
  intro i j
  pointwise [gram, narrow]
  simp only [hs.r _ _, hs.b _ _, ← EReal.coe_mul, coe_sum, Matrix.mul_apply, Matrix.transpose_apply]

theorem gRK_isMat : IsMat (gRK s) m.rk := by
  refine select_isMat incl_apply (A := m.r * m.k.transpose) ?_ zeros_isMat
  intro i j
  pointwise [gram, narrow]
  simp only [hs.r _ _, hs.k _ _, ← EReal.coe_mul, coe_sum, Matrix.mul_apply, Matrix.transpose_apply]

theorem rhs_isMat : IsMat (rhs s) (m.a + turnM (m.ak * m.v)) :=
  addf_isMat hs.a (turn_isMat (dot_isMat (gAK_isMat hs) (narrow_isMat hs.v)))

theorem sol_isMat : IsMat (sol s) m.sol := by
  have h0 : IsPair (px0 s) (m.ab, m.a + turnM (m.ak * m.v)) := ⟨gAB_isMat hs, rhs_isMat hs⟩
  have h5 := doubledPX_isPair (doubledPX_isPair (doubledPX_isPair (doubledPX_isPair (doubledPX_isPair h0))))
  exact addf_isMat h5.2 (dot_isMat h5.1 (narrow_isMat h5.2))

theorem rSol_isMat : IsMat (rSol s) (m.rb * m.sol) := dot_isMat (gRB_isMat hs) (narrow_isMat (sol_isMat hs))

theorem bSol_isMat : IsMat (bSol s) (m.bEnd.transpose * m.sol) :=
  dotT_isMat (narrow_isMat hs.bEnd) (narrow_isMat (sol_isMat hs))

theorem outVal_isMat : IsMat (outVal s) (offM (m.rb * m.sol) + m.rk * m.v) :=
  addf_isMat (turnOff_isMat (rSol_isMat hs)) (dot_isMat (gRK_isMat hs) (narrow_isMat hs.v))

theorem qMat_isMat : IsMat (qMat s) (m.r + keepM (m.rb * m.sol)) := addf_isMat hs.r (keepOwn_isMat (rSol_isMat hs))

theorem mMat_isMat : IsMat (mMat s) (keepM (m.bEnd.transpose * m.sol) + diagM m.pEnd) := by
  refine addf_isMat (keepOwn_isMat (bSol_isMat hs)) (select_isMat (B := 0) eye_apply (A := fun _ j => m.pEnd j) ?_ zeros_isMat)
  intro i j
  pointwise
  exact hs.pEnd j

/-- A state as the scratch holds it has the real entries `A`. -/
def IsState (z : Vec Ideal S1x128x128 .f32) (A : Mat) : Prop :=
  ∀ i j : Fin 128, z (ix3 0 i j) = ((A i j : ℝ) : EReal)

variable {z : Vec Ideal S1x128x128 .f32} {Z : Mat} (hz : IsState z Z)
include hz

theorem nextState_isState : IsState (nextState s z) (m.next Z) := by
  have hm : IsMat (extractStridedSlice S128x128 ![128, 0] (applied s z) slices_S256x128_o128_0_S128x128)
      ((keepM (m.bEnd.transpose * m.sol) + diagM m.pEnd) * Z) := by
    intro i j
    pointwise [applied, narrow]
    simp only [mMat_isMat hs _ _, hz _ _, ← EReal.coe_mul, coe_sum, Matrix.mul_apply]
  have h := addf_isMat (addf_isMat hm (turnOff_isMat (bSol_isMat hs))) (dotT_isMat (narrow_isMat hs.kEnd) (narrow_isMat hs.v))
  intro i j
  refine Eq.trans ?_ (h i j)
  pointwise [nextState]
  rfl

theorem outRows_isMat : IsMat (outRows s z) (m.out Z) := by
  have hq : IsMat (extractStridedSlice S128x128 ![0, 0] (applied s z) slices_S256x128_o0_0_S128x128)
      ((m.r + keepM (m.rb * m.sol)) * Z) := by
    intro i j
    pointwise [applied, narrow]
    simp only [qMat_isMat hs _ _, hz _ _, ← EReal.coe_mul, coe_sum, Matrix.mul_apply]
  exact addf_isMat hq (outVal_isMat hs)

end RwkvCore

end
-- ==== Proof.Operands.lean ====
/-
  The operands the kernel forms from a chunk's rows, over the extended reals: where the rows are real
  numbers, so are the operands, and they are those of the matrix algebra.
-/
module

public import proofs.«01_k».proof.Proof.Values

@[expose] public section

set_option maxRecDepth 16384

noncomputable section

namespace RwkvCore

open Idealize.ShloMosaic Cert.KernelIdeal Cert.KernelIdeal.Gen
open Idealize.ShloMosaic.Pointwise Idealize.ShloMosaic.WordCmp Finset

/-- A chunk's rows hold the real numbers `X`, by lane and step. -/
def IsChunk {φ : FTy} (x : FVec Ideal S64x1024 φ) (X : Fin 1024 → ℕ → ℝ) : Prop :=
  ∀ (t : Fin 64) (l : Fin 1024), x (ix2 t l) = ((X l t.val : ℝ) : EReal)

/-- The sum of a lane's first `n` log decays. -/
def sumTo (W : Fin 1024 → ℕ → ℝ) (l : Fin 1024) (n : ℕ) : ℝ := ∑ s ∈ range n, W l s

theorem tri_apply (i j : Fin 64) :
    tri (F := Ideal) (ix2 i j) = (((if j.val ≤ i.val then 1 else 0 : ℝ)) : EReal) := by
  pointwise [tri]
  rw [cmpi_sle_ofNat (by have := j.isLt; omega) (by have := i.isLt; omega), select_ofBool]
  by_cases h : j.val ≤ i.val <;> simp [h]

theorem running_isChunk {x : FVec Ideal S64x1024 .bf16} {X : Fin 1024 → ℕ → ℝ} (hx : IsChunk x X) (t : Fin 64)
    (l : Fin 1024) : running x (ix2 t l) = ((sumTo X l (t.val + 1) : ℝ) : EReal) := by
  pointwise [running]
  simp only [tri_apply, hx _ _, ← EReal.coe_mul, coe_sum]
  congr 1
  rw [sumTo, ← sum_le t (fun s => X l s)]
  refine sum_congr rfl fun s _ => ?_
  split <;> simp

variable {lw : Vec Ideal S64x1024 .f32} {W : Fin 1024 → ℕ → ℝ} (hw : IsChunk (φ := .f32) lw W)

section
include hw

theorem logs_isChunk : IsChunk (logs lw) W := by
  intro t l
  pointwise [logs]
  exact hw t l

theorem logHi_isChunk : IsChunk (logHi lw) W := logs_isChunk hw

theorem logRem_isChunk : IsChunk (logRem lw) (fun _ _ => 0) := by
  intro t l
  pointwise [logRem]
  rw [logs_isChunk hw, logHi_isChunk hw, ← EReal.coe_sub, sub_self]

theorem logMid_isChunk : IsChunk (logMid lw) (fun _ _ => 0) := logRem_isChunk hw

theorem logLo_isChunk : IsChunk (logLo lw) (fun _ _ => 0) := by
  intro t l
  pointwise [logLo]
  rw [logRem_isChunk hw, logMid_isChunk hw, ← EReal.coe_sub, sub_self]

theorem logSum_apply (t : Fin 64) (l : Fin 1024) : logSum lw (ix2 t l) = ((sumTo W l (t.val + 1) : ℝ) : EReal) := by
  pointwise [logSum]
  rw [running_isChunk (logHi_isChunk hw), running_isChunk (logMid_isChunk hw), running_isChunk (logLo_isChunk hw),
    ← EReal.coe_add, ← EReal.coe_add]
  congr 1
  simp [sumTo]

theorem decayIn_isChunk : IsChunk (decayIn lw) (fun l t => Real.exp (sumTo W l (t + 1))) := by
  intro t l
  pointwise [decayIn]
  rw [logSum_apply hw]
  exact Ideal.exp_coe _

theorem decayEx_isChunk : IsChunk (decayEx lw) (fun l t => Real.exp (sumTo W l t)) := by
  intro t l
  pointwise [decayEx]
  rw [logSum_apply hw, logs_isChunk hw, ← EReal.coe_sub, Ideal.exp_coe]
  congr 2
  simp [sumTo, sum_range_succ]

theorem decayInv_isChunk : IsChunk (decayInv lw) (fun l t => Real.exp (-sumTo W l (t + 1))) := by
  intro t l
  pointwise [decayInv]
  rw [logSum_apply hw, show (0 : EReal) = ((0 : ℝ) : EReal) from rfl, ← EReal.coe_sub, Ideal.exp_coe, zero_sub]

theorem decayEnd_apply (l : Fin 1024) : decayEnd lw (ix2 0 l) = ((Real.exp (sumTo W l 64) : ℝ) : EReal) := by
  refine Eq.trans ?_ (decayIn_isChunk hw 63 l)
  pointwise [decayEnd]

end

theorem wide_isChunk {x : Vec Ideal S64x1024 .bf16} {X : Fin 1024 → ℕ → ℝ} (hx : IsChunk (φ := .bf16) x X) :
    IsChunk (wide x) X := by
  intro t l
  pointwise [wide]
  exact hx t l

variable {x : Vec Ideal S64x1024 .bf16} {X : Fin 1024 → ℕ → ℝ} (hx : IsChunk (φ := .bf16) x X)
include hw hx

theorem hatInv_isChunk : IsChunk (hatInv lw x) (fun l t => X l t * Real.exp (-sumTo W l (t + 1))) := by
  intro t l
  pointwise [hatInv]
  rw [wide_isChunk hx, decayInv_isChunk hw, ← EReal.coe_mul]

theorem hatA_isChunk : IsChunk (hatA lw x) (fun l t => -X l t * Real.exp (sumTo W l t)) := by
  intro t l
  pointwise [hatA]
  rw [wide_isChunk hx, decayEx_isChunk hw, show (0 : EReal) = ((0 : ℝ) : EReal) from rfl, ← EReal.coe_sub, ← EReal.coe_mul,
    zero_sub]

theorem hatR_isChunk : IsChunk (hatR lw x) (fun l t => X l t * Real.exp (sumTo W l (t + 1))) := by
  intro t l
  pointwise [hatR]
  rw [wide_isChunk hx, decayIn_isChunk hw, ← EReal.coe_mul]

theorem hatEnd_isChunk :
    IsChunk (hatEnd lw x) (fun l t => X l t * Real.exp (-sumTo W l (t + 1)) * Real.exp (sumTo W l 64)) := by
  intro t l
  pointwise [hatEnd]
  rw [hatInv_isChunk hw hx, decayEnd_apply hw, ← EReal.coe_mul]

omit hw hx

/-- Lane `c` of head `h` of pair `p`. -/
def lane (p : Fin 8) (h : Fin 2) (c : Fin 64) : Fin 1024 := ⟨128 * p.val + 64 * h.val + c.val, by omega⟩

/-- The two heads' data of pair `p`. -/
def pairOf (p : Fin 8) (X : Fin 1024 → ℕ → ℝ) (h : Fin 2) (t : ℕ) (c : Fin 64) : ℝ := X (lane p h c) t

theorem stacked_isMat {y : FVec Ideal S64x1024 .f32} {Y : Fin 1024 → ℕ → ℝ} (hy : IsChunk y Y) (p : Fin 8) (off : ℕ)
    (ho : off = 128 * p.val) (h : S64x1024.Slices ![0, off] S64x128) :
    IsMat (stacked (lanesAt off h y)) (rowsM (pairOf p Y)) := by
  have hl : ∀ (t : Fin 64) (j : Fin 128), lanesAt off h y (ix2 t j) = ((Y (lane p (headOf j) (inHead j)) t.val : ℝ) : EReal) := by
    intro t j
    subst ho
    pointwise [lanesAt]
    rw [hy]
    congr 2
    ext; simp only [lane, headOf, inHead]; omega
  intro i j
  pointwise [stacked, head0]
  simp only [slt_64, select_ofBool, hl, rowsM, pairOf]
  have := i.isLt; have := j.isLt
  by_cases hi : i.val < 64
  · have e : i.val / 64 = 0 := by omega
    have e' : i.val % 64 = i.val := by omega
    by_cases hj : j.val < 64
    · have f : j.val / 64 = 0 := by omega
      simp [hi, hj, Same, e, f, e', inHead, headOf]
    · have f : ¬ 0 = j.val / 64 := by omega
      simp [hi, hj, Same, e, f]
  · have e : i.val / 64 = 1 := by omega
    have e' : i.val % 64 = i.val - 64 := by omega
    by_cases hj : j.val < 64
    · have f : ¬ 1 = j.val / 64 := by omega
      simp [hi, hj, Same, e, f]
    · have f : j.val / 64 = 1 := by omega
      simp [hi, hj, Same, e, f, e', inHead, headOf]

/-- The operands of pair `p` of a chunk of real rows are those of the two heads' recurrences. -/
theorem operandsAt_isMats {R W K V KK BB : Fin 1024 → ℕ → ℝ} {r : Vec Ideal S64x1024 .bf16} {lw : Vec Ideal S64x1024 .f32}
    {k v kk bb : Vec Ideal S64x1024 .bf16} (hr : IsChunk (φ := .bf16) r R) (hw : IsChunk (φ := .f32) lw W)
    (hk : IsChunk (φ := .bf16) k K) (hv : IsChunk (φ := .bf16) v V) (hkk : IsChunk (φ := .bf16) kk KK)
    (hbb : IsChunk (φ := .bf16) bb BB) (p : Fin 8) (off : ℕ) (ho : off = 128 * p.val)
    (h : S64x1024.Slices ![0, off] S64x128) (h1 : S1x1024.Slices ![0, off] S1x128) :
    IsMats (operandsAt off h h1 r lw k v kk bb)
      (matsOf (pairOf p W) (pairOf p fun l t => -KK l t) (pairOf p BB) (pairOf p K) (pairOf p V) (pairOf p R)) where
  a := stacked_isMat (hatA_isChunk hw hkk) p off ho h
  r := stacked_isMat (hatR_isChunk hw hr) p off ho h
  v := stacked_isMat (wide_isChunk hv) p off ho h
  b := stacked_isMat (hatInv_isChunk hw hbb) p off ho h
  k := stacked_isMat (hatInv_isChunk hw hk) p off ho h
  bEnd := stacked_isMat (hatEnd_isChunk hw hbb) p off ho h
  kEnd := stacked_isMat (hatEnd_isChunk hw hk) p off ho h
  pEnd := by
    intro j
    subst ho
    show extractStridedSlice S1x128 ![0, 128 * p.val] (decayEnd lw) h1 (ix2 0 j)
      = ((Real.exp (sumTo W (lane p (headOf j) (inHead j)) 64) : ℝ) : EReal)
    pointwise
    refine (decayEnd_apply hw _).trans ?_
    congr 3
    ext; simp only [lane, headOf, inHead]; omega

end RwkvCore

end
-- ==== Proof.Consts.lean ====
/-
  The float constants of kernel and reference as real numbers.
-/
module

public import Idealize.ShloMosaic.Lib.IdealHost
public import Idealize.ShloMosaic.PureOps.Ideal.Laws

@[expose] public section

namespace RwkvCore

open Idealize.ShloMosaic

/-- The group norm's epsilon, as the nearest binary32 number. -/
noncomputable def eps : ℝ := 10995116 / 2 ^ 34

theorem eps_pos : 0 < eps := by unfold eps; positivity

theorem ofBits_eps : Ideal.ofBits .f32 0x3A27C5AC#32 = ((eps : ℝ) : EReal) := by
  simp [Ideal.ofBits, Ideal.ieee, eps, -EReal.coe_mul]; norm_num

theorem ofBits_sixtyFourth : Ideal.ofBits .f32 0x3C800000#32 = ((1 / 64 : ℝ) : EReal) := by
  simp [Ideal.ofBits, Ideal.ieee, -EReal.coe_mul]; norm_num

theorem ofBits_sixtyFour : Ideal.ofBits .f32 0x42800000#32 = ((64 : ℝ) : EReal) := by
  simp [Ideal.ofBits, Ideal.ieee, -EReal.coe_mul]; norm_num

theorem ofBits_top : Ideal.ofBits .f32 0x7F800000#32 = ⊤ := by
  simp [Ideal.ofBits, Ideal.ieee]

end RwkvCore
-- ==== Proof.GroupNorm.lean ====
/-
  The group norm of each head's 64 channels over the extended reals, and the block of results the
  kernel forms from it.
-/
module

public import proofs.«01_k».proof.Proof.Values
public import proofs.«01_k».proof.Proof.Consts

@[expose] public section

set_option maxRecDepth 16384

noncomputable section

namespace RwkvCore

open Idealize.ShloMosaic Cert.KernelIdeal Cert.KernelIdeal.Gen
open Idealize.ShloMosaic.Pointwise Idealize.ShloMosaic.WordCmp Finset

/-- The mean of 64 numbers. -/
def mean (x : Fin 64 → ℝ) : ℝ := (∑ c, x c) * (1 / 64)
/-- Their variance. -/
def variance (x : Fin 64 → ℝ) : ℝ := mean fun c => (x c - mean x) * (x c - mean x)
/-- The numbers normalised. -/
def groupNorm (x : Fin 64 → ℝ) (c : Fin 64) : ℝ := (x c - mean x) * (√(variance x + eps))⁻¹

theorem variance_nonneg (x : Fin 64 → ℝ) : 0 ≤ variance x :=
  mul_nonneg (sum_nonneg fun _ _ => mul_self_nonneg _) (by norm_num)

theorem rsqrt_variance (x : Fin 64 → ℝ) :
    Ideal.rsqrt (((variance x : ℝ) : EReal) + ((eps : ℝ) : EReal)) = (((√(variance x + eps))⁻¹ : ℝ) : EReal) := by
  have h : 0 < variance x + eps := add_pos_of_nonneg_of_pos (variance_nonneg x) eps_pos
  rw [← EReal.coe_add]
  rw [Ideal.rsqrt_coe, if_neg (not_lt.2 h.le), if_neg h.ne']

theorem laneMean_apply {x : FVec Ideal S128x128 .f32} {f : Fin 2 → ℕ → Fin 64 → ℝ} (hx : IsMat x (rowsM f))
    (i : Fin 128) : laneMean x (ix2 i 0) = ((mean (f (headOf i) (inHead i).val) : ℝ) : EReal) := by
  pointwise [laneMean]
  simp only [hx _ _, coe_sum, ofBits_sixtyFourth, ← EReal.coe_mul]
  congr 2
  rw [sum_head (headOf i) _ (fun j hj => own_rowsM f i j fun e => hj (Fin.ext e.symm))]
  refine sum_congr rfl fun c _ => ?_
  have h := rowsM_pos f (headOf i) (inHead i) c
  rwa [pos_headOf] at h

theorem dev_isMat {x : FVec Ideal S128x128 .f32} {f : Fin 2 → ℕ → Fin 64 → ℝ} (hx : IsMat x (rowsM f)) :
    IsMat (dev x) (rowsM fun h t c => f h t c - mean (f h t)) := by
  have h : IsMat (subf x (spread (laneMean x))) (fun i j => rowsM f i j - mean (f (headOf i) (inHead i).val)) := by
    intro i j
    pointwise [spread]
    rw [hx, laneMean_apply hx, ← EReal.coe_sub]
  intro i j
  refine (select_isMat own_apply h zeros_isMat i j).trans ?_
  simp only [rowsM]
  split <;> rfl

theorem normed_isMat {x : FVec Ideal S128x128 .f32} {f : Fin 2 → ℕ → Fin 64 → ℝ} (hx : IsMat x (rowsM f)) :
    IsMat (normed x) (rowsM fun h t => groupNorm (f h t)) := by
  have hd := dev_isMat hx
  have hq : IsMat (mulf (dev x) (dev x)) (rowsM fun h t c => (f h t c - mean (f h t)) * (f h t c - mean (f h t))) := by
    intro i j
    pointwise
    rw [hd, ← EReal.coe_mul]
    simp only [rowsM]
    split <;> simp
  intro i j
  pointwise [normed, spread]
  rw [hd, laneMean_apply hq, ofBits_eps]
  rw [show (mean fun c => (f (headOf i) (inHead i).val c - mean (f (headOf i) (inHead i).val))
      * (f (headOf i) (inHead i).val c - mean (f (headOf i) (inHead i).val)))
      = variance (f (headOf i) (inHead i).val) from rfl, rsqrt_variance, ← EReal.coe_mul]
  congr 1
  simp only [rowsM, groupNorm]
  split <;> simp

theorem outPiece_apply {x : FVec Ideal S128x128 .f32} {f : Fin 2 → ℕ → Fin 64 → ℝ} (hx : IsMat x (rowsM f))
    (lg lb : Vec Ideal S1x128 .f32) (bon g : Vec Ideal S64x128 .bf16) (t : Fin 64) (l : Fin 128) :
    outPiece x lg lb bon g (ix2 t l)
      = (((groupNorm (f (headOf l) t.val) (inHead l) : ℝ) : EReal) * lg (ix2 0 l) + lb (ix2 0 l) + bon (ix2 t l)) * g (ix2 t l) := by
  have hn := normed_isMat hx
  pointwise [outPiece, narrow, folded, overSteps, wideP]
  have hl := l.isLt
  have ht := t.isLt
  have key : normed x (ix2 ⟨t.val, by omega⟩ l) + normed x (ix2 ⟨64 + t.val, by omega⟩ l)
      = ((groupNorm (f (headOf l) t.val) (inHead l) : ℝ) : EReal) := by
    rw [hn, hn, ← EReal.coe_add]
    congr 1
    have e0 : headOf ⟨t.val, by omega⟩ = 0 := by ext; simp only [headOf]; omega
    have e1 : headOf ⟨64 + t.val, by omega⟩ = 1 := by ext; simp only [headOf]; omega
    have r0 : (inHead ⟨t.val, by omega⟩).val = t.val := by simp only [inHead]; omega
    have r1 : (inHead ⟨64 + t.val, by omega⟩).val = t.val := by simp only [inHead]; omega
    have s0 : t.val / 64 = 0 := by omega
    have s1 : (64 + t.val) / 64 = 1 := by omega
    simp only [rowsM, Same, e0, e1, r0, r1, s0, s1]
    by_cases h : l.val < 64
    · have e : l.val / 64 = 0 := by omega
      have e' : headOf l = 0 := Fin.ext e
      simp [e, e']
    · have e : l.val / 64 = 1 := by omega
      have e' : headOf l = 1 := Fin.ext e
      simp [e, e']
  rw [key]

end RwkvCore

end
-- ==== Proof.PointValue.lean ====
/-
  The values of one grid point over the reals: with real blocks that are 256 steps of a sequence from step
  `s` on, and the states of step `s` before it, the point leaves the states of step `s + 256` and the
  results of its 256 steps.
-/
module

public import proofs.«01_k».proof.Proof.Point
public import proofs.«01_k».proof.Proof.Operands
public import proofs.«01_k».proof.Proof.GroupNorm
public import Idealize.ShloMosaic.Lib.Pipeline.CanonAppend

@[expose] public section

set_option maxRecDepth 16384

noncomputable section

namespace RwkvCore

open Idealize.ShloMosaic Idealize.ShloMosaic.Pointwise Cert.KernelIdeal Cert.KernelIdeal.Gen
open Finset

/-- The real sequence of a batch, by lane and step. -/
structure Seq where
  r : Fin 1024 → ℕ → ℝ
  lw : Fin 1024 → ℕ → ℝ
  k : Fin 1024 → ℕ → ℝ
  v : Fin 1024 → ℕ → ℝ
  kk : Fin 1024 → ℕ → ℝ
  bb : Fin 1024 → ℕ → ℝ

/-- The state of head `h` of pair `p` before step `n`. -/
def Seq.stateAt (q : Seq) (p : Fin 8) (h : Fin 2) (n : ℕ) : Fin 64 → Fin 64 → ℝ :=
  state (pairOf p q.lw h) (pairOf p (fun l t => -q.kk l t) h) (pairOf p q.bb h) (pairOf p q.k h) (pairOf p q.v h)
    (fun _ _ => 0) n

/-- What head `h` of pair `p` reads out of the state after step `n`. -/
def Seq.outAt (q : Seq) (p : Fin 8) (h : Fin 2) (n : ℕ) (d : Fin 64) : ℝ :=
  ∑ c, q.stateAt p h (n + 1) c d * pairOf p q.r h n c

/-- The blocks hold 256 steps of the sequence from step `s` on. -/
structure IsBlocks (X : Blocks Ideal) (q : Seq) (s : ℕ) : Prop where
  r : ∀ (t : Fin 256) (l : Fin 1024), X.r (ix2 t l) = ((q.r l (s + t.val) : ℝ) : EReal)
  lw : ∀ (t : Fin 256) (l : Fin 1024), X.lw (ix2 t l) = ((q.lw l (s + t.val) : ℝ) : EReal)
  k : ∀ (t : Fin 256) (l : Fin 1024), X.k (ix2 t l) = ((q.k l (s + t.val) : ℝ) : EReal)
  v : ∀ (t : Fin 256) (l : Fin 1024), X.v (ix2 t l) = ((q.v l (s + t.val) : ℝ) : EReal)
  kk : ∀ (t : Fin 256) (l : Fin 1024), X.kk (ix2 t l) = ((q.kk l (s + t.val) : ℝ) : EReal)
  bb : ∀ (t : Fin 256) (l : Fin 1024), X.bb (ix2 t l) = ((q.bb l (s + t.val) : ℝ) : EReal)

/-- The eight carried matrices hold the states before step `n`. -/
def IsStates (z : Vec Ideal S8x128x128 .f32) (q : Seq) (n : ℕ) : Prop :=
  ∀ (p : Fin 8) (i j : Fin 128), z (ix3 p i j) = ((stateM (fun h => q.stateAt p h n) i j : ℝ) : EReal)

theorem rowsAt_apply {φ : EltTy} (j : Fin 4) (x : S256x1024.Idx → Elt Ideal φ) (t : Fin 64) (l : Fin 1024) :
    rowsAt j x (ix2 t l) = x (ix2 ⟨64 * j.val + t.val, by omega⟩ l) :=
  View.ld_unit_apply_of x _ _ _ _ _ fun a => match a with
    | ⟨0, _⟩ => rfl
    | ⟨1, _⟩ => (Nat.zero_add _).symm

theorem tileAt_apply {φ : EltTy} (j : Fin 4) (p : Fin 8) (x : S256x1024.Idx → Elt Ideal φ) (t : Fin 64) (l : Fin 128) :
    tileAt j p x (ix2 t l) = x (ix2 ⟨64 * j.val + t.val, by omega⟩ ⟨128 * p.val + l.val, by omega⟩) :=
  View.ld_unit_apply_of x _ _ _ _ _ fun a => match a with
    | ⟨0, _⟩ => rfl
    | ⟨1, _⟩ => rfl

theorem pairLanes_apply {φ : EltTy} (p : Fin 8) (x : S1x1024.Idx → Elt Ideal φ) (l : Fin 128) :
    pairLanes p x (ix2 0 l) = x (ix2 0 ⟨128 * p.val + l.val, by omega⟩) :=
  View.ld_unit_apply_of x _ _ _ _ _ fun a => match a with
    | ⟨0, _⟩ => rfl
    | ⟨1, _⟩ => rfl

theorem slabAt_apply {φ : EltTy} (p : Fin 8) (x : S8x128x128.Idx → Elt Ideal φ) (i j : Fin 128) :
    slabAt p x (ix3 0 i j) = x (ix3 p i j) :=
  View.ld_unit_apply_of x _ _ _ _ _ fun a => match a with
    | ⟨0, _⟩ => rfl
    | ⟨1, _⟩ => (Nat.zero_add _).symm
    | ⟨2, _⟩ => (Nat.zero_add _).symm

/-- A chunk's rows of a block of steps from `s` on are the steps from `s + 64 j` on. -/
theorem rows_isChunk {φ : FTy} {x : FVec Ideal S256x1024 φ} {y : FVec Ideal S64x1024 φ} {Y : Fin 1024 → ℕ → ℝ} {s : ℕ}
    (j : Fin 4) (hy : ∀ t l, y (ix2 t l) = x (ix2 ⟨64 * j.val + t.val, by omega⟩ l))
    (hx : ∀ (t : Fin 256) (l : Fin 1024), x (ix2 t l) = ((Y l (s + t.val) : ℝ) : EReal)) :
    IsChunk y (fun l t => Y l (s + 64 * j.val + t)) := by
  intro t l
  rw [hy, hx]
  congr 2
  exact (Nat.add_assoc _ _ _).symm

theorem slab_agrees {z : Vec Ideal S1x128x128 .f32} {Z : Fin 8 → Mat} {p : Fin 8} (hz : IsState z (Z p)) (x : S1x128x128.Idx) :
    z x = ((Z ((Rect.unit ![p.val, 0, 0] S1x128x128.size (inb_slab p) : Rect S8x128x128).emb x 0)
      ((Rect.unit ![p.val, 0, 0] S1x128x128.size (inb_slab p) : Rect S8x128x128).emb x 1)
      ((Rect.unit ![p.val, 0, 0] S1x128x128.size (inb_slab p) : Rect S8x128x128).emb x 2) : ℝ) : EReal) := by
  have hx0 : (x 0).val < 1 := (x 0).isLt
  have h0 : (Rect.unit ![p.val, 0, 0] S1x128x128.size (inb_slab p) : Rect S8x128x128).emb x 0 = p :=
    Fin.ext (by rw [Rect.emb_apply]; show p.val + 1 * (x 0).val = _; omega)
  have h1 : (Rect.unit ![p.val, 0, 0] S1x128x128.size (inb_slab p) : Rect S8x128x128).emb x 1 = x 1 :=
    Fin.ext (by rw [Rect.emb_apply]; show 0 + 1 * (x 1).val = _; omega)
  have h2 : (Rect.unit ![p.val, 0, 0] S1x128x128.size (inb_slab p) : Rect S8x128x128).emb x 2 = x 2 :=
    Fin.ext (by rw [Rect.emb_apply]; show 0 + 1 * (x 2).val = _; omega)
  rw [h0, h1, h2, ← hz (x 1) (x 2)]
  congr 1
  funext a
  match a with
  | ⟨0, _⟩ => exact Fin.ext (by show (x 0).val = 0; omega)
  | ⟨1, _⟩ => rfl
  | ⟨2, _⟩ => rfl

section
variable {X : Blocks Ideal} {q : Seq} {s : ℕ} (hX : IsBlocks X q s)
include hX

/-- The operands of a chunk, as real matrices of the sequence from the chunk's first step on. -/
theorem opsAt_isMats (j : Fin 4) (p : Fin 8) :
    IsMats (opsAt X j p) (matsOf (fun h t => pairOf p q.lw h (s + 64 * j.val + t))
      (fun h t => pairOf p (fun l t => -q.kk l t) h (s + 64 * j.val + t)) (fun h t => pairOf p q.bb h (s + 64 * j.val + t))
      (fun h t => pairOf p q.k h (s + 64 * j.val + t)) (fun h t => pairOf p q.v h (s + 64 * j.val + t))
      (fun h t => pairOf p q.r h (s + 64 * j.val + t))) :=
  operandsAt_isMats (rows_isChunk j (rowsAt_apply j X.r) hX.r) (rows_isChunk j (rowsAt_apply j X.lw) hX.lw) (rows_isChunk j (rowsAt_apply j X.k) hX.k) (rows_isChunk j (rowsAt_apply j X.v) hX.v)
    (rows_isChunk j (rowsAt_apply j X.kk) hX.kk) (rows_isChunk j (rowsAt_apply j X.bb) hX.bb) p _ rfl _ _

variable {z : Vec Ideal S8x128x128 .f32} (hz : IsStates z q s)
include hz

/-- The state of a pair before each chunk. -/
theorem carried_isState (p : Fin 8) :
    ∀ j : ℕ, j ≤ 4 → IsState (carried X z p j) (stateM fun h => q.stateAt p h (s + 64 * j))
  | 0, _ => fun i j => (slabAt_apply p z i j).trans (hz p i j)
  | j + 1, hj => by
    have h := nextState_isState (opsAt_isMats hX (Fin.ofNat 4 j) p) (carried_isState p j (by omega))
    have hv : (Fin.ofNat 4 j).val = j := Nat.mod_eq_of_lt (by omega)
    rw [next_stateM] at h
    simp only [hv] at h
    have hs : ∀ h : Fin 2, q.stateAt p h (s + 64 * (j + 1)) = _ := fun h => state_add _ _ _ _ _ _ (s + 64 * j) 64
    simp only [hs]
    exact h

/-- The rows a pair reads out in a chunk. -/
theorem outRows_chunk (j : Fin 4) (p : Fin 8) :
    IsMat (outRows (opsAt X j p) (carried X z p j.val)) (rowsM fun h t d => q.outAt p h (s + 64 * j.val + t) d) := by
  have h := outRows_isMat (opsAt_isMats hX j p) (carried_isState hX hz p j.val (by omega))
  rw [out_rowsM] at h
  have hs : ∀ (h : Fin 2) (t : ℕ), q.stateAt p h (s + 64 * j.val + t + 1) = _ :=
    fun h t => state_add _ _ _ _ _ _ (s + 64 * j.val) (t + 1)
  simp only [Seq.outAt, hs]
  exact h

/-- A tile of results. -/
theorem tileOut_apply (j : Fin 4) (p : Fin 8) (t : Fin 64) (l : Fin 128) (i : Fin 256) (w : Fin 1024)
    (hi : i.val = 64 * j.val + t.val) (hl : w.val = 128 * p.val + l.val) :
    tileOut X z j p (ix2 t l)
      = (((groupNorm (q.outAt p (headOf l) (s + i.val)) (inHead l) : ℝ) : EReal) * X.lg (ix2 0 w) + X.lb (ix2 0 w)
          + X.bon (ix2 i w)) * X.g (ix2 i w) := by
  rw [tileOut, outPiece_apply (outRows_chunk hX hz j p), pairLanes_apply, pairLanes_apply, tileAt_apply, tileAt_apply]
  rw [show (⟨64 * j.val + t.val, by omega⟩ : Fin 256) = i from Fin.ext hi.symm,
    show (⟨128 * p.val + l.val, by omega⟩ : Fin 1024) = w from Fin.ext hl.symm, hi, ← Nat.add_assoc]

/-- The block of results. -/
theorem outTiles_apply (i : Fin 256) (p : Fin 8) (l : Fin 128) (w : Fin 1024) (hw : w.val = 128 * p.val + l.val) :
    View.canon (outTiles X z) (ix2 i w)
      = (((groupNorm (q.outAt p (headOf l) (s + i.val)) (inHead l) : ℝ) : EReal) * X.lg (ix2 0 w) + X.lb (ix2 0 w)
          + X.bon (ix2 i w)) * X.g (ix2 i w) := by
  refine View.canon_ofFn_unit_eq_of_forall (Val := Elt Ideal) (S := S256x1024) (e := .bf16)
    (fun n : Fin 32 => ![64 * (chunkOf n).val, 128 * (pairOfTile n).val]) S64x128.size
    (fun n => inb_tile (chunkOf n) (pairOfTile n)) (fun n => tileOut X z (chunkOf n) (pairOfTile n)) (ix2 i w) _ ?_ ?_
  · refine ⟨⟨8 * (3 - i.val / 64) + (7 - p.val), by omega⟩, fun a => ?_⟩
    match a with
    | ⟨0, _⟩ =>
      show 64 * (3 - (8 * (3 - i.val / 64) + (7 - p.val)) / 8) ≤ i.val
        ∧ i.val < 64 * (3 - (8 * (3 - i.val / 64) + (7 - p.val)) / 8) + 64
      omega
    | ⟨1, _⟩ =>
      show 128 * (7 - (8 * (3 - i.val / 64) + (7 - p.val)) % 8) ≤ w.val
        ∧ w.val < 128 * (7 - (8 * (3 - i.val / 64) + (7 - p.val)) % 8) + 128
      omega
  · intro n x hx
    have h0 : i.val = 64 * (chunkOf n).val + (x 0).val := hx 0
    have h1 : w.val = 128 * (pairOfTile n).val + (x 1).val := hx 1
    have hx1 : (x 1).val < 128 := (x 1).isLt
    have hp : pairOfTile n = p := Fin.ext (by omega)
    have hxl : l = x 1 := Fin.ext (by rw [hp] at h1; show l.val = (x 1).val; omega)
    have hxe : x = ix2 (x 0) (x 1) := by funext a; match a with
      | ⟨0, _⟩ => rfl
      | ⟨1, _⟩ => rfl
    subst hp hxl
    exact (congrArg (tileOut X z (chunkOf n) (pairOfTile n)) hxe).trans
      (tileOut_apply hX hz (chunkOf n) (pairOfTile n) (x 0) (x 1) i w h0 h1)

/-- The states the point leaves, whatever was stored before them. -/
theorem stateSlabs_isStates (L : List (View.Piece (Elt Ideal) S8x128x128 .f32)) :
    IsStates (View.canon (stateSlabs X z 3 ++ L)) q (s + 256) := by
  intro p i j
  have hb := fun p => carried_isState hX hz p 4 le_rfl
  refine View.canon_append_of_pieces
    (fun y : S8x128x128.Idx => ((stateM (fun h => q.stateAt (y 0) h (s + 256)) (y 1) (y 2) : ℝ) : EReal)) L
    (stateSlabs X z 3) ?_ (ix3 p i j) ?_
  · intro w hw x
    obtain ⟨n, rfl⟩ := List.mem_ofFn.mp hw
    exact slab_agrees (Z := fun p => stateM fun h => q.stateAt p h (s + 256)) (hb (Fin.rev n)) x
  · refine ⟨_, List.mem_ofFn.mpr ⟨Fin.rev p, rfl⟩, (Rect.mem_set_unit (inb := inb_slab (Fin.rev (Fin.rev p)))).mpr fun a => ?_⟩
    match a with
    | ⟨0, _⟩ => show (Fin.rev (Fin.rev p)).val ≤ p.val ∧ p.val < (Fin.rev (Fin.rev p)).val + 1; simp
    | ⟨1, _⟩ => show 0 ≤ i.val ∧ i.val < 0 + 128; omega
    | ⟨2, _⟩ => show 0 ≤ j.val ∧ j.val < 0 + 128; omega

end

end RwkvCore
-- ==== Proof.Entry.lean ====
/-
  The blocks a grid point finds, read off the arguments: point `t` works on the 256 rows from `256 t` on of
  the arguments laid out as 8192 rows, batch after batch.
-/
module

public import proofs.«01_k».proof.Proof.Gen.KernelIdeal.Frame
public import Idealize.ShloMosaic.Lib.Pipeline.ValueKit

@[expose] public section

set_option maxRecDepth 16384

noncomputable section

namespace RwkvCore

open Idealize.ShloMosaic Idealize.ShloMosaic.TcCoe Idealize.ShloMosaic.Pointwise Cert.KernelIdeal Cert.KernelIdeal.Gen

/-- An argument laid out in rows. -/
def flat (x : FVec Ideal S2x4096x1024 .f32) : FVec Ideal S8192x1024 .f32 :=
  shapeCast S8192x1024 x shapeCasts_S2x4096x1024_S8192x1024

theorem flat_apply (x : FVec Ideal S2x4096x1024 .f32) (n : Fin 8192) (l : Fin 1024) :
    flat x (ix2 n l) = x (ix3 ⟨n.val / 4096, by omega⟩ ⟨n.val % 4096, by omega⟩ l) := by
  pointwise [flat]

/-- A row of lanes. -/
def flat1 (x : FVec Ideal S1024 .f32) : FVec Ideal S1x1024 .f32 := shapeCast S1x1024 x shapeCasts_S1024_S1x1024

theorem flat1_apply (x : FVec Ideal S1024 .f32) (l : Fin 1024) : flat1 x (ix2 0 l) = x (ix1 l) := by
  pointwise [flat1]

variable (m : (ℓ : Loc nD τ sig) → Buf (Elt Ideal) ℓ) (c : Dev nD)

theorem V_r : V m c main_v1 = flat (m ((c : Thread nD τ).loc main_arg0)) := by
  show StableHlo.after hostOps0 _ (Proc.devRef .tc main_v1) = _
  after_results
  rfl
theorem V_lw : V m c main_v2 = flat (m ((c : Thread nD τ).loc main_arg1)) := by
  show StableHlo.after hostOps0 _ (Proc.devRef .tc main_v2) = _
  after_results
  rfl
theorem V_k : V m c main_v4 = flat (m ((c : Thread nD τ).loc main_arg2)) := by
  show StableHlo.after hostOps0 _ (Proc.devRef .tc main_v4) = _
  after_results
  rfl
theorem V_v : V m c main_v6 = flat (m ((c : Thread nD τ).loc main_arg3)) := by
  show StableHlo.after hostOps0 _ (Proc.devRef .tc main_v6) = _
  after_results
  rfl
theorem V_kk : V m c main_v8 = flat (m ((c : Thread nD τ).loc main_arg4)) := by
  show StableHlo.after hostOps0 _ (Proc.devRef .tc main_v8) = _
  after_results
  rfl
theorem V_bb : V m c main_v12
    = mulf (flat (m ((c : Thread nD τ).loc main_arg4))) (flat (m ((c : Thread nD τ).loc main_arg5))) := by
  show StableHlo.after hostOps0 _ (Proc.devRef .tc main_v12) = _
  after_results
  rfl
theorem V_g : V m c main_v14 = flat (m ((c : Thread nD τ).loc main_arg6)) := by
  show StableHlo.after hostOps0 _ (Proc.devRef .tc main_v14) = _
  after_results
  rfl
theorem V_bon : V m c main_v16 = flat (m ((c : Thread nD τ).loc main_arg7)) := by
  show StableHlo.after hostOps0 _ (Proc.devRef .tc main_v16) = _
  after_results
  rfl
theorem V_lg : V m c main_v17 = flat1 (m ((c : Thread nD τ).loc main_arg8)) := by
  show StableHlo.after hostOps0 _ (Proc.devRef .tc main_v17) = _
  after_results
  rfl
theorem V_lb : V m c main_v18 = flat1 (m ((c : Thread nD τ).loc main_arg9)) := by
  show StableHlo.after hostOps0 _ (Proc.devRef .tc main_v18) = _
  after_results
  rfl

/-- The row of the arguments that row `i` of point `t`'s block is. -/
def rowOf (t : Fin cfg0.N) (i : Fin 256) : Fin 8192 :=
  ⟨256 * t.val + i.val, by have h : t.val < 32 := lt_of_lt_of_eq t.isLt N_0; omega⟩

/-- Every window of rows is at block `t` of its array at point `t`. -/
theorem index_rows : ∀ t : Fin cfg0.N, (win0_0.index t = ![t.val, 0] ∧ win0_1.index t = ![t.val, 0] ∧ win0_2.index t = ![t.val, 0]
    ∧ win0_3.index t = ![t.val, 0]) ∧ win0_4.index t = ![t.val, 0] ∧ win0_5.index t = ![t.val, 0] ∧ win0_6.index t = ![t.val, 0]
    ∧ win0_7.index t = ![t.val, 0] :=
  (by decide +kernel : ∀ t : Fin grid0.N, _)

theorem index_lanes : ∀ t : Fin cfg0.N, win0_8.index t = ![0, 0] ∧ win0_9.index t = ![0, 0] :=
  (by decide +kernel : ∀ t : Fin grid0.N, _)

theorem row_place {t : Fin cfg0.N} {i : Fin 256} {l : Fin 1024} {x : Fin 2 → ℕ} (hx : x = ![t.val, 0]) {y : S8192x1024.Idx}
    (h0 : (y 0).val = x 0 * 256 + 1 * i.val) (h1 : (y 1).val = x 1 * 1024 + 1 * l.val) : y = ix2 (rowOf t i) l := by
  subst hx
  have h0' : (y 0).val = t.val * 256 + 1 * i.val := h0
  have h1' : (y 1).val = 0 * 1024 + 1 * l.val := h1
  funext a
  match a with
  | ⟨0, _⟩ => exact Fin.ext (by show (y 0).val = 256 * t.val + i.val; omega)
  | ⟨1, _⟩ => exact Fin.ext (by show (y 1).val = l.val; omega)

theorem lane_place {l : Fin 1024} {x : Fin 2 → ℕ} (hx : x = ![0, 0]) {y : S1x1024.Idx}
    (h1 : (y 1).val = x 1 * 1024 + 1 * l.val) : y = ix2 0 l := by
  subst hx
  have h0 : (y 0).val < 1 := (y 0).isLt
  have h1' : (y 1).val = 0 * 1024 + 1 * l.val := h1
  funext a
  match a with
  | ⟨0, _⟩ => exact Fin.ext (by show (y 0).val = 0; omega)
  | ⟨1, _⟩ => exact Fin.ext (by show (y 1).val = l.val; omega)

variable (t : Fin cfg0.N) (i : Fin 256) (l : Fin 1024)

theorem blk_r : (iblk m c 0 t : FVec Ideal S256x1024 .bf16) (ix2 i l) = flat (m ((c : Thread nD τ).loc main_arg0)) (ix2 (rowOf t i) l) :=
  (congrFun (V_r m c) _).trans (congrArg (flat _) (row_place (index_rows t).1.1 rfl rfl))
theorem blk_lw : (iblk m c 1 t : FVec Ideal S256x1024 .f32) (ix2 i l) = flat (m ((c : Thread nD τ).loc main_arg1)) (ix2 (rowOf t i) l) :=
  (congrFun (V_lw m c) _).trans (congrArg (flat _) (row_place (index_rows t).1.2.1 rfl rfl))
theorem blk_k : (iblk m c 2 t : FVec Ideal S256x1024 .bf16) (ix2 i l) = flat (m ((c : Thread nD τ).loc main_arg2)) (ix2 (rowOf t i) l) :=
  (congrFun (V_k m c) _).trans (congrArg (flat _) (row_place (index_rows t).1.2.2.1 rfl rfl))
theorem blk_v : (iblk m c 3 t : FVec Ideal S256x1024 .bf16) (ix2 i l) = flat (m ((c : Thread nD τ).loc main_arg3)) (ix2 (rowOf t i) l) :=
  (congrFun (V_v m c) _).trans (congrArg (flat _) (row_place (index_rows t).1.2.2.2 rfl rfl))
theorem blk_kk : (iblk m c 4 t : FVec Ideal S256x1024 .bf16) (ix2 i l) = flat (m ((c : Thread nD τ).loc main_arg4)) (ix2 (rowOf t i) l) :=
  (congrFun (V_kk m c) _).trans (congrArg (flat _) (row_place (index_rows t).2.1 rfl rfl))
theorem blk_bb : (iblk m c 5 t : FVec Ideal S256x1024 .bf16) (ix2 i l)
    = flat (m ((c : Thread nD τ).loc main_arg4)) (ix2 (rowOf t i) l) * flat (m ((c : Thread nD τ).loc main_arg5)) (ix2 (rowOf t i) l) :=
  (congrFun (V_bb m c) _).trans
    (congrArg (mulf (F := Ideal) (φ := .f32) (flat (m ((c : Thread nD τ).loc main_arg4))) (flat (m ((c : Thread nD τ).loc main_arg5))))
      (row_place (index_rows t).2.2.1 rfl rfl))
theorem blk_g : (iblk m c 6 t : FVec Ideal S256x1024 .bf16) (ix2 i l) = flat (m ((c : Thread nD τ).loc main_arg6)) (ix2 (rowOf t i) l) :=
  (congrFun (V_g m c) _).trans (congrArg (flat _) (row_place (index_rows t).2.2.2.1 rfl rfl))
theorem blk_bon : (iblk m c 7 t : FVec Ideal S256x1024 .bf16) (ix2 i l) = flat (m ((c : Thread nD τ).loc main_arg7)) (ix2 (rowOf t i) l) :=
  (congrFun (V_bon m c) _).trans (congrArg (flat _) (row_place (index_rows t).2.2.2.2 rfl rfl))
theorem blk_lg : (iblk m c 8 t : FVec Ideal S1x1024 .f32) (ix2 0 l) = flat1 (m ((c : Thread nD τ).loc main_arg8)) (ix2 0 l) :=
  (congrFun (V_lg m c) _).trans (congrArg (flat1 _) (lane_place (index_lanes t).1 rfl))
theorem blk_lb : (iblk m c 9 t : FVec Ideal S1x1024 .f32) (ix2 0 l) = flat1 (m ((c : Thread nD τ).loc main_arg9)) (ix2 0 l) :=
  (congrFun (V_lb m c) _).trans (congrArg (flat1 _) (lane_place (index_lanes t).2 rfl))

end RwkvCore
-- ==== Proof.LinkA.lean ====
/-
  The values the generated run leaves at a grid point, put together from the kernel's own operations as
  `Chain` and `Point` name them: the points that start a sequence, from states of zeros.
-/
module

public import proofs.«01_k».proof.Proof.Gen.KernelIdeal.Frame
public import proofs.«01_k».proof.Proof.Point
public import Idealize.ShloMosaic.Lib.Pipeline.ReadBack
public import Idealize.ShloMosaic.Lib.Pipeline.ValueKit

@[expose] public section

set_option maxRecDepth 65536
set_option maxHeartbeats 0

noncomputable section

namespace RwkvCore

open Idealize.ShloMosaic Cert.KernelIdeal Cert.KernelIdeal.Gen

variable {F : FTy → Type} [FloatOps F]

theorem inb_whole : ∀ a, (![0, 0, 0] : Fin 3 → ℕ) a + S8x128x128.size a ≤ S8x128x128.size a := by decide

/-- The block of results of a point that starts a sequence. -/
theorem out_A (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x128x128 .f32) (harg13 : arg13.IsWhole) (hc0 : cond0_0 i)
    (x0 : Vec F S256x1024 .bf16) (x1 : Vec F S256x1024 .f32) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x1024 .f32) (x9 : Vec F S1x1024 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = View.canon (outTiles ⟨x0, x1, x2, x3, x4, x5, x6, x7, x8, x9⟩ k0_pay2) := by
  frame_open
  simp (disch := decide) only [↓ View.readCov_skip, ↓ View.readCov_cons_toLoadRect, ↓ View.readCov_fill]
  frame_out
  sl_kernel_rfl

/-- The states such a point leaves. -/
theorem states_A (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x128x128 .f32) (harg13 : arg13.IsWhole) (hc0 : cond0_0 i)
    (x0 : Vec F S256x1024 .bf16) (x1 : Vec F S256x1024 .f32) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x1024 .f32) (x9 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = View.canon (stateSlabs ⟨x0, x1, x2, x3, x4, x5, x6, x7, x8, x9⟩ k0_pay2 3 ++ stateSlabs ⟨x0, x1, x2, x3, x4, x5, x6, x7, x8, x9⟩ k0_pay2 2 ++ stateSlabs ⟨x0, x1, x2, x3, x4, x5, x6, x7, x8, x9⟩ k0_pay2 1 ++ stateSlabs ⟨x0, x1, x2, x3, x4, x5, x6, x7, x8, x9⟩ k0_pay2 0 ++ [⟨Rect.unit ![0, 0, 0] S8x128x128.size inb_whole, k0_pay2⟩]) := by
  frame_open
  simp (disch := decide) only [↓ View.readCov_skip, ↓ View.readCov_cons_toLoadRect, ↓ View.readCov_fill]
  frame_out
  sl_kernel_rfl

end RwkvCore
-- ==== Proof.LinkB.lean ====
/-
  The values the generated run leaves at a grid point, put together from the kernel's own operations as
  `Chain` and `Point` name them: the points that go on from carried states.
-/
module

public import proofs.«01_k».proof.Proof.Gen.KernelIdeal.Frame
public import proofs.«01_k».proof.Proof.Point
public import Idealize.ShloMosaic.Lib.Pipeline.ReadBack
public import Idealize.ShloMosaic.Lib.Pipeline.ValueKit

@[expose] public section

set_option maxRecDepth 65536
set_option maxHeartbeats 0

noncomputable section

namespace RwkvCore

open Idealize.ShloMosaic Cert.KernelIdeal Cert.KernelIdeal.Gen

variable {F : FTy → Type} [FloatOps F]

/-- The block of results of a point that goes on from the carried states. -/
theorem out_B (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x128x128 .f32) (harg13 : arg13.IsWhole) (hc0 : ¬cond0_0 i)
    (x0 : Vec F S256x1024 .bf16) (x1 : Vec F S256x1024 .f32) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x1024 .f32) (x9 : Vec F S1x1024 .f32) (xs0 : Vec F S8x128x128 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = View.canon (outTiles ⟨x0, x1, x2, x3, x4, x5, x6, x7, x8, x9⟩ xs0) := by
  frame_open
  simp (disch := decide) only [↓ View.readCov_skip, ↓ View.readCov_cons_toLoadRect, ↓ View.readCov_fill]
  frame_out
  sl_kernel_rfl

/-- The states such a point leaves. -/
theorem states_B (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .bf16) (harg12 : arg12.IsWhole) (arg13 : Memref sig .tc .vmem S8x128x128 .f32) (harg13 : arg13.IsWhole) (hc0 : ¬cond0_0 i)
    (x0 : Vec F S256x1024 .bf16) (x1 : Vec F S256x1024 .f32) (x2 : Vec F S256x1024 .bf16) (x3 : Vec F S256x1024 .bf16) (x4 : Vec F S256x1024 .bf16) (x5 : Vec F S256x1024 .bf16) (x6 : Vec F S256x1024 .bf16) (x7 : Vec F S256x1024 .bf16) (x8 : Vec F S1x1024 .f32) (x9 : Vec F S1x1024 .f32) (xs0 : Vec F S8x128x128 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = View.canon (stateSlabs ⟨x0, x1, x2, x3, x4, x5, x6, x7, x8, x9⟩ xs0 3 ++ stateSlabs ⟨x0, x1, x2, x3, x4, x5, x6, x7, x8, x9⟩ xs0 2 ++ stateSlabs ⟨x0, x1, x2, x3, x4, x5, x6, x7, x8, x9⟩ xs0 1 ++ stateSlabs ⟨x0, x1, x2, x3, x4, x5, x6, x7, x8, x9⟩ xs0 0) := by
  frame_open
  simp (disch := decide) only [↓ View.readCov_skip, ↓ View.readCov_cons_toLoadRect, ↓ View.readCov_fill]
  frame_out
  sl_kernel_rfl

end RwkvCore
-- ==== Proof.Grid.lean ====
/-
  The kernel's result over the reals: going through the grid, the carried states are those of the sequence
  of the point's batch, and the result array holds what the recurrence reads out, normalised, scaled,
  shifted and gated.
-/
module

public import proofs.«01_k».proof.Proof.Gen.KernelIdeal.Value
public import proofs.«01_k».proof.Proof.PointValue
public import proofs.«01_k».proof.Proof.Entry
public import proofs.«01_k».proof.Proof.LinkA
public import proofs.«01_k».proof.Proof.LinkB

@[expose] public section

set_option maxRecDepth 16384

noncomputable section

namespace RwkvCore

open Idealize.ShloMosaic Idealize.ShloMosaic.TcCoe Idealize.ShloMosaic.Pointwise Cert.KernelIdeal Cert.KernelIdeal.Gen

/-- The arguments of the recurrence hold real numbers, here by batch, lane and step. -/
structure RealArgs (r lw k v kk a : FVec Ideal S2x4096x1024 .f32) (R W K U KK A : Fin 2 → Fin 1024 → ℕ → ℝ) : Prop where
  r : ∀ b (t : Fin 4096) l, r (ix3 b t l) = ((R b l t : ℝ) : EReal)
  lw : ∀ b (t : Fin 4096) l, lw (ix3 b t l) = ((W b l t : ℝ) : EReal)
  k : ∀ b (t : Fin 4096) l, k (ix3 b t l) = ((K b l t : ℝ) : EReal)
  v : ∀ b (t : Fin 4096) l, v (ix3 b t l) = ((U b l t : ℝ) : EReal)
  kk : ∀ b (t : Fin 4096) l, kk (ix3 b t l) = ((KK b l t : ℝ) : EReal)
  a : ∀ b (t : Fin 4096) l, a (ix3 b t l) = ((A b l t : ℝ) : EReal)

/-- The sequence of a batch. -/
def seqOf (R W K U KK A : Fin 2 → Fin 1024 → ℕ → ℝ) (b : Fin 2) : Seq :=
  ⟨R b, W b, K b, U b, KK b, fun l t => KK b l t * A b l t⟩

/-- The zeros a sequence starts from are its states before step 0. -/
theorem zeros_isStates (q : Seq) : IsStates (k0_pay2 (F := Ideal)) q 0 := by
  intro p i j
  have h : stateM (fun h => q.stateAt p h 0) i j = 0 := by
    unfold stateM; split <;> rfl
  rw [h]
  pointwise [k0_pay2]
  rfl

variable (m : (ℓ : Loc nD τ sig) → Buf (Elt Ideal) ℓ) (c : Dev nD)

/-- The blocks of a point. -/
def blocksAt (t : Fin cfg0.N) : Blocks Ideal :=
  ⟨iblk m c 0 t, iblk m c 1 t, iblk m c 2 t, iblk m c 3 t, iblk m c 4 t, iblk m c 5 t, iblk m c 6 t, iblk m c 7 t,
    iblk m c 8 t, iblk m c 9 t⟩

/-- The batch of a point. -/
def batchOf (n : ℕ) : Fin 2 := ⟨n / 16 % 2, by omega⟩

theorem flat_row (x : FVec Ideal S2x4096x1024 .f32) (t : Fin cfg0.N) (i : Fin 256) (l : Fin 1024) :
    flat x (ix2 (rowOf t i) l) = x (ix3 (batchOf t.val) ⟨256 * (t.val % 16) + i.val, by omega⟩ l) := by
  have ht : t.val < 32 := lt_of_lt_of_eq t.isLt N_0
  rw [flat_apply]
  congr 2
  · exact Fin.ext (by show (256 * t.val + i.val) / 4096 = t.val / 16 % 2; omega)
  · exact Fin.ext (by show (256 * t.val + i.val) % 4096 = 256 * (t.val % 16) + i.val; omega)

variable {R W K U KK A : Fin 2 → Fin 1024 → ℕ → ℝ}
  (D : RealArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) R W K U KK A)
include D

/-- A point's blocks are 256 steps of its batch's sequence. -/
theorem blocksAt_isBlocks (t : Fin cfg0.N) :
    IsBlocks (blocksAt m c t) (seqOf R W K U KK A (batchOf t.val)) (256 * (t.val % 16)) where
  r i l := (blk_r m c t i l).trans ((flat_row _ t i l).trans (D.r _ _ _))
  lw i l := (blk_lw m c t i l).trans ((flat_row _ t i l).trans (D.lw _ _ _))
  k i l := (blk_k m c t i l).trans ((flat_row _ t i l).trans (D.k _ _ _))
  v i l := (blk_v m c t i l).trans ((flat_row _ t i l).trans (D.v _ _ _))
  kk i l := (blk_kk m c t i l).trans ((flat_row _ t i l).trans (D.kk _ _ _))
  bb i l := (blk_bb m c t i l).trans (by
    rw [flat_row, flat_row, D.kk, D.a, ← EReal.coe_mul]
    rfl)

omit D in
/-- The states a point of either kind leaves, and its block of results, over the states before it. -/
theorem point_values (t : Fin cfg0.N) : ∃ z : Vec Ideal S8x128x128 .f32,
    (∃ L, (outsAt0 m c t.val t.isLt).2 = View.canon (stateSlabs (blocksAt m c t) z 3 ++ L))
    ∧ (outsAt0 m c t.val t.isLt).1 = View.canon (outTiles (blocksAt m c t) z)
    ∧ ((t.val % 16 = 0 ∧ z = k0_pay2 (F := Ideal))
      ∨ (¬ t.val % 16 = 0 ∧ ∃ h : t.val - 1 < cfg0.N, z = (outsAt0 m c (t.val - 1) h).2)) := by
  by_cases h0 : t.val % 16 = 0
  · refine ⟨k0_pay2 (F := Ideal), ⟨stateSlabs (blocksAt m c t) (k0_pay2 (F := Ideal)) 2 ++ (stateSlabs (blocksAt m c t) (k0_pay2 (F := Ideal)) 1
      ++ (stateSlabs (blocksAt m c t) (k0_pay2 (F := Ideal)) 0 ++ [⟨Rect.unit ![0, 0, 0] S8x128x128.size inb_whole, k0_pay2 (F := Ideal)⟩])), ?_⟩, ?_, .inl ⟨h0, rfl⟩⟩
    · rw [outsAt0_A m c t h0]; dsimp only
      refine (states_A (F := Ideal) ..).trans ?_
      rw [List.append_assoc, List.append_assoc, List.append_assoc]
      rfl
    · rw [outsAt0_A m c t h0]; dsimp only
      exact out_A (F := Ideal) ..
  · have hp : t.val - 1 < cfg0.N := lt_of_le_of_lt (Nat.sub_le _ _) t.isLt
    refine ⟨(outsAt0 m c (t.val - 1) hp).2, ⟨stateSlabs (blocksAt m c t) (outsAt0 m c (t.val - 1) hp).2 2
      ++ (stateSlabs (blocksAt m c t) (outsAt0 m c (t.val - 1) hp).2 1
      ++ stateSlabs (blocksAt m c t) (outsAt0 m c (t.val - 1) hp).2 0), ?_⟩, ?_, .inr ⟨h0, _, rfl⟩⟩
    · rw [outsAt0_B m c t h0]; dsimp only
      refine (states_B (F := Ideal) ..).trans ?_
      rw [List.append_assoc, List.append_assoc]
      rfl
    · rw [outsAt0_B m c t h0]; dsimp only
      exact out_B (F := Ideal) ..

/-- After a point the carried states are those of its batch after the point's steps. -/
theorem states_after : ∀ (n : ℕ) (hn : n < cfg0.N),
    IsStates (outsAt0 m c n hn).2 (seqOf R W K U KK A (batchOf n)) (256 * (n % 16) + 256) := by
  intro n
  induction n with
  | zero =>
    intro hn
    obtain ⟨z, ⟨L, hL⟩, -, hz⟩ := point_values m c ⟨0, hn⟩
    rcases hz with ⟨-, rfl⟩ | ⟨h, -⟩
    · rw [hL]
      exact stateSlabs_isStates (blocksAt_isBlocks m c D ⟨0, hn⟩) (zeros_isStates _) L
    · exact absurd rfl h
  | succ n ih =>
    intro hn
    obtain ⟨z, ⟨L, hL⟩, -, hz⟩ := point_values m c ⟨n + 1, hn⟩
    rw [hL]
    refine stateSlabs_isStates (blocksAt_isBlocks m c D ⟨n + 1, hn⟩) ?_ L
    rcases hz with ⟨h0, rfl⟩ | ⟨h0, h, rfl⟩
    · have h0' : (n + 1) % 16 = 0 := h0
      show IsStates _ _ (256 * ((n + 1) % 16))
      rw [h0']
      exact zeros_isStates _
    · have h0' : ¬ (n + 1) % 16 = 0 := h0
      have hb : batchOf (n + 1) = batchOf n := Fin.ext (by show (n + 1) / 16 % 2 = n / 16 % 2; omega)
      show IsStates (outsAt0 m c n _).2 (seqOf R W K U KK A (batchOf (n + 1))) (256 * ((n + 1) % 16))
      rw [hb, show 256 * ((n + 1) % 16) = 256 * (n % 16) + 256 by omega]
      exact ih _

/-- The block of results of a point. -/
theorem block_apply (t : Fin cfg0.N) (i : Fin 256) (p : Fin 8) (l : Fin 128) (w : Fin 1024) (hw : w.val = 128 * p.val + l.val) :
    (outsAt0 m c t.val t.isLt).1 (ix2 i w)
      = (((groupNorm ((seqOf R W K U KK A (batchOf t.val)).outAt p (headOf l) (256 * (t.val % 16) + i.val)) (inHead l) : ℝ) : EReal)
            * flat1 (m ((c : Thread nD τ).loc main_arg8)) (ix2 0 w) + flat1 (m ((c : Thread nD τ).loc main_arg9)) (ix2 0 w)
          + flat (m ((c : Thread nD τ).loc main_arg7)) (ix2 (rowOf t i) w)) * flat (m ((c : Thread nD τ).loc main_arg6)) (ix2 (rowOf t i) w) := by
  obtain ⟨z, -, hout, hz⟩ := point_values m c t
  have hs : IsStates z (seqOf R W K U KK A (batchOf t.val)) (256 * (t.val % 16)) := by
    rcases hz with ⟨h0, hz⟩ | ⟨h0, h, hz⟩
    · rw [h0, hz]
      exact zeros_isStates _
    · have hb : batchOf t.val = batchOf (t.val - 1) := Fin.ext (by show t.val / 16 % 2 = (t.val - 1) / 16 % 2; omega)
      rw [hb, hz, show 256 * (t.val % 16) = 256 * ((t.val - 1) % 16) + 256 by omega]
      exact states_after m c D _ _
  have e := outTiles_apply (blocksAt_isBlocks m c D t) hs i p l w hw
  rw [show (blocksAt m c t).lg (ix2 0 w) = _ from blk_lg m c t w, show (blocksAt m c t).lb (ix2 0 w) = _ from blk_lb m c t w,
    show (blocksAt m c t).bon (ix2 i w) = _ from blk_bon m c t i w, show (blocksAt m c t).g (ix2 i w) = _ from blk_g m c t i w] at e
  exact (congrFun hout (ix2 i w)).trans e

/-- The kernel's result at a batch, a step and a lane. -/
theorem kernel_apply (b : Fin 2) (t : Fin 4096) (p : Fin 8) (l : Fin 128) (n : Fin 8192) (w : Fin 1024)
    (hn : n.val = b.val * 4096 + t.val) (hw : w.val = 128 * p.val + l.val) :
    (Value.G10 m c : FVec Ideal S8192x1024 .bf16) (ix2 n w)
      = (((groupNorm ((seqOf R W K U KK A b).outAt p (headOf l) t.val) (inHead l) : ℝ) : EReal)
            * flat1 (m ((c : Thread nD τ).loc main_arg8)) (ix2 0 w) + flat1 (m ((c : Thread nD τ).loc main_arg9)) (ix2 0 w)
          + flat (m ((c : Thread nD τ).loc main_arg7)) (ix2 n w)) * flat (m ((c : Thread nD τ).loc main_arg6)) (ix2 n w) := by
  have hq : 1 * (n.val / 256 - 0) + 1 * (w.val / 1024 - 0) = n.val / 256 := by omega
  have hpt : n.val / 256 < cfg0.N := lt_of_lt_of_eq (by omega) N_0.symm
  have e := block_apply m c D ⟨n.val / 256, hpt⟩ ⟨n.val % 256, by omega⟩ p l w hw
  have hb : batchOf (n.val / 256) = b := Fin.ext (by show n.val / 256 / 16 % 2 = b.val; omega)
  have ht : 256 * (n.val / 256 % 16) + n.val % 256 = t.val := by omega
  have hr : rowOf (⟨n.val / 256, hpt⟩ : Fin cfg0.N) ⟨n.val % 256, by omega⟩ = n :=
    Fin.ext (by show 256 * (n.val / 256) + n.val % 256 = n.val; omega)
  simp only [hb, ht, hr] at e
  rw [← e]
  have hl : Value.loc10Of (ix2 n w : S8192x1024.Idx) = ix2 ⟨n.val % 256, by omega⟩ w := by
    funext a
    match a with
    | ⟨0, _⟩ => rfl
    | ⟨1, _⟩ => exact Fin.ext (Nat.mod_eq_of_lt w.isLt)
  unfold Value.G10
  rw [dif_pos (show Value.pt10Of (ix2 n w : S8192x1024.Idx) < cfg0.N from lt_of_eq_of_lt hq hpt), hl, Value.outsAt0_sweep]
  exact congrArg (fun z : Vec Ideal S256x1024 .bf16 × Vec Ideal S8x128x128 .f32 => z.1 (ix2 ⟨n.val % 256, by omega⟩ w))
    (Value.fold0_congr m c _ _ _ _ hq)

end RwkvCore
-- ==== Proof.RefTrip.lean ====
/-
  One trip of the reference's loop, read at an index: the row of each carried array the trip takes, the
  state it leaves and the row of outputs it writes.
-/
module

public import proofs.«01_k».proof.Proof.Gen.ReferenceIdeal.Run
public import proofs.«01_k».proof.Proof.DeltaRule
public import Idealize.ShloMosaic.Lib.Pipeline.ValueKit
public import Idealize.ShloMosaic.Lib.WordCmp

@[expose] public section

set_option maxRecDepth 16384

noncomputable section

namespace RwkvCore.Ref

open Idealize.ShloMosaic Idealize.ShloMosaic.StableHlo Cert.ReferenceIdeal Cert.ReferenceIdeal.Gen Cert.ReferenceIdeal.Value
open Idealize.ShloMosaic.Pointwise Idealize.ShloMosaic.WordCmp Finset

/-- The starts of a trip's row, of the word that counts the trips. -/
abbrev starts (w : (⟨S_, .i32⟩ : BufTy).Contents (Elt Ideal)) : Fin 4 → ℤ := fun k =>
  (((![w, constantI S_ 32 0#32, constantI S_ 32 0#32, constantI S_ 32 0#32] :
    Fin 4 → (⟨S_, .i32⟩ : BufTy).Contents (Elt Ideal))) k (Shape.Idx.first h_S_)).toInt

/-- The row a trip takes of a carried array is the one its counter names. -/
theorem row_read (x : FVec Ideal S4096x2x16x64 .f32) (w : (⟨S_, .i32⟩ : BufTy).Contents (Elt Ideal)) (t : Fin 4096)
    (hw : w = fun _ => BitVec.ofNat 32 t.val) (hs) (hc) (b : Fin 2) (h : Fin 16) (c : Fin 64) :
    shapeCast S2x16x64 (Host.dynamicSlice S1x2x16x64 x (starts w) hs) hc (ix3 b h c) = x (ix4 t b h c) := by
  subst hw
  have hk : S4096x2x16x64.Slices ![t.val, 0, 0, 0] S1x2x16x64 :=
    ⟨rfl, fun a => by have := t.isLt; match a with
      | ⟨0, _⟩ => show t.val + 1 ≤ 4096; omega
      | ⟨1, _⟩ => show 0 + 2 ≤ 2; omega
      | ⟨2, _⟩ => show 0 + 16 ≤ 16; omega
      | ⟨3, _⟩ => show 0 + 64 ≤ 64; omega⟩
  rw [dynamicSlice_eq_extract _ _ _ _ ![t.val, 0, 0, 0] hk (fun a => by
    match a with
    | ⟨0, _⟩ => exact toInt_ofNat_of_lt (by have := t.isLt; omega)
    | ⟨1, _⟩ => rfl
    | ⟨2, _⟩ => rfl
    | ⟨3, _⟩ => rfl)]
  pointwise

/-- What a trip finds: its counter, the six arrays it reads a row of, the state and the outputs so far. -/
structure Finds (V : Valuation τ sig (Elt Ideal)) (t : ℕ) (r w k v kk a o : FVec Ideal S4096x2x16x64 .f32)
    (z : FVec Ideal S2x16x64x64 .f32) : Prop where
  counter : V (Proc.devRef .tc main_v15_6) = fun _ => BitVec.ofNat 32 t
  r : V (Proc.devRef .tc main_v15_0) = r
  w : V (Proc.devRef .tc main_v15_1) = w
  k : V (Proc.devRef .tc main_v15_2) = k
  v : V (Proc.devRef .tc main_v15_3) = v
  kk : V (Proc.devRef .tc main_v15_4) = kk
  a : V (Proc.devRef .tc main_v15_5) = a
  z : V (Proc.devRef .tc main_v15_7) = z
  o : V (Proc.devRef .tc main_v15_8) = o

variable {V : Valuation τ sig (Elt Ideal)} {r w k v kk a o : FVec Ideal S4096x2x16x64 .f32}
  {z : FVec Ideal S2x16x64x64 .f32}

/-- The state a trip leaves, of the state it finds and its rows. -/
def nextAt (t : Fin 4096) (w k v kk a : FVec Ideal S4096x2x16x64 .f32) (z : FVec Ideal S2x16x64x64 .f32)
    (b : Fin 2) (h : Fin 16) (d c : Fin 64) : EReal :=
  z (ix4 b h d c) * w (ix4 t b h c)
    + (∑ j : Fin 64, z (ix4 b h d j) * -kk (ix4 t b h j)) * (kk (ix4 t b h c) * a (ix4 t b h c))
    + v (ix4 t b h d) * k (ix4 t b h c)

theorem res_apply (t : Fin 4096) (H : Finds V t r w k v kk a o z) (b : Fin 2) (h : Fin 16) (d c : Fin 64) :
    (res_main_while0b_v69 V : FVec Ideal S2x16x64x64 .f32) (ix4 b h d c) = nextAt t w k v kk a z b h d c := by
  have r1 := row_read w _ t H.counter sliceFits_S4096x2x16x64_S1x2x16x64 shapeCasts_S1x2x16x64_S2x16x64
  have r2 := row_read k _ t H.counter sliceFits_S4096x2x16x64_S1x2x16x64 shapeCasts_S1x2x16x64_S2x16x64
  have r3 := row_read v _ t H.counter sliceFits_S4096x2x16x64_S1x2x16x64 shapeCasts_S1x2x16x64_S2x16x64
  have r4 := row_read kk _ t H.counter sliceFits_S4096x2x16x64_S1x2x16x64 shapeCasts_S1x2x16x64_S2x16x64
  have r5 := row_read a _ t H.counter sliceFits_S4096x2x16x64_S1x2x16x64 shapeCasts_S1x2x16x64_S2x16x64
  unfold res_main_while0b_v69 res_main_while0b_v50 nextAt
  rw [H.w, H.k, H.v, H.kk, H.a, H.z]
  generalize shapeCast S2x16x64 (Host.dynamicSlice S1x2x16x64 w _ _) _ = x1 at r1 ⊢
  generalize shapeCast S2x16x64 (Host.dynamicSlice S1x2x16x64 k _ _) _ = x2 at r2 ⊢
  generalize shapeCast S2x16x64 (Host.dynamicSlice S1x2x16x64 v _ _) _ = x3 at r3 ⊢
  generalize shapeCast S2x16x64 (Host.dynamicSlice S1x2x16x64 kk _ _) _ = x4 at r4 ⊢
  generalize shapeCast S2x16x64 (Host.dynamicSlice S1x2x16x64 a _ _) _ = x5 at r5 ⊢
  pointwise
  simp only [r1, r2, r3, r4, r5]

theorem step_state (t : Fin 4096) (H : Finds V t r w k v kk a o z) (b : Fin 2) (h : Fin 16) (d c : Fin 64) :
    (step_main_v15_7 V : FVec Ideal S2x16x64x64 .f32) (ix4 b h d c) = nextAt t w k v kk a z b h d c := by
  unfold step_main_v15_7; exact res_apply t H b h d c

/-- The outputs a trip leaves: those so far, and its own row. -/
theorem step_out (t : Fin 4096) (H : Finds V t r w k v kk a o z) (s : Fin 4096) (b : Fin 2) (h : Fin 16) (d : Fin 64) :
    (step_main_v15_8 V : FVec Ideal S4096x2x16x64 .f32) (ix4 s b h d)
      = if s = t then ∑ j : Fin 64, nextAt t w k v kk a z b h d j * r (ix4 t b h j) else o (ix4 s b h d) := by
  have r0 := row_read r _ t H.counter sliceFits_S4096x2x16x64_S1x2x16x64 shapeCasts_S1x2x16x64_S2x16x64
  have e := res_apply t H
  unfold step_main_v15_8
  rw [H.o, H.r]
  generalize shapeCast S2x16x64 (Host.dynamicSlice S1x2x16x64 r _ _) _ = x0 at r0 ⊢
  generalize res_main_while0b_v69 V = n at e ⊢
  have hk : S4096x2x16x64.Slices ![t.val, 0, 0, 0] S1x2x16x64 :=
    ⟨rfl, fun a => by have := t.isLt; match a with
      | ⟨0, _⟩ => show t.val + 1 ≤ 4096; omega
      | ⟨1, _⟩ => show 0 + 2 ≤ 2; omega
      | ⟨2, _⟩ => show 0 + 16 ≤ 16; omega
      | ⟨3, _⟩ => show 0 + 64 ≤ 64; omega⟩
  rw [H.counter]
  rw [dynamicUpdateSlice_eq_update _ _ _ _ ![t.val, 0, 0, 0] hk (fun a => by
    match a with
    | ⟨0, _⟩ => exact toInt_ofNat_of_lt (by have := t.isLt; omega)
    | ⟨1, _⟩ => rfl
    | ⟨2, _⟩ => rfl
    | ⟨3, _⟩ => rfl)]
  rw [id_eq]
  unfold updateSlice
  by_cases hs : s = t
  · subst hs
    rw [if_pos rfl, dif_pos (fun a => by
      match a with
      | ⟨0, _⟩ => exact ⟨le_refl s.val, Nat.lt_succ_self s.val⟩
      | ⟨1, _⟩ => exact ⟨Nat.zero_le _, by show b.val < 0 + 2; omega⟩
      | ⟨2, _⟩ => exact ⟨Nat.zero_le _, by show h.val < 0 + 16; omega⟩
      | ⟨3, _⟩ => exact ⟨Nat.zero_le _, by show d.val < 0 + 64; omega⟩)]
    pointwise [Shape.Idx.norm]
    simp only [r0, e]
  · rw [if_neg hs, dif_neg (fun hin => hs (Fin.ext (by
      have h0 := hin 0
      have h1 : t.val ≤ s.val := h0.1
      have h2 : s.val < t.val + 1 := h0.2
      omega)))]

/-! ## The loop -/

/-- The arrays a loop reads have real entries, the decays being exponentials. -/
structure Reals (r w k v kk a : FVec Ideal S4096x2x16x64 .f32) (R W K V KK A : Fin 2 → Fin 16 → ℕ → Fin 64 → ℝ) : Prop where
  r : ∀ (t : Fin 4096) b h c, r (ix4 t b h c) = ((R b h t c : ℝ) : EReal)
  w : ∀ (t : Fin 4096) b h c, w (ix4 t b h c) = ((Real.exp (W b h t c) : ℝ) : EReal)
  k : ∀ (t : Fin 4096) b h c, k (ix4 t b h c) = ((K b h t c : ℝ) : EReal)
  v : ∀ (t : Fin 4096) b h c, v (ix4 t b h c) = ((V b h t c : ℝ) : EReal)
  kk : ∀ (t : Fin 4096) b h c, kk (ix4 t b h c) = ((KK b h t c : ℝ) : EReal)
  a : ∀ (t : Fin 4096) b h c, a (ix4 t b h c) = ((A b h t c : ℝ) : EReal)

variable {R W K U KK A : Fin 2 → Fin 16 → ℕ → Fin 64 → ℝ}

/-- The recurrence's state of a batch and head after `t` steps from zero. -/
def stateOf (W K U KK A : Fin 2 → Fin 16 → ℕ → Fin 64 → ℝ) (b : Fin 2) (h : Fin 16) : ℕ → Fin 64 → Fin 64 → ℝ :=
  state (W b h) (fun t c => -KK b h t c) (fun t c => KK b h t c * A b h t c) (K b h) (U b h) fun _ _ => 0

/-- The recurrence's output at step `t`. -/
def outOf (R W K U KK A : Fin 2 → Fin 16 → ℕ → Fin 64 → ℝ) (b : Fin 2) (h : Fin 16) (t : ℕ) (d : Fin 64) : ℝ :=
  ∑ c, stateOf W K U KK A b h (t + 1) c d * R b h t c

theorem coe_sum' {n : ℕ} (f : Fin n → ℝ) : ∑ i, ((f i : ℝ) : EReal) = ((∑ i, f i : ℝ) : EReal) := by
  induction n with
  | zero => simp
  | succ n ih => rw [Fin.sum_univ_castSucc, Fin.sum_univ_castSucc, ih, EReal.coe_add]

theorem nextAt_real (D : Reals r w k v kk a R W K U KK A) (t : Fin 4096)
    (hz : ∀ b h d c, z (ix4 b h d c) = ((stateOf W K U KK A b h t c d : ℝ) : EReal)) (b : Fin 2) (h : Fin 16) (d c : Fin 64) :
    nextAt t w k v kk a z b h d c = ((stateOf W K U KK A b h (t.val + 1) c d : ℝ) : EReal) := by
  unfold nextAt
  simp only [hz, D.w, D.k, D.v, D.kk, D.a, ← EReal.coe_neg, ← EReal.coe_mul, coe_sum', ← EReal.coe_add]
  rfl

/-- What the loop has made after `n` trips. -/
theorem loop (D : Reals r w k v kk a R W K U KK A) (V0 : Valuation τ sig (Elt Ideal)) {o0 : FVec Ideal S4096x2x16x64 .f32}
    (H0 : Finds V0 0 r w k v kk a o0 z) (hz : ∀ b h d c, z (ix4 b h d c) = 0) : ∀ n, n ≤ 4096 →
    ∃ o z, Finds (STEP^[n] V0) n r w k v kk a o z
      ∧ (∀ b h d c, z (ix4 b h d c) = ((stateOf W K U KK A b h n c d : ℝ) : EReal))
      ∧ ∀ s : Fin 4096, s.val < n → ∀ b h d, o (ix4 s b h d) = ((outOf R W K U KK A b h s d : ℝ) : EReal)
  | 0, _ => ⟨o0, z, H0, fun b h d c => (hz b h d c).trans EReal.coe_zero.symm, fun s hs => absurd hs (Nat.not_lt_zero _)⟩
  | n + 1, hn => by
    obtain ⟨o, z, H, hz, ho⟩ := loop D V0 H0 hz n (by omega)
    rw [Function.iterate_succ_apply']
    have e := step_state ⟨n, hn⟩ H
    have eo := step_out ⟨n, hn⟩ H
    have en := nextAt_real D ⟨n, hn⟩ hz
    refine ⟨step_main_v15_8 (STEP^[n] V0), step_main_v15_7 (STEP^[n] V0),
      ⟨?_, ?_, ?_, ?_, ?_, ?_, ?_, ?_, ?_⟩, fun b h d c => (e b h d c).trans (en b h d c), fun s hs b h d => ?_⟩
    · rw [STEP_main_v15_6, step_main_v15_6, H.counter, id_eq]
      funext i
      exact (BitVec.ofNat_add n 1).symm
    · rw [STEP_main_v15_0]; exact H.r
    · rw [STEP_main_v15_1]; exact H.w
    · rw [STEP_main_v15_2]; exact H.k
    · rw [STEP_main_v15_3]; exact H.v
    · rw [STEP_main_v15_4]; exact H.kk
    · rw [STEP_main_v15_5]; exact H.a
    · exact STEP_main_v15_7 _
    · exact STEP_main_v15_8 _
    · refine (eo s b h d).trans ?_
      by_cases hs' : s = ⟨n, hn⟩
      · rw [if_pos hs']
        subst hs'
        simp only [en, D.r, ← EReal.coe_mul, coe_sum']
        rfl
      · rw [if_neg hs']
        exact ho s (by have : s.val ≠ n := fun e => hs' (Fin.ext e); omega) b h d

end RwkvCore.Ref
-- ==== Proof.RefValue.lean ====
/-
  The reference's result at an index: the recurrence's outputs, normalised by head, scaled, shifted and
  gated.
-/
module

public import proofs.«01_k».proof.Proof.RefTrip
public import proofs.«01_k».proof.Proof.GroupNorm

@[expose] public section

set_option maxRecDepth 16384

noncomputable section

namespace RwkvCore.Ref

open Idealize.ShloMosaic Idealize.ShloMosaic.StableHlo Cert.ReferenceIdeal Cert.ReferenceIdeal.Gen Cert.ReferenceIdeal.Value
open Idealize.ShloMosaic.Pointwise Idealize.ShloMosaic.WordCmp Finset

/-- The reference's quotients by 64 are the products by 1/64 of the group norm. -/
theorem div_64 (x : ℝ) : Ideal.div ((x : ℝ) : EReal) (Ideal.ofBits .f32 0x42800000#32) = ((x * (1 / 64) : ℝ) : EReal) := by
  rw [ofBits_sixtyFour, Ideal.div_coe (by norm_num), ← EReal.coe_mul]

theorem groupNorm_div (x : Fin 64 → ℝ) (c : Fin 64) :
    (((x c : ℝ) : EReal) - Ideal.div (∑ i, ((x i : ℝ) : EReal)) (Ideal.ofBits .f32 0x42800000#32))
      * Ideal.rsqrt (Ideal.div (∑ i, (((x i : ℝ) : EReal) - Ideal.div (∑ j, ((x j : ℝ) : EReal)) (Ideal.ofBits .f32 0x42800000#32))
            * (((x i : ℝ) : EReal) - Ideal.div (∑ j, ((x j : ℝ) : EReal)) (Ideal.ofBits .f32 0x42800000#32)))
          (Ideal.ofBits .f32 0x42800000#32) + Ideal.ofBits .f32 0x3A27C5AC#32)
      = ((groupNorm x c : ℝ) : EReal) := by
  simp only [RwkvCore.coe_sum, div_64, ← EReal.coe_sub, ← EReal.coe_mul, ofBits_eps]
  exact (congrArg _ (rsqrt_variance x)).trans (EReal.coe_mul _ _).symm

/-- The row of the result of a batch and step. -/
def row (b : Fin 2) (t : Fin 4096) : Fin 8192 := ⟨b.val * 4096 + t.val, by have := b.isLt; have := t.isLt; omega⟩

/-- The channel of a head and place. -/
def chan (h : Fin 16) (c : Fin 64) : Fin 1024 := ⟨h.val * 64 + c.val, by have := h.isLt; have := c.isLt; omega⟩

/-- A host argument with heads apart and steps leading. -/
def led (x : FVec Ideal S2x4096x1024 .f32) : FVec Ideal S4096x2x16x64 .f32 :=
  transpose S4096x2x16x64 [1, 0, 2, 3] (shapeCast S2x4096x16x64 x shapeCasts_S2x4096x1024_S2x4096x16x64)
    transposes_S2x4096x16x64_S4096x2x16x64_1_0_2_3

theorem led_apply (x : FVec Ideal S2x4096x1024 .f32) (t : Fin 4096) (b : Fin 2) (h : Fin 16) (c : Fin 64) :
    led x (ix4 t b h c) = x (ix3 b t (chan h c)) := by
  pointwise [led]
  rfl

theorem entry_finds (m : (ℓ : Loc nD τ sig) → Buf (Elt Ideal) ℓ) (c : Dev nD) :
    Finds (entryContents preI m c) 0 (led (m ((c.tc : Thread nD τ).loc main_arg0)))
      (led (Host.exp (m ((c.tc : Thread nD τ).loc main_arg1) : FVec Ideal S2x4096x1024 .f32)))
      (led (m ((c.tc : Thread nD τ).loc main_arg2))) (led (m ((c.tc : Thread nD τ).loc main_arg3)))
      (led (m ((c.tc : Thread nD τ).loc main_arg4))) (led (m ((c.tc : Thread nD τ).loc main_arg5)))
      (broadcastInDim S4096x2x16x64 ![] bcast_S_S4096x2x16x64 (constant S_ .f32 0x00000000#32))
      (broadcastInDim S2x16x64x64 ![] bcast_S_S2x16x64x64 (constant S_ .f32 0x00000000#32)) := by
  refine ⟨?_, ?_, ?_, ?_, ?_, ?_, ?_, ?_, ?_⟩ <;>
    (simp only [entryContents, afterL_cons, afterL_nil]; after_reads_simp; rfl)

theorem out_apply (V : Valuation τ sig (Elt Ideal)) {o : FVec Ideal S4096x2x16x64 .f32} (hV : V (Proc.devRef .tc main_v15_8) = o)
    {g bon : FVec Ideal S2x4096x1024 .f32} {lg lb : FVec Ideal S1024 .f32}
    (hg : V (Proc.devRef .tc main_arg6) = g) (hbon : V (Proc.devRef .tc main_arg7) = bon)
    (hlg : V (Proc.devRef .tc main_arg8) = lg) (hlb : V (Proc.devRef .tc main_arg9) = lb)
    {f : Fin 2 → Fin 16 → ℕ → Fin 64 → ℝ} (ho : ∀ (s : Fin 4096) b h d, o (ix4 s b h d) = ((f b h s d : ℝ) : EReal))
    (b : Fin 2) (t : Fin 4096) (h : Fin 16) (c : Fin 64) :
    (out_main_v45 V : FVec Ideal S8192x1024 .bf16) (ix2 (row b t) (chan h c))
      = (((groupNorm (f b h t) c : ℝ) : EReal) * lg (ix1 (chan h c)) + lb (ix1 (chan h c)) + bon (ix3 b t (chan h c)))
        * g (ix3 b t (chan h c)) := by
  unfold out_main_v45
  rw [hV, hg, hbon, hlg, hlb]
  pointwise [row, chan]
  simp only [ho]
  rw [groupNorm_div]

end RwkvCore.Ref
-- ==== Proof.Finite.lean ====
/-
  What the precondition says: the six operands of the recurrence hold real numbers.
-/
module

public import proofs.«01_k».proof.Pre_finite
public import Idealize.ShloMosaic.Lib.Pipeline.ValueKit
public import Idealize.ShloMosaic.Lib.WordCmp
public import proofs.«01_k».proof.Proof.Consts

@[expose] public section

noncomputable section

namespace RwkvCore

open Idealize.ShloMosaic Idealize.ShloMosaic.Pointwise Idealize.ShloMosaic.WordCmp Cert.Pre_finite

theorem preFacts : Cert.Pre_finite.Facts := ⟨by decide⟩

theorem andi_one (x y : BitVec 1) : IntOp.andi x y = 1#1 ↔ x = 1#1 ∧ y = 1#1 := by
  unfold IntOp.andi
  revert x y
  decide

theorem ofBool_one (p : Prop) [Decidable p] : BitVec.ofBool (decide p) = 1#1 ↔ p := by
  by_cases h : p <;> simp [h]

/-- An extended real whose magnitude is below infinity is a real number. -/
theorem real_of_abs {x : EReal} (h : FloatOps.absf (F := Ideal) (φ := .f32) x < (⊤ : EReal)) : ∃ y : ℝ, x = (y : EReal) := by
  induction x using EReal.rec with
  | bot => exact absurd h (by show ¬ (max (⊥ : EReal) (-⊥) < ⊤); simp)
  | coe y => exact ⟨y, rfl⟩
  | top => exact absurd h (by show ¬ (max (⊤ : EReal) (-⊤) < ⊤); simp)

instance : Cert.Pre_finite.Facts := preFacts

theorem finite_apply {x0 x1 x2 x3 x4 x5 x6 x7 : FVec Ideal S2x4096x1024 .f32} {x8 x9 : FVec Ideal S1024 .f32}
    (h : Cert.Pre_finite.fn (F := Ideal) x0 x1 x2 x3 x4 x5 x6 x7 x8 x9 = fun _ => 1#1) (b : Fin 2) (t : Fin 4096) (l : Fin 1024) :
    (∃ y : ℝ, x0 (ix3 b t l) = (y : EReal)) ∧ (∃ y : ℝ, x1 (ix3 b t l) = (y : EReal)) ∧ (∃ y : ℝ, x2 (ix3 b t l) = (y : EReal))
      ∧ (∃ y : ℝ, x3 (ix3 b t l) = (y : EReal)) ∧ (∃ y : ℝ, x4 (ix3 b t l) = (y : EReal)) ∧ (∃ y : ℝ, x5 (ix3 b t l) = (y : EReal)) := by
  have e := congrFun h (ix3 b t l)
  revert e
  pointwise [Cert.Pre_finite.fn, Cert.Pre_finite.fn_part1]
  simp only [ofBits_top]
  intro e
  simp only [andi_one, ofBool_one] at e
  obtain ⟨⟨⟨⟨⟨h0, h1⟩, h2⟩, h3⟩, h4⟩, h5⟩ := e
  exact ⟨real_of_abs h0, real_of_abs h1, real_of_abs h2, real_of_abs h3, real_of_abs h4, real_of_abs h5⟩

end RwkvCore
-- ==== Proof.Agree.lean ====
/-
  The kernel's result is the reference's, on real operands: both are the same recurrence, read out,
  normalised by head, scaled, shifted and gated, at every row and lane.
-/
module

public import proofs.«01_k».proof.Proof.Grid
public import proofs.«01_k».proof.Proof.RefValue
public import proofs.«01_k».proof.Proof.Finite

@[expose] public section

set_option maxRecDepth 16384

noncomputable section

namespace RwkvCore

open Idealize.ShloMosaic Idealize.ShloMosaic.TcCoe Idealize.ShloMosaic.Pointwise Cert.KernelIdeal

/-- The real numbers an argument holds, by batch, lane and step. -/
def realOf (x : FVec Ideal S2x4096x1024 .f32) (b : Fin 2) (l : Fin 1024) (n : ℕ) : ℝ :=
  EReal.toReal (x (ix3 b ⟨n % 4096, Nat.mod_lt _ (by decide)⟩ l))

theorem eq_realOf {x : FVec Ideal S2x4096x1024 .f32} {b : Fin 2} {t : Fin 4096} {l : Fin 1024}
    (h : ∃ y : ℝ, x (ix3 b t l) = (y : EReal)) : x (ix3 b t l) = ((realOf x b l t : ℝ) : EReal) := by
  obtain ⟨y, hy⟩ := h
  have ht : (⟨t.val % 4096, Nat.mod_lt _ (by decide)⟩ : Fin 4096) = t := Fin.ext (Nat.mod_eq_of_lt t.isLt)
  unfold realOf
  rw [ht, hy, EReal.toReal_coe]

/-- The precondition gives the real sequences. -/
theorem realArgs_of {x0 x1 x2 x3 x4 x5 x6 x7 : FVec Ideal S2x4096x1024 .f32} {x8 x9 : FVec Ideal S1024 .f32}
    (h : Cert.Pre_finite.fn (F := Ideal) x0 x1 x2 x3 x4 x5 x6 x7 x8 x9 = fun _ => 1#1) :
    RealArgs x0 x1 x2 x3 x4 x5 (realOf x0) (realOf x1) (realOf x2) (realOf x3) (realOf x4) (realOf x5) where
  r b t l := eq_realOf (finite_apply h b t l).1
  lw b t l := eq_realOf (finite_apply h b t l).2.1
  k b t l := eq_realOf (finite_apply h b t l).2.2.1
  v b t l := eq_realOf (finite_apply h b t l).2.2.2.1
  kk b t l := eq_realOf (finite_apply h b t l).2.2.2.2.1
  a b t l := eq_realOf (finite_apply h b t l).2.2.2.2.2

/-- The real numbers by head and place. -/
def byHead (X : Fin 2 → Fin 1024 → ℕ → ℝ) (b : Fin 2) (h : Fin 16) (n : ℕ) (c : Fin 64) : ℝ := X b (Ref.chan h c) n

variable {R W K U KK A : Fin 2 → Fin 1024 → ℕ → ℝ}

theorem reals_of {x0 x1 x2 x3 x4 x5 : FVec Ideal S2x4096x1024 .f32} (D : RealArgs x0 x1 x2 x3 x4 x5 R W K U KK A) :
    Ref.Reals (Ref.led x0) (Ref.led (Host.exp x1)) (Ref.led x2) (Ref.led x3) (Ref.led x4) (Ref.led x5)
      (byHead R) (byHead W) (byHead K) (byHead U) (byHead KK) (byHead A) where
  r t b h c := (Ref.led_apply _ t b h c).trans (D.r b t _)
  w t b h c := (Ref.led_apply _ t b h c).trans ((congrArg Ideal.exp (D.lw b t _)).trans (Ideal.exp_coe _))
  k t b h c := (Ref.led_apply _ t b h c).trans (D.k b t _)
  v t b h c := (Ref.led_apply _ t b h c).trans (D.v b t _)
  kk t b h c := (Ref.led_apply _ t b h c).trans (D.kk b t _)
  a t b h c := (Ref.led_apply _ t b h c).trans (D.a b t _)

/-- A head's data are its place in its pair's. -/
theorem byHead_eq (X : Fin 2 → Fin 1024 → ℕ → ℝ) (b : Fin 2) {h : Fin 16} {p : Fin 8} {s : Fin 2} (hh : h.val = 2 * p.val + s.val) :
    byHead X b h = pairOf p (X b) s := by
  funext n c
  have e : Ref.chan h c = lane p s c := Fin.ext (by show h.val * 64 + c.val = 128 * p.val + 64 * s.val + c.val; omega)
  show X b (Ref.chan h c) n = X b (lane p s c) n
  rw [e]

/-- Reference and kernel read the same numbers out of the recurrence. -/
theorem outOf_eq (b : Fin 2) {h : Fin 16} {p : Fin 8} {s : Fin 2} (hh : h.val = 2 * p.val + s.val) (n : ℕ) :
    Ref.outOf (byHead R) (byHead W) (byHead K) (byHead U) (byHead KK) (byHead A) b h n = (seqOf R W K U KK A b).outAt p s n := by
  funext d
  unfold Ref.outOf Ref.stateOf
  simp only [byHead_eq _ b hh]
  rfl

/-- The reference's result at a batch, step, head and place. -/
theorem reference_apply (m : (ℓ : Loc Cert.ReferenceIdeal.nD Cert.ReferenceIdeal.τ Cert.ReferenceIdeal.sig) → Buf (Elt Ideal) ℓ)
    (c : Dev Cert.ReferenceIdeal.nD) {x0 x1 x2 x3 x4 x5 x6 x7 : FVec Ideal S2x4096x1024 .f32} {x8 x9 : FVec Ideal S1024 .f32}
    (h0 : m ((c.tc : Thread _ _).loc Cert.ReferenceIdeal.main_arg0) = x0) (h1 : m ((c.tc : Thread _ _).loc Cert.ReferenceIdeal.main_arg1) = x1)
    (h2 : m ((c.tc : Thread _ _).loc Cert.ReferenceIdeal.main_arg2) = x2) (h3 : m ((c.tc : Thread _ _).loc Cert.ReferenceIdeal.main_arg3) = x3)
    (h4 : m ((c.tc : Thread _ _).loc Cert.ReferenceIdeal.main_arg4) = x4) (h5 : m ((c.tc : Thread _ _).loc Cert.ReferenceIdeal.main_arg5) = x5)
    (h6 : m ((c.tc : Thread _ _).loc Cert.ReferenceIdeal.main_arg6) = x6) (h7 : m ((c.tc : Thread _ _).loc Cert.ReferenceIdeal.main_arg7) = x7)
    (h8 : m ((c.tc : Thread _ _).loc Cert.ReferenceIdeal.main_arg8) = x8) (h9 : m ((c.tc : Thread _ _).loc Cert.ReferenceIdeal.main_arg9) = x9)
    (D : RealArgs x0 x1 x2 x3 x4 x5 R W K U KK A) (b : Fin 2) (t : Fin 4096) (h : Fin 16) (d : Fin 64) :
    (Cert.ReferenceIdeal.Value.out_main_v45 (Cert.ReferenceIdeal.Value.STEP^[4096]
        (StableHlo.entryContents Cert.ReferenceIdeal.Value.preI m c)) : FVec Ideal S8192x1024 .bf16)
        (ix2 (Ref.row b t) (Ref.chan h d))
      = (((groupNorm (Ref.outOf (byHead R) (byHead W) (byHead K) (byHead U) (byHead KK) (byHead A) b h t) d : ℝ) : EReal)
            * x8 (ix1 (Ref.chan h d)) + x9 (ix1 (Ref.chan h d)) + x7 (ix3 b t (Ref.chan h d))) * x6 (ix3 b t (Ref.chan h d)) := by
  have E := Ref.entry_finds m c
  rw [h0, h1, h2, h3, h4, h5] at E
  obtain ⟨o, z, H, -, ho⟩ := Ref.loop (reals_of D) _ E (fun b h d c => by pointwise []) 4096 le_rfl
  exact Ref.out_apply _ H.o ((Cert.ReferenceIdeal.Value.iter_main_arg6 m c 4096).trans h6)
    ((Cert.ReferenceIdeal.Value.iter_main_arg7 m c 4096).trans h7) ((Cert.ReferenceIdeal.Value.iter_main_arg8 m c 4096).trans h8)
    ((Cert.ReferenceIdeal.Value.iter_main_arg9 m c 4096).trans h9) (fun s b h d => ho s s.isLt b h d) b t h d

variable (m : (ℓ : Loc nD τ sig) → Buf (Elt Ideal) ℓ) (c : Dev nD)

/-- The kernel's result at the same place. -/
theorem kernel_apply' (D : RealArgs (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) R W K U KK A) (b : Fin 2) (t : Fin 4096) (h : Fin 16) (d : Fin 64) :
    (Value.G10 m c : FVec Ideal S8192x1024 .bf16) (ix2 (Ref.row b t) (Ref.chan h d))
      = (((groupNorm (Ref.outOf (byHead R) (byHead W) (byHead K) (byHead U) (byHead KK) (byHead A) b h t) d : ℝ) : EReal)
            * (m ((c : Thread nD τ).loc main_arg8) : FVec Ideal S1024 .f32) (ix1 (Ref.chan h d))
            + (m ((c : Thread nD τ).loc main_arg9) : FVec Ideal S1024 .f32) (ix1 (Ref.chan h d))
            + (m ((c : Thread nD τ).loc main_arg7) : FVec Ideal S2x4096x1024 .f32) (ix3 b t (Ref.chan h d)))
          * (m ((c : Thread nD τ).loc main_arg6) : FVec Ideal S2x4096x1024 .f32) (ix3 b t (Ref.chan h d)) := by
  have hb := b.isLt
  have ht := t.isLt
  have hh := h.isLt
  have hd := d.isLt
  have e := kernel_apply m c D b t ⟨h.val / 2, by omega⟩ ⟨64 * (h.val % 2) + d.val, by omega⟩ (Ref.row b t) (Ref.chan h d) rfl
    (by show h.val * 64 + d.val = 128 * (h.val / 2) + (64 * (h.val % 2) + d.val); omega)
  have e1 : headOf ⟨64 * (h.val % 2) + d.val, by omega⟩ = ⟨h.val % 2, by omega⟩ :=
    Fin.ext (by show (64 * (h.val % 2) + d.val) / 64 = h.val % 2; omega)
  have e2 : inHead ⟨64 * (h.val % 2) + d.val, by omega⟩ = d :=
    Fin.ext (by show (64 * (h.val % 2) + d.val) % 64 = d.val; omega)
  have e3 : (⟨(Ref.row b t).val / 4096, by omega⟩ : Fin 2) = b := Fin.ext (by show (b.val * 4096 + t.val) / 4096 = b.val; omega)
  have e4 : (⟨(Ref.row b t).val % 4096, by omega⟩ : Fin 4096) = t := Fin.ext (by show (b.val * 4096 + t.val) % 4096 = t.val; omega)
  rw [e1, e2, flat1_apply, flat1_apply, flat_apply, flat_apply, e3, e4] at e
  rw [outOf_eq b (p := ⟨h.val / 2, by omega⟩) (s := ⟨h.val % 2, by omega⟩) (by show h.val = 2 * (h.val / 2) + h.val % 2; omega)]
  exact e

/-- Every index of the result is a batch, step, head and place. -/
theorem index_split (i : S8192x1024.Idx) : ∃ b t h d, i = ix2 (Ref.row b t) (Ref.chan h d) := by
  have h0 : (i 0).val < 8192 := (i 0).isLt
  have h1 : (i 1).val < 1024 := (i 1).isLt
  refine ⟨⟨(i 0).val / 4096, by omega⟩, ⟨(i 0).val % 4096, by omega⟩, ⟨(i 1).val / 64, by omega⟩, ⟨(i 1).val % 64, by omega⟩, ?_⟩
  funext a
  match a with
  | ⟨0, _⟩ => exact Fin.ext (by show (i 0).val = (i 0).val / 4096 * 4096 + (i 0).val % 4096; omega)
  | ⟨1, _⟩ => exact Fin.ext (by show (i 1).val = (i 1).val / 64 * 64 + (i 1).val % 64; omega)

end RwkvCore
-- ==== Proof.Places.lean ====
/-
  Places in arrays of two, three and four axes, by their coordinates.
-/
module

public import Idealize.ShloMosaic.Lib.Pipeline.ValueKit

@[expose] public section

namespace Places

open Idealize.ShloMosaic Idealize.ShloMosaic.Pointwise

/-- A place in a matrix is its row and its column. -/
theorem place {a b : ℕ} {y : (⟨2, ![a, b]⟩ : Shape).Idx} {r : Fin a} {l : Fin b} (h0 : (y 0).val = r.val) (h1 : (y 1).val = l.val) :
    y = ix2 r l := by
  funext a
  match a with
  | ⟨0, _⟩ => exact Fin.ext h0
  | ⟨1, _⟩ => exact Fin.ext h1

/-- A place in an array of three axes is its three coordinates. -/
theorem place3 {a b d : ℕ} {y : (⟨3, ![a, b, d]⟩ : Shape).Idx} {r : Fin a} {s : Fin b} {l : Fin d} (h0 : (y 0).val = r.val)
    (h1 : (y 1).val = s.val) (h2 : (y 2).val = l.val) : y = ix3 r s l := by
  funext a
  match a with
  | ⟨0, _⟩ => exact Fin.ext h0
  | ⟨1, _⟩ => exact Fin.ext h1
  | ⟨2, _⟩ => exact Fin.ext h2

/-- A place in an array of four axes is its four coordinates. -/
theorem place4 {a b d e : ℕ} {y : (⟨4, ![a, b, d, e]⟩ : Shape).Idx} {r : Fin a} {s : Fin b} {l : Fin d} {q : Fin e}
    (h0 : (y 0).val = r.val) (h1 : (y 1).val = s.val) (h2 : (y 2).val = l.val) (h3 : (y 3).val = q.val) : y = ix4 r s l q := by
  funext a
  match a with
  | ⟨0, _⟩ => exact Fin.ext h0
  | ⟨1, _⟩ => exact Fin.ext h1
  | ⟨2, _⟩ => exact Fin.ext h2
  | ⟨3, _⟩ => exact Fin.ext h3

end Places
-- ==== Proof.Glu.lean ====
/-
  The gated half of the feed-forward network, `silu (h W₁) * (h W₂)`: the kernel keeps a column block of both
  matrices in scratch while the blocks of rows go by; over the reals its result is the reference's.
-/
module

public import proofs.«01_k».proof.Defs
public import proofs.«01_k».proof.Proof.Gen.Kernel2Ideal.Value
public import proofs.«01_k».proof.Proof.Gen.Reference2Ideal.Run
public import proofs.«01_k».proof.Proof.Places
public import Idealize.ShloMosaic.Lib.Pipeline.ReadBack
public import Idealize.ShloMosaic.Adequacy
public import Idealize.ShloMosaic.Init
public import Idealize.ShloMosaic.Lib.Quiescent

@[expose] public section

set_option maxRecDepth 16384

noncomputable section

namespace Glu

open Places Idealize.ShloMosaic Idealize.ShloMosaic.TcCoe Idealize.ShloMosaic.Pointwise Cert.Kernel2Ideal Cert.Kernel2Ideal.Gen

variable (m : (ℓ : Loc nD τ sig) → Buf (Elt Ideal) ℓ) (c : Dev nD)

/-- The rows of both batches, one under the other. -/
def flat (x : FVec Ideal S2x4096x2048 .f32) : FVec Ideal S8192x2048 .f32 :=
  shapeCast S8192x2048 x shapeCasts_S2x4096x2048_S8192x2048

theorem flat_apply (x : FVec Ideal S2x4096x2048 .f32) (n : Fin 8192) (l : Fin 2048) :
    flat x (ix2 n l) = x (ix3 ⟨n.val / 4096, by omega⟩ ⟨n.val % 4096, by omega⟩ l) := by
  pointwise [flat]

theorem V_h : V m c main_v1 = flat (m ((c : Thread nD τ).loc main_arg0)) := by
  show StableHlo.after hostOps0 _ (Proc.devRef .tc main_v1) = _
  after_results
  rfl

/-- Where the windows lie at point `t`: the rows go round eight by eight, the columns stay for eight points. -/
theorem index_at : ∀ t : Fin cfg0.N, win0_0.index t = ![t.val % 8, 0] ∧ win0_1.index t = ![0, t.val / 8]
    ∧ win0_2.index t = ![0, t.val / 8] :=
  (by decide +kernel : ∀ t : Fin grid0.N, _)

/-- The row of the operand, and the column of the matrices, that a place of point `t`'s blocks is. -/
def rowOf (t : ℕ) (i : Fin 1024) : Fin 8192 := ⟨1024 * (t % 8) + i.val, by omega⟩
def colOf (t : Fin cfg0.N) (j : Fin 512) : Fin 5632 :=
  ⟨512 * (t.val / 8) + j.val, by have h : t.val < 88 := lt_of_lt_of_eq t.isLt N_0; omega⟩

variable (t : Fin cfg0.N)

theorem blk_h (i : Fin 1024) (k : Fin 2048) : (iblk m c 0 t : FVec Ideal S1024x2048 .bf16) (ix2 i k)
    = flat (m ((c : Thread nD τ).loc main_arg0)) (ix2 (rowOf t.val i) k) := by
  refine (congrFun (V_h m c) _).trans (congrArg (flat _) (place ?_ ?_))
  · show win0_0.index t (0 : Fin 2) * 1024 + 1 * i.val = 1024 * (t.val % 8) + i.val
    rw [(index_at t).1]
    show t.val % 8 * 1024 + 1 * i.val = _
    omega
  · show win0_0.index t (1 : Fin 2) * 2048 + 1 * k.val = k.val
    rw [(index_at t).1]
    show 0 * 2048 + 1 * k.val = _
    omega

theorem blk_gate (k : Fin 2048) (j : Fin 512) : (iblk m c 1 t : FVec Ideal S2048x512 .f32) (ix2 k j)
    = (m ((c : Thread nD τ).loc main_arg1) : FVec Ideal S2048x5632 .f32) (ix2 k (colOf t j)) := by
  refine (congrFun (V_main_arg1 m c) _).trans (congrArg (m ((c : Thread nD τ).loc main_arg1)) (place ?_ ?_))
  · show win0_1.index t (0 : Fin 2) * 2048 + 1 * k.val = k.val
    rw [(index_at t).2.1]
    show 0 * 2048 + 1 * k.val = _
    omega
  · show win0_1.index t (1 : Fin 2) * 512 + 1 * j.val = 512 * (t.val / 8) + j.val
    rw [(index_at t).2.1]
    show t.val / 8 * 512 + 1 * j.val = _
    omega

theorem blk_up (k : Fin 2048) (j : Fin 512) : (iblk m c 2 t : FVec Ideal S2048x512 .f32) (ix2 k j)
    = (m ((c : Thread nD τ).loc main_arg2) : FVec Ideal S2048x5632 .f32) (ix2 k (colOf t j)) := by
  refine (congrFun (V_main_arg2 m c) _).trans (congrArg (m ((c : Thread nD τ).loc main_arg2)) (place ?_ ?_))
  · show win0_2.index t (0 : Fin 2) * 2048 + 1 * k.val = k.val
    rw [(index_at t).2.2]
    show 0 * 2048 + 1 * k.val = _
    omega
  · show win0_2.index t (1 : Fin 2) * 512 + 1 * j.val = 512 * (t.val / 8) + j.val
    rw [(index_at t).2.2]
    show t.val / 8 * 512 + 1 * j.val = _
    omega

/-- What a point leaves in the scratch of the two matrices, and in the result's block: the block of products
    of what the scratch holds after the point. -/
theorem first_of_eight (h : t.val % 8 = 0) :
    (outsAt0 m c t.val t.isLt).2 = (k0_pay1 (iblk m c 1 t), k0_pay2 (iblk m c 2 t)) := by
  rw [outsAt0_A m c t h]; dsimp only
  frame_out

theorem later_of_eight (h : ¬ t.val % 8 = 0) :
    (outsAt0 m c t.val t.isLt).2 = (outsAt0 m c (t.val - 1) (lt_of_le_of_lt (Nat.sub_le _ _) t.isLt)).2 := by
  rw [outsAt0_B m c t h]
  rfl

theorem out_of_scratch : (outsAt0 m c t.val t.isLt).1
    = k0_pay3 (iblk m c 0 t) (outsAt0 m c t.val t.isLt).2.1 (outsAt0 m c t.val t.isLt).2.2 := by
  by_cases h : t.val % 8 = 0
  · rw [first_of_eight m c t h, outsAt0_A m c t h]; dsimp only
    frame_out
  · rw [later_of_eight m c t h, outsAt0_B m c t h]; dsimp only
    frame_out
    rw [read_unread_whole, read_unread_whole]

/-- A column block of the two matrices is in the scratch after every point. -/
theorem scratch_after : ∀ (n : ℕ) (hn : n < cfg0.N) (k : Fin 2048) (j : Fin 512),
    (outsAt0 m c n hn).2.1 (ix2 k j) = (m ((c : Thread nD τ).loc main_arg1) : FVec Ideal S2048x5632 .f32) (ix2 k (colOf ⟨n, hn⟩ j))
    ∧ (outsAt0 m c n hn).2.2 (ix2 k j) = (m ((c : Thread nD τ).loc main_arg2) : FVec Ideal S2048x5632 .f32) (ix2 k (colOf ⟨n, hn⟩ j)) := by
  have first : ∀ (t : Fin cfg0.N) (h : t.val % 8 = 0) (k : Fin 2048) (j : Fin 512),
      (outsAt0 m c t.val t.isLt).2.1 (ix2 k j) = (m ((c : Thread nD τ).loc main_arg1) : FVec Ideal S2048x5632 .f32) (ix2 k (colOf t j))
      ∧ (outsAt0 m c t.val t.isLt).2.2 (ix2 k j) = (m ((c : Thread nD τ).loc main_arg2) : FVec Ideal S2048x5632 .f32) (ix2 k (colOf t j)) := by
    intro t h k j
    rw [first_of_eight m c t h]
    constructor
    · rw [← blk_gate m c t k j]
      pointwise [k0_pay1]
    · rw [← blk_up m c t k j]
      pointwise [k0_pay2]
  intro n
  induction n with
  | zero => exact fun hn => first ⟨0, hn⟩ rfl
  | succ n ih =>
    intro hn k j
    by_cases h : (n + 1) % 8 = 0
    · exact first ⟨n + 1, hn⟩ h k j
    · have e : colOf ⟨n + 1, hn⟩ j = colOf ⟨n, Nat.lt_of_succ_lt hn⟩ j :=
        Fin.ext (by show 512 * ((n + 1) / 8) + j.val = 512 * (n / 8) + j.val; omega)
      rw [later_of_eight m c ⟨n + 1, hn⟩ h, e]
      exact ih (Nat.lt_of_succ_lt hn) k j

/-- A sum of products of a row and a column. -/
def lin (x : FVec Ideal S2x4096x2048 .f32) (w : FVec Ideal S2048x5632 .f32) (n : Fin 8192) (l : Fin 5632) : EReal :=
  ∑ k : Fin 2048, x (ix3 ⟨n.val / 4096, by omega⟩ ⟨n.val % 4096, by omega⟩ k) * w (ix2 k l)

/-- The result's entry at a row and a column. -/
def entry (x : FVec Ideal S2x4096x2048 .f32) (w u : FVec Ideal S2048x5632 .f32) (n : Fin 8192) (l : Fin 5632) : EReal :=
  lin x w n l * Ideal.div 1 (1 + Ideal.exp (-lin x w n l)) * lin x u n l

/-- The products of a point. -/
theorem products_apply (h : FVec Ideal S1024x2048 .bf16) (g u : FVec Ideal S2048x512 .bf16) (i : Fin 1024) (j : Fin 512) :
    (k0_pay3 (F := Ideal) h g u) (ix2 i j) = (∑ k : Fin 2048, h (ix2 i k) * g (ix2 k j))
        * Ideal.div 1 (1 + Ideal.exp (-∑ k : Fin 2048, h (ix2 i k) * g (ix2 k j))) * ∑ k : Fin 2048, h (ix2 i k) * u (ix2 k j) := by
  pointwise [k0_pay3]
  rw [zero_sub]

/-- … which are the result's entry when the rows and columns are its. -/
theorem products_eq_entry {h : FVec Ideal S1024x2048 .bf16} {g u : FVec Ideal S2048x512 .bf16} {i : Fin 1024} {j : Fin 512}
    {x : FVec Ideal S2x4096x2048 .f32} {w v : FVec Ideal S2048x5632 .f32} {n : Fin 8192} {l : Fin 5632}
    (hh : ∀ k, h (ix2 i k) = flat x (ix2 n k)) (hg : ∀ k, g (ix2 k j) = w (ix2 k l)) (hu : ∀ k, u (ix2 k j) = v (ix2 k l)) :
    (k0_pay3 (F := Ideal) h g u) (ix2 i j) = entry x w v n l := by
  rw [products_apply]
  simp only [hh, hg, hu, flat_apply]
  rfl

/-- The block a point writes back. -/
theorem block_apply (i : Fin 1024) (j : Fin 512) : (outsAt0 m c t.val t.isLt).1 (ix2 i j)
    = entry (m ((c : Thread nD τ).loc main_arg0)) (m ((c : Thread nD τ).loc main_arg1)) (m ((c : Thread nD τ).loc main_arg2))
        (rowOf t.val i) (colOf t j) := by
  rw [out_of_scratch]
  exact products_eq_entry (blk_h m c t i) (fun k => (scratch_after m c t.val t.isLt k j).1)
    (fun k => (scratch_after m c t.val t.isLt k j).2)

/-- The kernel's result at a row and a column. -/
theorem kernel_apply (n : Fin 8192) (l : Fin 5632) : (Value.G3 m c : FVec Ideal S8192x5632 .bf16) (ix2 n l)
    = entry (m ((c : Thread nD τ).loc main_arg0)) (m ((c : Thread nD τ).loc main_arg1)) (m ((c : Thread nD τ).loc main_arg2)) n l := by
  have hq : 1 * (n.val / 1024 - 0) + 8 * (l.val / 512 - 0) = n.val / 1024 + 8 * (l.val / 512) := by omega
  have hpt : n.val / 1024 + 8 * (l.val / 512) < cfg0.N := lt_of_lt_of_eq (by omega) N_0.symm
  have e := block_apply m c ⟨n.val / 1024 + 8 * (l.val / 512), hpt⟩ ⟨n.val % 1024, by omega⟩ ⟨l.val % 512, by omega⟩
  have hr : rowOf (n.val / 1024 + 8 * (l.val / 512)) ⟨n.val % 1024, by omega⟩ = n :=
    Fin.ext (by show 1024 * ((n.val / 1024 + 8 * (l.val / 512)) % 8) + n.val % 1024 = n.val; omega)
  have hc : colOf ⟨n.val / 1024 + 8 * (l.val / 512), hpt⟩ ⟨l.val % 512, by omega⟩ = l :=
    Fin.ext (by show 512 * ((n.val / 1024 + 8 * (l.val / 512)) / 8) + l.val % 512 = l.val; omega)
  rw [hr, hc] at e
  rw [← e]
  have hl : Value.loc3Of (ix2 n l : S8192x5632.Idx) = ix2 ⟨n.val % 1024, by omega⟩ ⟨l.val % 512, by omega⟩ := place rfl rfl
  unfold Value.G3
  rw [dif_pos (show Value.pt3Of (ix2 n l : S8192x5632.Idx) < cfg0.N from lt_of_eq_of_lt hq hpt), hl, Value.outsAt0_sweep]
  exact congrArg (fun z : Vec Ideal S1024x512 .bf16 × Vec Ideal S2048x512 .bf16 × Vec Ideal S2048x512 .bf16 =>
      z.1 (ix2 ⟨n.val % 1024, by omega⟩ ⟨l.val % 512, by omega⟩)) (Value.fold0_congr m c _ _ _ _ hq)

end Glu

namespace Glu.Reference

open Idealize.ShloMosaic Idealize.ShloMosaic.TcCoe Idealize.ShloMosaic.Pointwise Cert.Reference2Ideal Cert.Reference2Ideal.Gen

/-- The reference's operations, read at a row and a column. -/
theorem reference_apply (x : FVec Ideal S2x4096x2048 .f32) (w u : FVec Ideal S2048x5632 .f32) (n : Fin 8192) (l : Fin 5632) :
    (truncf (F := Ideal) .bf16 (shapeCast S8192x5632 (mulf (mulf (Host.dotGeneral (F := Ideal) dot_S2x4096x2048_S2048x5632_S2x4096x5632_2_0_01_1_n_n none x w)
        (Host.divf (broadcastInDim S2x4096x5632 ![] bcast_S_S2x4096x5632 (constant S_ .f32 0x3F800000#32))
          (addf (broadcastInDim S2x4096x5632 ![] bcast_S_S2x4096x5632 (constant S_ .f32 0x3F800000#32))
            (Host.exp (Host.negf (Host.dotGeneral (F := Ideal) dot_S2x4096x2048_S2048x5632_S2x4096x5632_2_0_01_1_n_n none x w))))))
        (Host.dotGeneral (F := Ideal) dot_S2x4096x2048_S2048x5632_S2x4096x5632_2_0_01_1_n_n none x u)) shapeCasts_S2x4096x5632_S8192x5632)
      bitsLt_bf16_f32 : FVec Ideal S8192x5632 .bf16) (ix2 n l) = Glu.entry x w u n l := by
  pointwise []
  rfl

end Glu.Reference

namespace Glu

open Places Idealize.ShloMosaic Idealize.SL.Sem Idealize.ShloMosaic.Pointwise

/-- The reference runs, its arguments unchanged and every semaphore zero at the end. -/
theorem quiescent_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with the same result. -/
theorem algebraic : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2⟩ := hagree c
  rw [h0, h1, h2]
  funext i
  rw [show i = ix2 (i 0) (i 1) from place rfl rfl]
  exact (Reference.reference_apply ..).trans (kernel_apply m c _ _).symm

end Glu
-- ==== Proof.Down.lean ====
/-
  The feed-forward network's second product, scaled by the gate of the sequence and added to the residual: the
  kernel keeps a column block of the matrix in scratch while the blocks of rows go by; over the reals its result
  is the reference's.
-/
module

public import proofs.«01_k».proof.Defs
public import proofs.«01_k».proof.Proof.Gen.Kernel3Ideal.Value
public import proofs.«01_k».proof.Proof.Gen.Reference3Ideal.Run
public import proofs.«01_k».proof.Proof.Places
public import Idealize.ShloMosaic.Lib.Pipeline.ReadBack
public import Idealize.ShloMosaic.Adequacy
public import Idealize.ShloMosaic.Init
public import Idealize.ShloMosaic.Lib.Quiescent

@[expose] public section

set_option maxRecDepth 16384

noncomputable section

namespace Down

open Places Idealize.ShloMosaic Idealize.ShloMosaic.TcCoe Idealize.ShloMosaic.Pointwise Cert.Kernel3Ideal Cert.Kernel3Ideal.Gen

/-- The rows of both batches, one under the other: of the operand and of the residual. -/
def flat (x : FVec Ideal S2x4096x5632 .f32) : FVec Ideal S8192x5632 .f32 :=
  shapeCast S8192x5632 x shapeCasts_S2x4096x5632_S8192x5632
def flatRes (x : FVec Ideal S2x4096x2048 .f32) : FVec Ideal S8192x2048 .f32 :=
  shapeCast S8192x2048 x shapeCasts_S2x4096x2048_S8192x2048

/-- The modulation's six rows of either batch, one under the other. -/
def flatMod (x : FVec Ideal S2x12288 .f32) : FVec Ideal S12x1x2048 .f32 := shapeCast S12x1x2048 x shapeCasts_S2x12288_S12x1x2048

theorem flat_apply (x : FVec Ideal S2x4096x5632 .f32) (n : Fin 8192) (l : Fin 5632) :
    flat x (ix2 n l) = x (ix3 ⟨n.val / 4096, by omega⟩ ⟨n.val % 4096, by omega⟩ l) := by
  pointwise [flat]
theorem flatRes_apply (x : FVec Ideal S2x4096x2048 .f32) (n : Fin 8192) (l : Fin 2048) :
    flatRes x (ix2 n l) = x (ix3 ⟨n.val / 4096, by omega⟩ ⟨n.val % 4096, by omega⟩ l) := by
  pointwise [flatRes]
theorem flatMod_apply (x : FVec Ideal S2x12288 .f32) (n : Fin 12) (l : Fin 2048) :
    flatMod x (ix3 n 0 l) = x (ix2 ⟨n.val / 6, by omega⟩ ⟨n.val % 6 * 2048 + l.val, by omega⟩) := by
  pointwise [flatMod]

/-- A sum of products of a row and a column. -/
def lin (x : FVec Ideal S2x4096x5632 .f32) (w : FVec Ideal S5632x2048 .f32) (n : Fin 8192) (l : Fin 2048) : EReal :=
  ∑ k : Fin 5632, x (ix3 ⟨n.val / 4096, by omega⟩ ⟨n.val % 4096, by omega⟩ k) * w (ix2 k l)

/-- The result's entry at a row and a column. -/
def entry (x : FVec Ideal S2x4096x5632 .f32) (w : FVec Ideal S5632x2048 .f32) (r : FVec Ideal S2x4096x2048 .f32)
    (g : FVec Ideal S2x12288 .f32) (n : Fin 8192) (l : Fin 2048) : EReal :=
  r (ix3 ⟨n.val / 4096, by omega⟩ ⟨n.val % 4096, by omega⟩ l)
    + g (ix2 ⟨n.val / 4096, by omega⟩ ⟨10240 + l.val, by omega⟩) * lin x w n l

variable (m : (ℓ : Loc nD τ sig) → Buf (Elt Ideal) ℓ) (c : Dev nD)

theorem V_h : V m c main_v1 = flat (m ((c : Thread nD τ).loc main_arg0)) := by
  show StableHlo.after hostOps0 _ (Proc.devRef .tc main_v1) = _
  after_results
  rfl
theorem V_res : V m c main_v2 = flatRes (m ((c : Thread nD τ).loc main_arg2)) := by
  show StableHlo.after hostOps0 _ (Proc.devRef .tc main_v2) = _
  after_results
  rfl
theorem V_mod : V m c main_v3 = flatMod (m ((c : Thread nD τ).loc main_arg3)) := by
  show StableHlo.after hostOps0 _ (Proc.devRef .tc main_v3) = _
  after_results
  rfl

/-- Where the windows lie at point `t`: the rows go round sixteen by sixteen, the columns stay for sixteen points. -/
theorem index_at : ∀ t : Fin cfg0.N, win0_0.index t = ![t.val % 16, 0] ∧ win0_1.index t = ![0, t.val / 16]
    ∧ win0_2.index t = ![t.val % 16, t.val / 16] ∧ win0_3.index t = ![t.val % 16 / 8 * 6 + 5, 0, t.val / 16] :=
  (by decide +kernel : ∀ t : Fin grid0.N, _)

/-- The row and the column of the result that a place of point `t`'s block is. -/
def rowOf (t : ℕ) (i : Fin 512) : Fin 8192 := ⟨512 * (t % 16) + i.val, by omega⟩
def colOf (t : Fin cfg0.N) (j : Fin 512) : Fin 2048 :=
  ⟨512 * (t.val / 16) + j.val, by have h : t.val < 64 := lt_of_lt_of_eq t.isLt N_0; omega⟩

variable (t : Fin cfg0.N)

theorem blk_h (i : Fin 512) (k : Fin 5632) : (iblk m c 0 t : FVec Ideal S512x5632 .bf16) (ix2 i k)
    = flat (m ((c : Thread nD τ).loc main_arg0)) (ix2 (rowOf t.val i) k) := by
  refine (congrFun (V_h m c) _).trans (congrArg (flat _) (place ?_ ?_))
  · show win0_0.index t (0 : Fin 2) * 512 + 1 * i.val = 512 * (t.val % 16) + i.val
    rw [(index_at t).1]
    show t.val % 16 * 512 + 1 * i.val = _
    omega
  · show win0_0.index t (1 : Fin 2) * 5632 + 1 * k.val = k.val
    rw [(index_at t).1]
    show 0 * 5632 + 1 * k.val = _
    omega

theorem blk_w (k : Fin 5632) (j : Fin 512) : (iblk m c 1 t : FVec Ideal S5632x512 .f32) (ix2 k j)
    = (m ((c : Thread nD τ).loc main_arg1) : FVec Ideal S5632x2048 .f32) (ix2 k (colOf t j)) := by
  refine (congrFun (V_main_arg1 m c) _).trans (congrArg (m ((c : Thread nD τ).loc main_arg1)) (place ?_ ?_))
  · show win0_1.index t (0 : Fin 2) * 5632 + 1 * k.val = k.val
    rw [(index_at t).2.1]
    show 0 * 5632 + 1 * k.val = _
    omega
  · show win0_1.index t (1 : Fin 2) * 512 + 1 * j.val = 512 * (t.val / 16) + j.val
    rw [(index_at t).2.1]
    show t.val / 16 * 512 + 1 * j.val = _
    omega

theorem blk_res (i j : Fin 512) : (iblk m c 2 t : FVec Ideal S512x512 .f32) (ix2 i j)
    = flatRes (m ((c : Thread nD τ).loc main_arg2)) (ix2 (rowOf t.val i) (colOf t j)) := by
  refine (congrFun (V_res m c) _).trans (congrArg (flatRes _) (place ?_ ?_))
  · show win0_2.index t (0 : Fin 2) * 512 + 1 * i.val = 512 * (t.val % 16) + i.val
    rw [(index_at t).2.2.1]
    show t.val % 16 * 512 + 1 * i.val = _
    omega
  · show win0_2.index t (1 : Fin 2) * 512 + 1 * j.val = 512 * (t.val / 16) + j.val
    rw [(index_at t).2.2.1]
    show t.val / 16 * 512 + 1 * j.val = _
    omega

theorem blk_mod (j : Fin 512) : (iblk m c 3 t : FVec Ideal S1x1x512 .f32) (ix3 0 0 j)
    = flatMod (m ((c : Thread nD τ).loc main_arg3)) (ix3 ⟨t.val % 16 / 8 * 6 + 5, by omega⟩ 0 (colOf t j)) := by
  refine (congrFun (V_mod m c) _).trans (congrArg (flatMod _) (place3 ?_ ?_ ?_))
  · show win0_3.index t (0 : Fin 3) * 1 + 1 * 0 = t.val % 16 / 8 * 6 + 5
    rw [(index_at t).2.2.2]
    show (t.val % 16 / 8 * 6 + 5) * 1 + 1 * 0 = _
    omega
  · show win0_3.index t (1 : Fin 3) * 1 + 1 * 0 = 0
    rw [(index_at t).2.2.2]
    rfl
  · show win0_3.index t (2 : Fin 3) * 512 + 1 * j.val = 512 * (t.val / 16) + j.val
    rw [(index_at t).2.2.2]
    show t.val / 16 * 512 + 1 * j.val = _
    omega

/-- What a point leaves in the scratch of the matrix, and in the result's block: the sums over what the scratch
    holds after the point. -/
theorem first_of_sixteen (h : t.val % 16 = 0) : (outsAt0 m c t.val t.isLt).2 = k0_pay1 (iblk m c 1 t) := by
  rw [outsAt0_A m c t h]; dsimp only
  frame_out

theorem later_of_sixteen (h : ¬ t.val % 16 = 0) :
    (outsAt0 m c t.val t.isLt).2 = (outsAt0 m c (t.val - 1) (lt_of_le_of_lt (Nat.sub_le _ _) t.isLt)).2 := by
  rw [outsAt0_B m c t h]
  rfl

theorem out_of_scratch : (outsAt0 m c t.val t.isLt).1
    = k0_pay2 (iblk m c 2 t) (iblk m c 3 t) (iblk m c 0 t) (outsAt0 m c t.val t.isLt).2 := by
  by_cases h : t.val % 16 = 0
  · rw [first_of_sixteen m c t h, outsAt0_A m c t h]; dsimp only
    frame_out
  · rw [later_of_sixteen m c t h, outsAt0_B m c t h]; dsimp only
    frame_out
    rw [read_unread_whole]

/-- A column block of the matrix is in the scratch after every point. -/
theorem scratch_after : ∀ (n : ℕ) (hn : n < cfg0.N) (k : Fin 5632) (j : Fin 512), (outsAt0 m c n hn).2 (ix2 k j)
    = (m ((c : Thread nD τ).loc main_arg1) : FVec Ideal S5632x2048 .f32) (ix2 k (colOf ⟨n, hn⟩ j)) := by
  have first : ∀ (t : Fin cfg0.N) (h : t.val % 16 = 0) (k : Fin 5632) (j : Fin 512), (outsAt0 m c t.val t.isLt).2 (ix2 k j)
      = (m ((c : Thread nD τ).loc main_arg1) : FVec Ideal S5632x2048 .f32) (ix2 k (colOf t j)) := by
    intro t h k j
    rw [first_of_sixteen m c t h, ← blk_w m c t k j]
    pointwise [k0_pay1]
  intro n
  induction n with
  | zero => exact fun hn => first ⟨0, hn⟩ rfl
  | succ n ih =>
    intro hn k j
    by_cases h : (n + 1) % 16 = 0
    · exact first ⟨n + 1, hn⟩ h k j
    · have e : colOf ⟨n + 1, hn⟩ j = colOf ⟨n, Nat.lt_of_succ_lt hn⟩ j :=
        Fin.ext (by show 512 * ((n + 1) / 16) + j.val = 512 * (n / 16) + j.val; omega)
      rw [later_of_sixteen m c ⟨n + 1, hn⟩ h, e]
      exact ih (Nat.lt_of_succ_lt hn) k j

/-- The block of a point. -/
theorem point_apply (r : FVec Ideal S512x512 .f32) (g : FVec Ideal S1x1x512 .f32) (h : FVec Ideal S512x5632 .bf16)
    (w : FVec Ideal S5632x512 .bf16) (i j : Fin 512) : (k0_pay2 (F := Ideal) r g h w) (ix2 i j)
      = r (ix2 i j) + g (ix3 0 0 j) * ∑ k : Fin 5632, h (ix2 i k) * w (ix2 k j) := by
  pointwise [k0_pay2]

/-- … which is the result's entry when the rows and columns are its. -/
theorem point_eq_entry {r : FVec Ideal S512x512 .f32} {g : FVec Ideal S1x1x512 .f32} {h : FVec Ideal S512x5632 .bf16}
    {w : FVec Ideal S5632x512 .bf16} {i j : Fin 512} {X : FVec Ideal S2x4096x5632 .f32} {W : FVec Ideal S5632x2048 .f32}
    {R : FVec Ideal S2x4096x2048 .f32} {G : FVec Ideal S2x12288 .f32} {n : Fin 8192} {l : Fin 2048} {p : Fin 12}
    (hp : p.val = n.val / 4096 * 6 + 5)
    (hr : r (ix2 i j) = flatRes R (ix2 n l)) (hg : g (ix3 0 0 j) = flatMod G (ix3 p 0 l)) (hh : ∀ k, h (ix2 i k) = flat X (ix2 n k))
    (hw : ∀ k, w (ix2 k j) = W (ix2 k l)) : (k0_pay2 (F := Ideal) r g h w) (ix2 i j) = entry X W R G n l := by
  have e : (ix2 ⟨p.val / 6, by omega⟩ ⟨p.val % 6 * 2048 + l.val, by omega⟩ : S2x12288.Idx)
      = ix2 ⟨n.val / 4096, by omega⟩ ⟨10240 + l.val, by omega⟩ :=
    place (by show p.val / 6 = n.val / 4096; omega) (by show p.val % 6 * 2048 + l.val = 10240 + l.val; omega)
  rw [point_apply]
  simp only [hr, hg, hh, hw, flat_apply, flatRes_apply, flatMod_apply]
  rw [e]
  rfl

/-- The block a point writes back. -/
theorem block_apply (i j : Fin 512) : (outsAt0 m c t.val t.isLt).1 (ix2 i j)
    = entry (m ((c : Thread nD τ).loc main_arg0)) (m ((c : Thread nD τ).loc main_arg1)) (m ((c : Thread nD τ).loc main_arg2))
        (m ((c : Thread nD τ).loc main_arg3)) (rowOf t.val i) (colOf t j) := by
  rw [out_of_scratch]
  exact point_eq_entry (by show t.val % 16 / 8 * 6 + 5 = (512 * (t.val % 16) + i.val) / 4096 * 6 + 5; omega) (blk_res m c t i j)
    (blk_mod m c t j) (blk_h m c t i) (fun k => scratch_after m c t.val t.isLt k j)

/-- The kernel's result at a row and a column. -/
theorem kernel_apply (n : Fin 8192) (l : Fin 2048) : (Value.G4 m c : FVec Ideal S8192x2048 .f32) (ix2 n l)
    = entry (m ((c : Thread nD τ).loc main_arg0)) (m ((c : Thread nD τ).loc main_arg1)) (m ((c : Thread nD τ).loc main_arg2))
        (m ((c : Thread nD τ).loc main_arg3)) n l := by
  have hq : 1 * (n.val / 512 - 0) + 16 * (l.val / 512 - 0) = n.val / 512 + 16 * (l.val / 512) := by omega
  have hpt : n.val / 512 + 16 * (l.val / 512) < cfg0.N := lt_of_lt_of_eq (by omega) N_0.symm
  have e := block_apply m c ⟨n.val / 512 + 16 * (l.val / 512), hpt⟩ ⟨n.val % 512, by omega⟩ ⟨l.val % 512, by omega⟩
  have hr : rowOf (n.val / 512 + 16 * (l.val / 512)) ⟨n.val % 512, by omega⟩ = n :=
    Fin.ext (by show 512 * ((n.val / 512 + 16 * (l.val / 512)) % 16) + n.val % 512 = n.val; omega)
  have hc : colOf ⟨n.val / 512 + 16 * (l.val / 512), hpt⟩ ⟨l.val % 512, by omega⟩ = l :=
    Fin.ext (by show 512 * ((n.val / 512 + 16 * (l.val / 512)) / 16) + l.val % 512 = l.val; omega)
  rw [hr, hc] at e
  rw [← e]
  have hl : Value.loc4Of (ix2 n l : S8192x2048.Idx) = ix2 ⟨n.val % 512, by omega⟩ ⟨l.val % 512, by omega⟩ := place rfl rfl
  unfold Value.G4
  rw [dif_pos (show Value.pt4Of (ix2 n l : S8192x2048.Idx) < cfg0.N from lt_of_eq_of_lt hq hpt), hl, Value.outsAt0_sweep]
  exact congrArg (fun z : Vec Ideal S512x512 .f32 × Vec Ideal S5632x512 .bf16 =>
      z.1 (ix2 ⟨n.val % 512, by omega⟩ ⟨l.val % 512, by omega⟩)) (Value.fold0_congr m c _ _ _ _ hq)

end Down

namespace Down.Reference

open Idealize.ShloMosaic Idealize.ShloMosaic.TcCoe Idealize.ShloMosaic.Pointwise Cert.Reference3Ideal Cert.Reference3Ideal.Gen

/-- The reference's operations, read at a row and a column. -/
theorem reference_apply (x : FVec Ideal S2x4096x5632 .f32) (w : FVec Ideal S5632x2048 .f32) (r : FVec Ideal S2x4096x2048 .f32)
    (g : FVec Ideal S2x12288 .f32) (n : Fin 8192) (l : Fin 2048) :
    (shapeCast S8192x2048 (addf r (mulf (broadcastInDim S2x4096x2048 ![0, 1, 2] bcast_S2x1x2048_S2x4096x2048_0_1_2
        (extractStridedSlice S2x1x2048 ![0, 0, 10240] (broadcastInDim S2x1x12288 ![0, 2] bcast_S2x12288_S2x1x12288_0_2 g)
          slices_S2x1x12288_S2x1x2048_0_0_10240))
        (Host.dotGeneral (F := Ideal) dot_S2x4096x5632_S5632x2048_S2x4096x2048_2_0_01_1_n_n none x w)))
      shapeCasts_S2x4096x2048_S8192x2048 : FVec Ideal S8192x2048 .f32) (ix2 n l) = Down.entry x w r g n l := by
  pointwise []
  rfl

end Down.Reference

namespace Down

open Places Idealize.ShloMosaic Idealize.SL.Sem Idealize.ShloMosaic.Pointwise

/-- The reference runs, its arguments unchanged and every semaphore zero at the end. -/
theorem quiescent_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference end with the same result. -/
theorem algebraic : Cert.algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨h0, h1, h2, h3⟩ := hagree c
  rw [h0, h1, h2, h3]
  funext i
  rw [show i = ix2 (i 0) (i 1) from place rfl rfl]
  exact (Reference.reference_apply ..).trans (kernel_apply m c _ _).symm

end Down
-- ==== Proof.OutProj.lean ====
/-
  The output projection: attention's and the recurrence's halves of the rows times the two halves of the matrix,
  scaled by the gate of the sequence and added to the residual; beside it the same rows normalised, scaled and
  shifted for the feed-forward network. The kernel keeps both halves of the matrix in scratch while the blocks of
  rows go by; over the reals its two results are the reference's.
-/
module

public import proofs.«01_k».proof.Defs
public import proofs.«01_k».proof.Proof.Gen.Kernel4Ideal.Value
public import proofs.«01_k».proof.Proof.Gen.Reference4Ideal.Run
public import proofs.«01_k».proof.Proof.Places
public import Idealize.ShloMosaic.Lib.Pipeline.ReadBack
public import Idealize.ShloMosaic.Adequacy
public import Idealize.ShloMosaic.Init
public import Idealize.ShloMosaic.Lib.Quiescent

@[expose] public section

set_option maxRecDepth 16384

noncomputable section

namespace OutProj

open Places Idealize.ShloMosaic Idealize.ShloMosaic.TcCoe Idealize.ShloMosaic.Pointwise Cert.Kernel4Ideal Cert.Kernel4Ideal.Gen

/-- The rows of both batches, one under the other: of either operand and of the residual. -/
def flat (x : FVec Ideal S2x4096x1024 .f32) : FVec Ideal S8192x1024 .f32 :=
  shapeCast S8192x1024 x shapeCasts_S2x4096x1024_S8192x1024
def flatRes (x : FVec Ideal S2x4096x2048 .f32) : FVec Ideal S8192x2048 .f32 :=
  shapeCast S8192x2048 x shapeCasts_S2x4096x2048_S8192x2048

/-- The modulation's six rows of either batch, one under the other; the norm's weights as one row. -/
def flatMod (x : FVec Ideal S2x12288 .f32) : FVec Ideal S12x1x2048 .f32 := shapeCast S12x1x2048 x shapeCasts_S2x12288_S12x1x2048
def flatNorm (x : FVec Ideal S2048 .f32) : FVec Ideal S1x2048 .f32 := shapeCast S1x2048 x shapeCasts_S2048_S1x2048

theorem flat_apply (x : FVec Ideal S2x4096x1024 .f32) (n : Fin 8192) (l : Fin 1024) :
    flat x (ix2 n l) = x (ix3 ⟨n.val / 4096, by omega⟩ ⟨n.val % 4096, by omega⟩ l) := by
  pointwise [flat]
theorem flatRes_apply (x : FVec Ideal S2x4096x2048 .f32) (n : Fin 8192) (l : Fin 2048) :
    flatRes x (ix2 n l) = x (ix3 ⟨n.val / 4096, by omega⟩ ⟨n.val % 4096, by omega⟩ l) := by
  pointwise [flatRes]
theorem flatMod_apply (x : FVec Ideal S2x12288 .f32) (n : Fin 12) (l : Fin 2048) :
    flatMod x (ix3 n 0 l) = x (ix2 ⟨n.val / 6, by omega⟩ ⟨n.val % 6 * 2048 + l.val, by omega⟩) := by
  pointwise [flatMod]
theorem flatNorm_apply (x : FVec Ideal S2048 .f32) (l : Fin 2048) : flatNorm x (ix2 0 l) = x (ix1 l) := by
  pointwise [flatNorm]

/-- The residual plus the gated projection at a row and a column. -/
def mid (a r : FVec Ideal S2x4096x1024 .f32) (w : FVec Ideal S2048x2048 .f32) (x : FVec Ideal S2x4096x2048 .f32)
    (g : FVec Ideal S2x12288 .f32) (n : Fin 8192) (l : Fin 2048) : EReal :=
  x (ix3 ⟨n.val / 4096, by omega⟩ ⟨n.val % 4096, by omega⟩ l)
    + g (ix2 ⟨n.val / 4096, by omega⟩ ⟨4096 + l.val, by omega⟩)
      * ((∑ k : Fin 1024, a (ix3 ⟨n.val / 4096, by omega⟩ ⟨n.val % 4096, by omega⟩ k) * w (ix2 ⟨k.val, by omega⟩ l))
        + ∑ k : Fin 1024, r (ix3 ⟨n.val / 4096, by omega⟩ ⟨n.val % 4096, by omega⟩ k) * w (ix2 ⟨1024 + k.val, by omega⟩ l))

/-- A row `v` normalised by the root of its mean square, at column `l`, weighted, scaled and shifted. -/
def normed (v : Fin 2048 → EReal) (q s b : EReal) (l : Fin 2048) : EReal :=
  v l * Ideal.rsqrt (Ideal.div (∑ k : Fin 2048, v k * v k) (Ideal.ofBits FTy.f32 0x45000000#32) + Ideal.ofBits FTy.f32 0x358637BD#32)
      * q * (1 + s) + b

/-- The normalised row's entry at a row and a column. -/
def entry (a r : FVec Ideal S2x4096x1024 .f32) (w : FVec Ideal S2048x2048 .f32) (x : FVec Ideal S2x4096x2048 .f32)
    (g : FVec Ideal S2x12288 .f32) (q : FVec Ideal S2048 .f32) (n : Fin 8192) (l : Fin 2048) : EReal :=
  normed (mid a r w x g n) (q (ix1 l)) (g (ix2 ⟨n.val / 4096, by omega⟩ ⟨8192 + l.val, by omega⟩))
    (g (ix2 ⟨n.val / 4096, by omega⟩ ⟨6144 + l.val, by omega⟩)) l

variable (m : (ℓ : Loc nD τ sig) → Buf (Elt Ideal) ℓ) (c : Dev nD)

theorem V_att : V m c main_v1 = flat (m ((c : Thread nD τ).loc main_arg0)) := by
  show StableHlo.after hostOps0 _ (Proc.devRef .tc main_v1) = _
  after_results
  rfl
theorem V_rec : V m c main_v3 = flat (m ((c : Thread nD τ).loc main_arg1)) := by
  show StableHlo.after hostOps0 _ (Proc.devRef .tc main_v3) = _
  after_results
  rfl
theorem V_res : V m c main_v4 = flatRes (m ((c : Thread nD τ).loc main_arg3)) := by
  show StableHlo.after hostOps0 _ (Proc.devRef .tc main_v4) = _
  after_results
  rfl
theorem V_mod : V m c main_v5 = flatMod (m ((c : Thread nD τ).loc main_arg4)) := by
  show StableHlo.after hostOps0 _ (Proc.devRef .tc main_v5) = _
  after_results
  rfl
theorem V_norm : V m c main_v6 = flatNorm (m ((c : Thread nD τ).loc main_arg5)) := by
  show StableHlo.after hostOps0 _ (Proc.devRef .tc main_v6) = _
  after_results
  rfl

/-- Where the windows lie at point `t`: the rows' at block `t`, the matrix's halves and the norm's weights fixed,
    the modulation's at the batch's row of the gate, of the scale and of the shift. -/
theorem index_rows : ∀ t : Fin cfg0.N, win0_0.index t = ![t.val, 0] ∧ win0_1.index t = ![t.val, 0] ∧ win0_4.index t = ![t.val, 0] :=
  (by decide +kernel : ∀ t : Fin grid0.N, _)
theorem index_fixed : ∀ t : Fin cfg0.N, win0_2.index t = ![0, 0] ∧ win0_3.index t = ![1, 0] ∧ win0_6.index t = ![0, 0] :=
  (by decide +kernel : ∀ t : Fin grid0.N, _)
theorem index_mod : ∀ t : Fin cfg0.N, win0_5.index t = ![t.val / 8 * 6 + 2, 0, 0] ∧ win0_7.index t = ![t.val / 8 * 6 + 4, 0, 0]
    ∧ win0_8.index t = ![t.val / 8 * 6 + 3, 0, 0] :=
  (by decide +kernel : ∀ t : Fin grid0.N, _)

/-- The row of the result that a row of point `t`'s block is. -/
def rowOf (t : Fin cfg0.N) (i : Fin 512) : Fin 8192 :=
  ⟨512 * t.val + i.val, by have h : t.val < 16 := lt_of_lt_of_eq t.isLt N_0; omega⟩

/-- The modulation's row `p` of point `t`'s batch. -/
def modOf (t : Fin cfg0.N) (p : Fin 6) : Fin 12 :=
  ⟨t.val / 8 * 6 + p.val, by have h : t.val < 16 := lt_of_lt_of_eq t.isLt N_0; omega⟩

variable (t : Fin cfg0.N)

theorem blk_att (i : Fin 512) (k : Fin 1024) : (iblk m c 0 t : FVec Ideal S512x1024 .bf16) (ix2 i k)
    = flat (m ((c : Thread nD τ).loc main_arg0)) (ix2 (rowOf t i) k) := by
  refine (congrFun (V_att m c) _).trans (congrArg (flat _) (place ?_ ?_))
  · show win0_0.index t (0 : Fin 2) * 512 + 1 * i.val = 512 * t.val + i.val
    rw [(index_rows t).1]
    show t.val * 512 + 1 * i.val = _
    omega
  · show win0_0.index t (1 : Fin 2) * 1024 + 1 * k.val = k.val
    rw [(index_rows t).1]
    show 0 * 1024 + 1 * k.val = _
    omega

theorem blk_rec (i : Fin 512) (k : Fin 1024) : (iblk m c 1 t : FVec Ideal S512x1024 .bf16) (ix2 i k)
    = flat (m ((c : Thread nD τ).loc main_arg1)) (ix2 (rowOf t i) k) := by
  refine (congrFun (V_rec m c) _).trans (congrArg (flat _) (place ?_ ?_))
  · show win0_1.index t (0 : Fin 2) * 512 + 1 * i.val = 512 * t.val + i.val
    rw [(index_rows t).2.1]
    show t.val * 512 + 1 * i.val = _
    omega
  · show win0_1.index t (1 : Fin 2) * 1024 + 1 * k.val = k.val
    rw [(index_rows t).2.1]
    show 0 * 1024 + 1 * k.val = _
    omega

theorem blk_top (k : Fin 1024) (j : Fin 2048) : (iblk m c 2 t : FVec Ideal S1024x2048 .f32) (ix2 k j)
    = (m ((c : Thread nD τ).loc main_arg2) : FVec Ideal S2048x2048 .f32) (ix2 ⟨k.val, by omega⟩ j) := by
  refine (congrFun (V_main_arg2 m c) _).trans (congrArg (m ((c : Thread nD τ).loc main_arg2)) (place ?_ ?_))
  · show win0_2.index t (0 : Fin 2) * 1024 + 1 * k.val = k.val
    rw [(index_fixed t).1]
    show 0 * 1024 + 1 * k.val = _
    omega
  · show win0_2.index t (1 : Fin 2) * 2048 + 1 * j.val = j.val
    rw [(index_fixed t).1]
    show 0 * 2048 + 1 * j.val = _
    omega

theorem blk_bottom (k : Fin 1024) (j : Fin 2048) : (iblk m c 3 t : FVec Ideal S1024x2048 .f32) (ix2 k j)
    = (m ((c : Thread nD τ).loc main_arg2) : FVec Ideal S2048x2048 .f32) (ix2 ⟨1024 + k.val, by omega⟩ j) := by
  refine (congrFun (V_main_arg2 m c) _).trans (congrArg (m ((c : Thread nD τ).loc main_arg2)) (place ?_ ?_))
  · show win0_3.index t (0 : Fin 2) * 1024 + 1 * k.val = 1024 + k.val
    rw [(index_fixed t).2.1]
    show 1 * 1024 + 1 * k.val = _
    omega
  · show win0_3.index t (1 : Fin 2) * 2048 + 1 * j.val = j.val
    rw [(index_fixed t).2.1]
    show 0 * 2048 + 1 * j.val = _
    omega

theorem blk_res (i : Fin 512) (j : Fin 2048) : (iblk m c 4 t : FVec Ideal S512x2048 .f32) (ix2 i j)
    = flatRes (m ((c : Thread nD τ).loc main_arg3)) (ix2 (rowOf t i) j) := by
  refine (congrFun (V_res m c) _).trans (congrArg (flatRes _) (place ?_ ?_))
  · show win0_4.index t (0 : Fin 2) * 512 + 1 * i.val = 512 * t.val + i.val
    rw [(index_rows t).2.2]
    show t.val * 512 + 1 * i.val = _
    omega
  · show win0_4.index t (1 : Fin 2) * 2048 + 1 * j.val = j.val
    rw [(index_rows t).2.2]
    show 0 * 2048 + 1 * j.val = _
    omega

theorem blk_gate (j : Fin 2048) : (iblk m c 5 t : FVec Ideal S1x1x2048 .f32) (ix3 0 0 j)
    = flatMod (m ((c : Thread nD τ).loc main_arg4)) (ix3 (modOf t 2) 0 j) := by
  refine (congrFun (V_mod m c) _).trans (congrArg (flatMod _) (place3 ?_ ?_ ?_))
  · show win0_5.index t (0 : Fin 3) * 1 + 1 * 0 = t.val / 8 * 6 + 2
    rw [(index_mod t).1]
    show (t.val / 8 * 6 + 2) * 1 + 1 * 0 = _
    omega
  · show win0_5.index t (1 : Fin 3) * 1 + 1 * 0 = 0
    rw [(index_mod t).1]
    rfl
  · show win0_5.index t (2 : Fin 3) * 2048 + 1 * j.val = j.val
    rw [(index_mod t).1]
    show 0 * 2048 + 1 * j.val = _
    omega

theorem blk_norm (j : Fin 2048) : (iblk m c 6 t : FVec Ideal S1x2048 .f32) (ix2 0 j)
    = flatNorm (m ((c : Thread nD τ).loc main_arg5)) (ix2 0 j) := by
  refine (congrFun (V_norm m c) _).trans (congrArg (flatNorm _) (place ?_ ?_))
  · show win0_6.index t (0 : Fin 2) * 1 + 1 * 0 = 0
    rw [(index_fixed t).2.2]
    rfl
  · show win0_6.index t (1 : Fin 2) * 2048 + 1 * j.val = j.val
    rw [(index_fixed t).2.2]
    show 0 * 2048 + 1 * j.val = _
    omega

theorem blk_scale (j : Fin 2048) : (iblk m c 7 t : FVec Ideal S1x1x2048 .f32) (ix3 0 0 j)
    = flatMod (m ((c : Thread nD τ).loc main_arg4)) (ix3 (modOf t 4) 0 j) := by
  refine (congrFun (V_mod m c) _).trans (congrArg (flatMod _) (place3 ?_ ?_ ?_))
  · show win0_7.index t (0 : Fin 3) * 1 + 1 * 0 = t.val / 8 * 6 + 4
    rw [(index_mod t).2.1]
    show (t.val / 8 * 6 + 4) * 1 + 1 * 0 = _
    omega
  · show win0_7.index t (1 : Fin 3) * 1 + 1 * 0 = 0
    rw [(index_mod t).2.1]
    rfl
  · show win0_7.index t (2 : Fin 3) * 2048 + 1 * j.val = j.val
    rw [(index_mod t).2.1]
    show 0 * 2048 + 1 * j.val = _
    omega

theorem blk_shift (j : Fin 2048) : (iblk m c 8 t : FVec Ideal S1x1x2048 .f32) (ix3 0 0 j)
    = flatMod (m ((c : Thread nD τ).loc main_arg4)) (ix3 (modOf t 3) 0 j) := by
  refine (congrFun (V_mod m c) _).trans (congrArg (flatMod _) (place3 ?_ ?_ ?_))
  · show win0_8.index t (0 : Fin 3) * 1 + 1 * 0 = t.val / 8 * 6 + 3
    rw [(index_mod t).2.2]
    show (t.val / 8 * 6 + 3) * 1 + 1 * 0 = _
    omega
  · show win0_8.index t (1 : Fin 3) * 1 + 1 * 0 = 0
    rw [(index_mod t).2.2]
    rfl
  · show win0_8.index t (2 : Fin 3) * 2048 + 1 * j.val = j.val
    rw [(index_mod t).2.2]
    show 0 * 2048 + 1 * j.val = _
    omega

/-- What the points leave in the two scratches: the first point loads the matrix's halves, the others keep them. -/
theorem first (h : t.val % 16 = 0) : (outsAt0 m c t.val t.isLt).2.2.1 = k0_pay2 (iblk m c 2 t)
    ∧ (outsAt0 m c t.val t.isLt).2.2.2 = k0_pay3 (iblk m c 3 t) := by
  rw [outsAt0_A m c t h]; dsimp only
  constructor
  · frame_out
  · frame_out

theorem later (h : ¬ t.val % 16 = 0) :
    (outsAt0 m c t.val t.isLt).2.2 = (outsAt0 m c (t.val - 1) (lt_of_le_of_lt (Nat.sub_le _ _) t.isLt)).2.2 := by
  rw [outsAt0_B m c t h]
  rfl

/-- A point's two blocks, over what the scratches hold after the point. -/
def midBlock : FVec Ideal S512x2048 .f32 :=
  k0_pay4 (iblk m c 0 t) (outsAt0 m c t.val t.isLt).2.2.1 (iblk m c 1 t) (outsAt0 m c t.val t.isLt).2.2.2 (iblk m c 4 t) (iblk m c 5 t)
def normBlock : FVec Ideal S512x2048 .bf16 :=
  k0_pay1 (midBlock m c t) (k0_pay5 (iblk m c 6 t)) (k0_pay6 (iblk m c 7 t)) (k0_pay7 (iblk m c 8 t))
    (k0_pay8 (iblk m c 0 t) (outsAt0 m c t.val t.isLt).2.2.1 (iblk m c 1 t) (outsAt0 m c t.val t.isLt).2.2.2 (iblk m c 4 t) (iblk m c 5 t))

theorem mid_of_scratch : (outsAt0 m c t.val t.isLt).1 = midBlock m c t := by
  unfold midBlock
  by_cases h : t.val % 16 = 0
  · rw [(first m c t h).1, (first m c t h).2, outsAt0_A m c t h]; dsimp only
    frame_out
  · rw [later m c t h, outsAt0_B m c t h]; dsimp only
    frame_out
    rw [read_unread_whole, read_unread_whole]

theorem norm_of_scratch : (outsAt0 m c t.val t.isLt).2.1 = normBlock m c t := by
  unfold normBlock midBlock
  by_cases h : t.val % 16 = 0
  · rw [(first m c t h).1, (first m c t h).2, outsAt0_A m c t h]; dsimp only
    frame_out
  · rw [later m c t h, outsAt0_B m c t h]; dsimp only
    frame_out
    rw [read_unread_whole, read_unread_whole]

/-- The matrix's halves are in the scratches after every point. -/
theorem scratch_after : ∀ (n : ℕ) (hn : n < cfg0.N) (k : Fin 1024) (j : Fin 2048),
    (outsAt0 m c n hn).2.2.1 (ix2 k j) = (m ((c : Thread nD τ).loc main_arg2) : FVec Ideal S2048x2048 .f32) (ix2 ⟨k.val, by omega⟩ j)
    ∧ (outsAt0 m c n hn).2.2.2 (ix2 k j)
      = (m ((c : Thread nD τ).loc main_arg2) : FVec Ideal S2048x2048 .f32) (ix2 ⟨1024 + k.val, by omega⟩ j) := by
  intro n
  induction n with
  | zero =>
    intro hn k j
    obtain ⟨e1, e2⟩ := first m c ⟨0, hn⟩ rfl
    refine ⟨(congrFun e1 _).trans ?_, (congrFun e2 _).trans ?_⟩
    · rw [← blk_top m c ⟨0, hn⟩ k j]
      pointwise [k0_pay2]
    · rw [← blk_bottom m c ⟨0, hn⟩ k j]
      pointwise [k0_pay3]
  | succ n ih =>
    intro hn k j
    have h : ¬ (n + 1) % 16 = 0 := by have h' : n + 1 < 16 := lt_of_lt_of_eq hn N_0; omega
    rw [later m c ⟨n + 1, hn⟩ h]
    exact ih (Nat.lt_of_succ_lt hn) k j

/-- The payloads, read at a row and a column. -/
theorem mid_apply (a b : FVec Ideal S512x1024 .bf16) (u v : FVec Ideal S1024x2048 .bf16) (x : FVec Ideal S512x2048 .f32)
    (g : FVec Ideal S1x1x2048 .f32) (i : Fin 512) (j : Fin 2048) : (k0_pay4 (F := Ideal) a u b v x g) (ix2 i j)
      = x (ix2 i j) + g (ix3 0 0 j) * ((∑ k : Fin 1024, a (ix2 i k) * u (ix2 k j)) + ∑ k : Fin 1024, b (ix2 i k) * v (ix2 k j)) := by
  pointwise [k0_pay4]
theorem square_apply (a b : FVec Ideal S512x1024 .bf16) (u v : FVec Ideal S1024x2048 .bf16) (x : FVec Ideal S512x2048 .f32)
    (g : FVec Ideal S1x1x2048 .f32) (i : Fin 512) : (k0_pay8 (F := Ideal) a u b v x g) (ix2 i 0)
      = ∑ k : Fin 2048, k0_pay4 (F := Ideal) a u b v x g (ix2 i k) * k0_pay4 (F := Ideal) a u b v x g (ix2 i k) := by
  pointwise [k0_pay8]
theorem norm_apply (x : FVec Ideal S512x2048 .f32) (q : FVec Ideal S1x2048 .f32) (s b : FVec Ideal S1x1x2048 .f32)
    (r : FVec Ideal S512x1 .f32) (i : Fin 512) (j : Fin 2048) (h : r (ix2 i 0) = ∑ k : Fin 2048, x (ix2 i k) * x (ix2 i k)) :
    (k0_pay1 (F := Ideal) x (k0_pay5 (F := Ideal) q) (k0_pay6 (F := Ideal) s) (k0_pay7 (F := Ideal) b) r) (ix2 i j)
      = normed (fun l => x (ix2 i l)) (q (ix2 0 j)) (s (ix3 0 0 j)) (b (ix3 0 0 j)) j := by
  unfold normed
  rw [← h]
  pointwise [k0_pay1, k0_pay5, k0_pay6, k0_pay7]

/-- A row of the modulation is a stretch of the batch's. -/
theorem mod_apply (g : FVec Ideal S2x12288 .f32) (i : Fin 512) (p : Fin 6) (l : Fin 2048) : flatMod g (ix3 (modOf t p) 0 l)
    = g (ix2 ⟨(rowOf t i).val / 4096, by have := (rowOf t i).isLt; omega⟩ ⟨p.val * 2048 + l.val, by omega⟩) := by
  rw [flatMod_apply]
  refine congrArg g (place ?_ ?_)
  · show (t.val / 8 * 6 + p.val) / 6 = (512 * t.val + i.val) / 4096
    omega
  · show (t.val / 8 * 6 + p.val) % 6 * 2048 + l.val = p.val * 2048 + l.val
    omega

/-- The blocks' payload at a row whose operands are the result's row. -/
theorem mid_eq {a b : FVec Ideal S512x1024 .bf16} {u v : FVec Ideal S1024x2048 .bf16} {x : FVec Ideal S512x2048 .f32}
    {g : FVec Ideal S1x1x2048 .f32} {i : Fin 512} {A B : FVec Ideal S2x4096x1024 .f32} {W : FVec Ideal S2048x2048 .f32}
    {X : FVec Ideal S2x4096x2048 .f32} {G : FVec Ideal S2x12288 .f32}
    (ha : ∀ k, a (ix2 i k) = flat A (ix2 (rowOf t i) k)) (hb : ∀ k, b (ix2 i k) = flat B (ix2 (rowOf t i) k))
    (hu : ∀ k j, u (ix2 k j) = W (ix2 ⟨k.val, by omega⟩ j)) (hv : ∀ k j, v (ix2 k j) = W (ix2 ⟨1024 + k.val, by omega⟩ j))
    (hx : ∀ j, x (ix2 i j) = flatRes X (ix2 (rowOf t i) j)) (hg : ∀ j, g (ix3 0 0 j) = flatMod G (ix3 (modOf t 2) 0 j))
    (j : Fin 2048) : (k0_pay4 (F := Ideal) a u b v x g) (ix2 i j) = mid A B W X G (rowOf t i) j := by
  rw [mid_apply]
  simp only [ha, hb, hu, hv, hx, hg, flat_apply, flatRes_apply, mod_apply t G i]
  rfl

/-- The first block a point writes back. -/
theorem mid_block (i : Fin 512) (j : Fin 2048) : midBlock m c t (ix2 i j)
    = mid (m ((c : Thread nD τ).loc main_arg0)) (m ((c : Thread nD τ).loc main_arg1)) (m ((c : Thread nD τ).loc main_arg2))
        (m ((c : Thread nD τ).loc main_arg3)) (m ((c : Thread nD τ).loc main_arg4)) (rowOf t i) j :=
  mid_eq t (blk_att m c t i) (blk_rec m c t i) (fun k j => (scratch_after m c t.val t.isLt k j).1)
    (fun k j => (scratch_after m c t.val t.isLt k j).2) (blk_res m c t i) (blk_gate m c t) j

/-- The second payload at a row whose operands are the result's row. -/
theorem norm_eq {x : FVec Ideal S512x2048 .f32} {q : FVec Ideal S1x2048 .f32} {s b : FVec Ideal S1x1x2048 .f32}
    {r : FVec Ideal S512x1 .f32} {i : Fin 512} {M : Fin 2048 → EReal} {Q : FVec Ideal S2048 .f32} {G : FVec Ideal S2x12288 .f32}
    (h : r (ix2 i 0) = ∑ k : Fin 2048, x (ix2 i k) * x (ix2 i k)) (hx : ∀ k, x (ix2 i k) = M k)
    (hq : ∀ j, q (ix2 0 j) = flatNorm Q (ix2 0 j)) (hs : ∀ j, s (ix3 0 0 j) = flatMod G (ix3 (modOf t 4) 0 j))
    (hb : ∀ j, b (ix3 0 0 j) = flatMod G (ix3 (modOf t 3) 0 j)) (j : Fin 2048) :
    (k0_pay1 (F := Ideal) x (k0_pay5 (F := Ideal) q) (k0_pay6 (F := Ideal) s) (k0_pay7 (F := Ideal) b) r) (ix2 i j)
      = normed M (Q (ix1 j))
          (G (ix2 ⟨(rowOf t i).val / 4096, by have := (rowOf t i).isLt; omega⟩ ⟨8192 + j.val, by omega⟩))
          (G (ix2 ⟨(rowOf t i).val / 4096, by have := (rowOf t i).isLt; omega⟩ ⟨6144 + j.val, by omega⟩)) j := by
  rw [norm_apply x q s b r i j h, show (fun l => x (ix2 i l)) = M from funext hx, hq, hs, hb, flatNorm_apply, mod_apply t G i,
    mod_apply t G i]
  rfl

/-- The second block a point writes back. -/
theorem norm_block (i : Fin 512) (j : Fin 2048) : normBlock m c t (ix2 i j)
    = entry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (rowOf t i) j :=
  norm_eq t (square_apply _ _ _ _ _ _ i) (mid_block m c t i) (blk_norm m c t) (blk_scale m c t) (blk_shift m c t) j

/-- The point and the place in its block that hold a row of the result. -/
theorem row_lt (n : Fin 8192) : n.val / 512 < cfg0.N := lt_of_lt_of_eq (by omega) N_0.symm
theorem row_eq (n : Fin 8192) : rowOf ⟨n.val / 512, row_lt n⟩ ⟨n.val % 512, by omega⟩ = n :=
  Fin.ext (by show 512 * (n.val / 512) + n.val % 512 = n.val; omega)

/-- The kernel's first result at a row and a column. -/
theorem kernel_mid (n : Fin 8192) (l : Fin 2048) : (Value.G9 m c : FVec Ideal S8192x2048 .f32) (ix2 n l)
    = mid (m ((c : Thread nD τ).loc main_arg0)) (m ((c : Thread nD τ).loc main_arg1)) (m ((c : Thread nD τ).loc main_arg2))
        (m ((c : Thread nD τ).loc main_arg3)) (m ((c : Thread nD τ).loc main_arg4)) n l := by
  have hq : 1 * (n.val / 512 - 0) + 1 * (l.val / 2048 - 0) = n.val / 512 := by omega
  have e := mid_block m c ⟨n.val / 512, row_lt n⟩ ⟨n.val % 512, by omega⟩ l
  rw [row_eq, ← mid_of_scratch] at e
  rw [← e]
  have hl : Value.loc9Of (ix2 n l : S8192x2048.Idx) = ix2 ⟨n.val % 512, by omega⟩ l :=
    place rfl (show l.val % 2048 = l.val by omega)
  unfold Value.G9
  rw [dif_pos (show Value.pt9Of (ix2 n l : S8192x2048.Idx) < cfg0.N from lt_of_eq_of_lt hq (row_lt n)), hl, Value.outsAt0_sweep]
  exact congrArg (fun z : Vec Ideal S512x2048 .f32 × Vec Ideal S512x2048 .bf16 × Vec Ideal S1024x2048 .bf16 × Vec Ideal S1024x2048 .bf16 =>
      z.1 (ix2 ⟨n.val % 512, by omega⟩ l)) (Value.fold0_congr m c _ _ _ _ hq)

/-- The kernel's second result at a row and a column. -/
theorem kernel_norm (n : Fin 8192) (l : Fin 2048) : (Value.G10 m c : FVec Ideal S8192x2048 .bf16) (ix2 n l)
    = entry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) n l := by
  have hq : 1 * (n.val / 512 - 0) + 1 * (l.val / 2048 - 0) = n.val / 512 := by omega
  have e := norm_block m c ⟨n.val / 512, row_lt n⟩ ⟨n.val % 512, by omega⟩ l
  rw [row_eq, ← norm_of_scratch] at e
  rw [← e]
  have hl : Value.loc10Of (ix2 n l : S8192x2048.Idx) = ix2 ⟨n.val % 512, by omega⟩ l :=
    place rfl (show l.val % 2048 = l.val by omega)
  unfold Value.G10
  rw [dif_pos (show Value.pt10Of (ix2 n l : S8192x2048.Idx) < cfg0.N from lt_of_eq_of_lt hq (row_lt n)), hl, Value.outsAt0_sweep]
  exact congrArg (fun z : Vec Ideal S512x2048 .f32 × Vec Ideal S512x2048 .bf16 × Vec Ideal S1024x2048 .bf16 × Vec Ideal S1024x2048 .bf16 =>
      z.2.1 (ix2 ⟨n.val % 512, by omega⟩ l)) (Value.fold0_congr m c _ _ _ _ hq)

end OutProj

namespace OutProj.Reference

open Idealize.ShloMosaic Idealize.ShloMosaic.TcCoe Idealize.ShloMosaic.Pointwise Cert.Reference4Ideal Cert.Reference4Ideal.Gen

/-- The reference's residual plus gated projection. -/
def sum (a r : FVec Ideal S2x4096x1024 .f32) (w : FVec Ideal S2048x2048 .f32) (x : FVec Ideal S2x4096x2048 .f32)
    (g : FVec Ideal S2x12288 .f32) : FVec Ideal S2x4096x2048 .f32 :=
  addf x (mulf (broadcastInDim S2x4096x2048 ![0, 1, 2] bcast_S2x1x2048_S2x4096x2048_0_1_2
      (extractStridedSlice S2x1x2048 ![0, 0, 4096] (broadcastInDim S2x1x12288 ![0, 2] bcast_S2x12288_S2x1x12288_0_2 g)
        slices_S2x1x12288_S2x1x2048_0_0_4096))
    (Host.dotGeneral (F := Ideal) dot_S2x4096x2048_S2048x2048_S2x4096x2048_2_0_01_1_n_n none
      (concatenate S2x4096x2048 2 [⟨S2x4096x1024, a⟩, ⟨S2x4096x1024, r⟩] concatenates_S2x4096x1024_S2x4096x1024_S2x4096x2048_d2) w))

/-- The reference's normalised rows, weighted, scaled and shifted. -/
def norm (y : FVec Ideal S2x4096x2048 .f32) (g : FVec Ideal S2x12288 .f32) (q : FVec Ideal S2048 .f32) : FVec Ideal S2x4096x2048 .f32 :=
  addf (mulf (mulf (mulf y (broadcastInDim S2x4096x2048 ![0, 1, 2] bcast_S2x4096x1_S2x4096x2048_0_1_2 (Host.rsqrt (addf
      (Host.divf (broadcastInDim S2x4096x1 ![0, 1] bcast_S2x4096_S2x4096x1_0_1 (Host.reduceAdd (mulf y y) (constant S_ .f32 0x00000000#32)
          reducesTo_S2x4096x2048_S2x4096_d2 h_S_)) (broadcastInDim S2x4096x1 ![] bcast_S_S2x4096x1 (constant S_ .f32 0x45000000#32)))
      (broadcastInDim S2x4096x1 ![] bcast_S_S2x4096x1 (constant S_ .f32 0x358637BD#32))))))
      (broadcastInDim S2x4096x2048 ![0, 1, 2] bcast_S1x1x2048_S2x4096x2048_0_1_2 (broadcastInDim S1x1x2048 ![2] bcast_S2048_S1x1x2048_2 q)))
      (broadcastInDim S2x4096x2048 ![0, 1, 2] bcast_S2x1x2048_S2x4096x2048_0_1_2
        (addf (broadcastInDim S2x1x2048 ![] bcast_S_S2x1x2048 (constant S_ .f32 0x3F800000#32))
          (extractStridedSlice S2x1x2048 ![0, 0, 8192] (broadcastInDim S2x1x12288 ![0, 2] bcast_S2x12288_S2x1x12288_0_2 g)
            slices_S2x1x12288_S2x1x2048_0_0_8192))))
    (broadcastInDim S2x4096x2048 ![0, 1, 2] bcast_S2x1x2048_S2x4096x2048_0_1_2
      (extractStridedSlice S2x1x2048 ![0, 0, 6144] (broadcastInDim S2x1x12288 ![0, 2] bcast_S2x12288_S2x1x12288_0_2 g)
        slices_S2x1x12288_S2x1x2048_0_0_6144))

/-- The reference's two results, read at a row and a column. -/
theorem sum_at (a r : FVec Ideal S2x4096x1024 .f32) (w : FVec Ideal S2048x2048 .f32) (x : FVec Ideal S2x4096x2048 .f32)
    (g : FVec Ideal S2x12288 .f32) (n : Fin 8192) (l : Fin 2048) :
    sum a r w x g (ix3 ⟨n.val / 4096, by omega⟩ ⟨n.val % 4096, by omega⟩ l) = OutProj.mid a r w x g n l := by
  pointwise [sum]
  rfl
theorem sum_apply (a r : FVec Ideal S2x4096x1024 .f32) (w : FVec Ideal S2048x2048 .f32) (x : FVec Ideal S2x4096x2048 .f32)
    (g : FVec Ideal S2x12288 .f32) (n : Fin 8192) (l : Fin 2048) :
    (shapeCast S8192x2048 (sum a r w x g) shapeCasts_S2x4096x2048_S8192x2048 : FVec Ideal S8192x2048 .f32) (ix2 n l)
      = OutProj.mid a r w x g n l := by
  rw [← sum_at]
  pointwise []
theorem norm_at (y : FVec Ideal S2x4096x2048 .f32) (g : FVec Ideal S2x12288 .f32) (q : FVec Ideal S2048 .f32) (n : Fin 8192) (l : Fin 2048) :
    (truncf (F := Ideal) .bf16 (shapeCast S8192x2048 (norm y g q) shapeCasts_S2x4096x2048_S8192x2048) bitsLt_bf16_f32 :
        FVec Ideal S8192x2048 .bf16) (ix2 n l)
      = OutProj.normed (fun k => y (ix3 ⟨n.val / 4096, by omega⟩ ⟨n.val % 4096, by omega⟩ k)) (q (ix1 l))
          (g (ix2 ⟨n.val / 4096, by omega⟩ ⟨8192 + l.val, by omega⟩)) (g (ix2 ⟨n.val / 4096, by omega⟩ ⟨6144 + l.val, by omega⟩)) l := by
  pointwise [norm]
  rfl
theorem norm_apply (a r : FVec Ideal S2x4096x1024 .f32) (w : FVec Ideal S2048x2048 .f32) (x : FVec Ideal S2x4096x2048 .f32)
    (g : FVec Ideal S2x12288 .f32) (q : FVec Ideal S2048 .f32) (n : Fin 8192) (l : Fin 2048) :
    (truncf (F := Ideal) .bf16 (shapeCast S8192x2048 (norm (sum a r w x g) g q) shapeCasts_S2x4096x2048_S8192x2048) bitsLt_bf16_f32 :
        FVec Ideal S8192x2048 .bf16) (ix2 n l) = OutProj.entry a r w x g q n l := by
  rw [norm_at, show (fun k => sum a r w x g (ix3 ⟨n.val / 4096, by omega⟩ ⟨n.val % 4096, by omega⟩ k)) = OutProj.mid a r w x g n from
    funext (sum_at a r w x g n)]
  rfl

end OutProj.Reference

namespace OutProj

open Places Idealize.ShloMosaic Idealize.SL.Sem Idealize.ShloMosaic.Pointwise

/-- The reference runs, its arguments unchanged and every semaphore zero at the end. -/
theorem quiescent_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- Kernel and reference end with the same two results. -/
theorem algebraic : Cert.algebraic_Kernel4Ideal_Reference4Ideal := by
  intro m ρ m' ρ' _ hagree
  refine ⟨_, _, Cert.Kernel4Ideal.Value.run (F := Ideal) m ρ, ?_⟩
  refine (θ_run Cert.Reference4Ideal.defs _ _).mono (fun _ h c => ⟨?_, ?_, (h c).2.2⟩) (Cert.Reference4Ideal.Value.run (F := Ideal) m' ρ')
  · rw [(h c).1]
    obtain ⟨h0, h1, h2, h3, h4, -⟩ := hagree c
    rw [h0, h1, h2, h3, h4]
    funext i
    rw [show i = ix2 (i 0) (i 1) from place rfl rfl]
    exact (Reference.sum_apply ..).trans (kernel_mid m c _ _).symm
  · rw [(h c).2.1]
    obtain ⟨h0, h1, h2, h3, h4, h5⟩ := hagree c
    rw [h0, h1, h2, h3, h4, h5]
    funext i
    rw [show i = ix2 (i 0) (i 1) from place rfl rfl]
    exact (Reference.norm_apply ..).trans (kernel_norm m c _ _).symm

end OutProj
-- ==== Proof.Rkv.lean ====
/-
  The input projection's columns for the recurrence (receptance, key and value): the kernel keeps a block of rows of
  the transposed matrix in scratch while the blocks of rows of the operand go by; over the reals its result is the
  reference's.
-/
module

public import proofs.«01_k».proof.Defs
public import proofs.«01_k».proof.Proof.Gen.Kernel5Ideal.Value
public import proofs.«01_k».proof.Proof.Gen.Reference5Ideal.Run
public import proofs.«01_k».proof.Proof.Places
public import Idealize.ShloMosaic.Lib.Pipeline.ReadBack
public import Idealize.ShloMosaic.Adequacy
public import Idealize.ShloMosaic.Init
public import Idealize.ShloMosaic.Lib.Quiescent

@[expose] public section

set_option maxRecDepth 16384

noncomputable section

namespace Rkv

open Places Idealize.ShloMosaic Idealize.ShloMosaic.TcCoe Idealize.ShloMosaic.Pointwise Cert.Kernel5Ideal Cert.Kernel5Ideal.Gen

/-- The rows of both batches, one under the other. -/
def flat (x : FVec Ideal S2x4096x2048 .f32) : FVec Ideal S8192x2048 .f32 := shapeCast S8192x2048 x shapeCasts_S2x4096x2048_S8192x2048

/-- The matrix with its columns as rows. -/
def turned (w : FVec Ideal S2048x7696 .f32) : FVec Ideal S7696x2048 .f32 :=
  transpose S7696x2048 [1, 0] w transposes_S2048x7696_S7696x2048_1_0

theorem flat_apply (x : FVec Ideal S2x4096x2048 .f32) (n : Fin 8192) (l : Fin 2048) :
    flat x (ix2 n l) = x (ix3 ⟨n.val / 4096, by omega⟩ ⟨n.val % 4096, by omega⟩ l) := by
  pointwise [flat]
theorem turned_apply (w : FVec Ideal S2048x7696 .f32) (n : Fin 7696) (l : Fin 2048) : turned w (ix2 n l) = w (ix2 l n) := by
  pointwise [turned]

/-- The result's entry at a row and a column: the sum of products of the operand's row and the matrix's column. -/
def entry (x : FVec Ideal S2x4096x2048 .f32) (w : FVec Ideal S2048x7696 .f32) (n : Fin 8192) (l : Fin 3072) : EReal :=
  ∑ k : Fin 2048, x (ix3 ⟨n.val / 4096, by omega⟩ ⟨n.val % 4096, by omega⟩ k) * w (ix2 k ⟨4176 + l.val, by omega⟩)

variable (m : (ℓ : Loc nD τ sig) → Buf (Elt Ideal) ℓ) (c : Dev nD)

theorem V_h : V m c main_v1 = flat (m ((c : Thread nD τ).loc main_arg0)) := by
  show StableHlo.after hostOps0 _ (Proc.devRef .tc main_v1) = _
  after_results
  rfl
theorem V_w : V m c main_v2 = turned (m ((c : Thread nD τ).loc main_arg1)) := by
  show StableHlo.after hostOps0 _ (Proc.devRef .tc main_v2) = _
  after_results
  rfl

/-- Where the windows lie at point `t`: the rows go round eight by eight, the columns stay for eight points. -/
theorem index_at : ∀ t : Fin cfg0.N, win0_0.index t = ![t.val % 8, 0] ∧ win0_1.index t = ![4176 + 1024 * (t.val / 8), 0] :=
  (by decide +kernel : ∀ t : Fin grid0.N, _)

/-- The row and the column of the result that a place of point `t`'s block is, and the column of the matrix. -/
def rowOf (t : ℕ) (i : Fin 1024) : Fin 8192 := ⟨1024 * (t % 8) + i.val, by omega⟩
def colOf (t : Fin cfg0.N) (j : Fin 1024) : Fin 3072 :=
  ⟨1024 * (t.val / 8) + j.val, by have h : t.val < 24 := lt_of_lt_of_eq t.isLt N_0; omega⟩
def lineOf (l : Fin 3072) : Fin 7696 := ⟨4176 + l.val, by omega⟩

variable (t : Fin cfg0.N)

theorem blk_h (i : Fin 1024) (k : Fin 2048) : (iblk m c 0 t : FVec Ideal S1024x2048 .bf16) (ix2 i k)
    = flat (m ((c : Thread nD τ).loc main_arg0)) (ix2 (rowOf t.val i) k) := by
  refine (congrFun (V_h m c) _).trans (congrArg (flat _) (place ?_ ?_))
  · show win0_0.index t (0 : Fin 2) * 1024 + 1 * i.val = 1024 * (t.val % 8) + i.val
    rw [(index_at t).1]
    show t.val % 8 * 1024 + 1 * i.val = _
    omega
  · show win0_0.index t (1 : Fin 2) * 2048 + 1 * k.val = k.val
    rw [(index_at t).1]
    show 0 * 2048 + 1 * k.val = _
    omega

theorem blk_w (j : Fin 1024) (k : Fin 2048) : (iblk m c 1 t : FVec Ideal S1024x2048 .f32) (ix2 j k)
    = turned (m ((c : Thread nD τ).loc main_arg1)) (ix2 (lineOf (colOf t j)) k) := by
  refine (congrFun (V_w m c) _).trans (congrArg (turned _) (place ?_ ?_))
  · show win0_1.index t (0 : Fin 2) + 1 * j.val = 4176 + (1024 * (t.val / 8) + j.val)
    rw [(index_at t).2]
    show 4176 + 1024 * (t.val / 8) + 1 * j.val = _
    omega
  · show win0_1.index t (1 : Fin 2) + 1 * k.val = k.val
    rw [(index_at t).2]
    show 0 + 1 * k.val = _
    omega

/-- What a point leaves in the scratch of the matrix, and in the result's block: the sums over what the scratch
    holds after the point. -/
theorem first_of_eight (h : t.val % 8 = 0) : (outsAt0 m c t.val t.isLt).2 = k0_pay1 (iblk m c 1 t) := by
  rw [outsAt0_A m c t h]; dsimp only
  frame_out

theorem later_of_eight (h : ¬ t.val % 8 = 0) :
    (outsAt0 m c t.val t.isLt).2 = (outsAt0 m c (t.val - 1) (lt_of_le_of_lt (Nat.sub_le _ _) t.isLt)).2 := by
  rw [outsAt0_B m c t h]
  rfl

theorem out_of_scratch : (outsAt0 m c t.val t.isLt).1 = k0_pay2 (iblk m c 0 t) (outsAt0 m c t.val t.isLt).2 := by
  by_cases h : t.val % 8 = 0
  · rw [first_of_eight m c t h, outsAt0_A m c t h]; dsimp only
    frame_out
  · rw [later_of_eight m c t h, outsAt0_B m c t h]; dsimp only
    frame_out
    rw [read_unread_whole]

/-- A block of the matrix's columns is in the scratch after every point. -/
theorem scratch_after : ∀ (n : ℕ) (hn : n < cfg0.N) (j : Fin 1024) (k : Fin 2048), (outsAt0 m c n hn).2 (ix2 j k)
    = turned (m ((c : Thread nD τ).loc main_arg1)) (ix2 (lineOf (colOf ⟨n, hn⟩ j)) k) := by
  have first : ∀ (t : Fin cfg0.N) (h : t.val % 8 = 0) (j : Fin 1024) (k : Fin 2048), (outsAt0 m c t.val t.isLt).2 (ix2 j k)
      = turned (m ((c : Thread nD τ).loc main_arg1)) (ix2 (lineOf (colOf t j)) k) := by
    intro t h j k
    rw [first_of_eight m c t h, ← blk_w m c t j k]
    pointwise [k0_pay1]
  intro n
  induction n with
  | zero => exact fun hn => first ⟨0, hn⟩ rfl
  | succ n ih =>
    intro hn j k
    by_cases h : (n + 1) % 8 = 0
    · exact first ⟨n + 1, hn⟩ h j k
    · have e : colOf ⟨n + 1, hn⟩ j = colOf ⟨n, Nat.lt_of_succ_lt hn⟩ j :=
        Fin.ext (by show 1024 * ((n + 1) / 8) + j.val = 1024 * (n / 8) + j.val; omega)
      rw [later_of_eight m c ⟨n + 1, hn⟩ h, e]
      exact ih (Nat.lt_of_succ_lt hn) j k

/-- The block of a point. -/
theorem point_apply (h : FVec Ideal S1024x2048 .bf16) (w : FVec Ideal S1024x2048 .bf16) (i j : Fin 1024) :
    (k0_pay2 (F := Ideal) h w) (ix2 i j) = ∑ k : Fin 2048, h (ix2 i k) * w (ix2 j k) := by
  pointwise [k0_pay2]

/-- … which is the result's entry when the rows are its row and its column. -/
theorem point_eq_entry {h w : FVec Ideal S1024x2048 .bf16} {i j : Fin 1024} {X : FVec Ideal S2x4096x2048 .f32}
    {W : FVec Ideal S2048x7696 .f32} {n : Fin 8192} {l : Fin 3072} (hh : ∀ k, h (ix2 i k) = flat X (ix2 n k))
    (hw : ∀ k, w (ix2 j k) = turned W (ix2 (lineOf l) k)) : (k0_pay2 (F := Ideal) h w) (ix2 i j) = entry X W n l := by
  rw [point_apply]
  simp only [hh, hw, flat_apply, turned_apply]
  rfl

/-- The block a point writes back. -/
theorem block_apply (i j : Fin 1024) : (outsAt0 m c t.val t.isLt).1 (ix2 i j)
    = entry (m ((c : Thread nD τ).loc main_arg0)) (m ((c : Thread nD τ).loc main_arg1)) (rowOf t.val i) (colOf t j) := by
  rw [out_of_scratch]
  exact point_eq_entry (blk_h m c t i) (fun k => scratch_after m c t.val t.isLt j k)

/-- The kernel's result at a row and a column. -/
theorem kernel_apply (n : Fin 8192) (l : Fin 3072) : (Value.G2 m c : FVec Ideal S8192x3072 .f32) (ix2 n l)
    = entry (m ((c : Thread nD τ).loc main_arg0)) (m ((c : Thread nD τ).loc main_arg1)) n l := by
  have hq : 1 * (n.val / 1024 - 0) + 8 * (l.val / 1024 - 0) = n.val / 1024 + 8 * (l.val / 1024) := by omega
  have hpt : n.val / 1024 + 8 * (l.val / 1024) < cfg0.N := lt_of_lt_of_eq (by omega) N_0.symm
  have e := block_apply m c ⟨n.val / 1024 + 8 * (l.val / 1024), hpt⟩ ⟨n.val % 1024, by omega⟩ ⟨l.val % 1024, by omega⟩
  have hr : rowOf (n.val / 1024 + 8 * (l.val / 1024)) ⟨n.val % 1024, by omega⟩ = n :=
    Fin.ext (by show 1024 * ((n.val / 1024 + 8 * (l.val / 1024)) % 8) + n.val % 1024 = n.val; omega)
  have hc : colOf ⟨n.val / 1024 + 8 * (l.val / 1024), hpt⟩ ⟨l.val % 1024, by omega⟩ = l :=
    Fin.ext (by show 1024 * ((n.val / 1024 + 8 * (l.val / 1024)) / 8) + l.val % 1024 = l.val; omega)
  rw [hr, hc] at e
  rw [← e]
  have hl : Value.loc2Of (ix2 n l : S8192x3072.Idx) = ix2 ⟨n.val % 1024, by omega⟩ ⟨l.val % 1024, by omega⟩ := place rfl rfl
  unfold Value.G2
  rw [dif_pos (show Value.pt2Of (ix2 n l : S8192x3072.Idx) < cfg0.N from lt_of_eq_of_lt hq hpt), hl, Value.outsAt0_sweep]
  exact congrArg (fun z : Vec Ideal S1024x1024 .f32 × Vec Ideal S1024x2048 .bf16 =>
      z.1 (ix2 ⟨n.val % 1024, by omega⟩ ⟨l.val % 1024, by omega⟩)) (Value.fold0_congr m c _ _ _ _ hq)

end Rkv

namespace Rkv.Reference

open Idealize.ShloMosaic Idealize.ShloMosaic.TcCoe Idealize.ShloMosaic.Pointwise Cert.Reference5Ideal Cert.Reference5Ideal.Gen

/-- The reference's operations, read at a row and a column. -/
theorem reference_apply (x : FVec Ideal S2x4096x2048 .f32) (w : FVec Ideal S2048x7696 .f32) (n : Fin 8192) (l : Fin 3072) :
    (shapeCast S8192x3072 (extractStridedSlice S2x4096x3072 ![0, 0, 4176]
        (Host.dotGeneral (F := Ideal) dot_S2x4096x2048_S2048x7696_S2x4096x7696_2_0_01_1_n_n none x w)
        slices_S2x4096x7696_S2x4096x3072_0_0_4176)
      shapeCasts_S2x4096x3072_S8192x3072 : FVec Ideal S8192x3072 .f32) (ix2 n l) = Rkv.entry x w n l := by
  pointwise []
  rfl

end Rkv.Reference

namespace Rkv

open Places Idealize.ShloMosaic Idealize.SL.Sem Idealize.ShloMosaic.Pointwise

/-- The reference runs, its arguments unchanged and every semaphore zero at the end. -/
theorem quiescent_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference end with the same result. -/
theorem algebraic : Cert.algebraic_Kernel5Ideal_Reference5Ideal := by
  intro m ρ m' ρ' _ hagree
  refine ⟨_, Cert.Kernel5Ideal.Value.run (F := Ideal) m ρ, ?_⟩
  refine (θ_run Cert.Reference5Ideal.defs _ _).mono (fun _ h c => ⟨?_, (h c).2⟩) (Cert.Reference5Ideal.Value.run (F := Ideal) m' ρ')
  rw [(h c).1]
  obtain ⟨h0, h1⟩ := hagree c
  rw [h0, h1]
  funext i
  rw [show i = ix2 (i 0) (i 1) from place rfl rfl]
  exact (Reference.reference_apply ..).trans (kernel_apply m c _ _).symm

end Rkv
-- ==== Proof.Val.lean ====
/-
  The attention's values from the input projection, laid out for the attention kernel: per head and tile of 512 keys a
  matrix of 144 rows, the 128 values of the head, a row of ones and fifteen rows of zeros. The kernel keeps the rows of
  the transposed matrix in scratch while the blocks of keys go by and stores every block in 32 pieces; over the reals
  its result is the reference's.
-/
module

public import proofs.«01_k».proof.Defs
public import proofs.«01_k».proof.Proof.Gen.Kernel6Ideal.Value
public import proofs.«01_k».proof.Proof.Gen.Reference6Ideal.Run
public import proofs.«01_k».proof.Proof.Places
public import Idealize.ShloMosaic.Lib.Pipeline.ReadBack
public import Idealize.ShloMosaic.Adequacy
public import Idealize.ShloMosaic.Init
public import Idealize.ShloMosaic.Lib.Quiescent

@[expose] public section

set_option maxRecDepth 16384

noncomputable section

namespace Val

open Places Idealize.ShloMosaic Idealize.ShloMosaic.TcCoe Idealize.ShloMosaic.Pointwise Cert.Kernel6Ideal Cert.Kernel6Ideal.Gen

/-- The rows of both batches, one under the other. -/
def flat (x : FVec Ideal S2x4096x2048 .f32) : FVec Ideal S8192x2048 .f32 := shapeCast S8192x2048 x shapeCasts_S2x4096x2048_S8192x2048

/-- The matrix with its columns as rows. -/
def turned (w : FVec Ideal S2048x7696 .f32) : FVec Ideal S7696x2048 .f32 :=
  transpose S7696x2048 [1, 0] w transposes_S2048x7696_S7696x2048_1_0

theorem flat_apply (x : FVec Ideal S2x4096x2048 .f32) (n : Fin 8192) (l : Fin 2048) :
    flat x (ix2 n l) = x (ix3 ⟨n.val / 4096, by omega⟩ ⟨n.val % 4096, by omega⟩ l) := by
  pointwise [flat]
theorem turned_apply (w : FVec Ideal S2048x7696 .f32) (n : Fin 7696) (l : Fin 2048) : turned w (ix2 n l) = w (ix2 l n) := by
  pointwise [turned]

/-- A sum of products of the operand's row and the matrix's column. -/
def lin (x : FVec Ideal S2x4096x2048 .f32) (w : FVec Ideal S2048x7696 .f32) (n : Fin 8192) (l : Fin 7696) : EReal :=
  ∑ k : Fin 2048, x (ix3 ⟨n.val / 4096, by omega⟩ ⟨n.val % 4096, by omega⟩ k) * w (ix2 k l)

/-- The result's entry for a head, a tile, a row and a key of the tile. -/
def entry (x : FVec Ideal S2x4096x2048 .f32) (w : FVec Ideal S2048x7696 .f32) (a : Fin 8) (j : Fin 16) (r : Fin 144)
    (q : Fin 512) : EReal :=
  if r.val < 128 then lin x w ⟨512 * j.val + q.val, by omega⟩ ⟨2048 + 128 * a.val + r.val, by omega⟩
  else if r.val = 128 then 1 else 0

variable (m : (ℓ : Loc nD τ sig) → Buf (Elt Ideal) ℓ) (c : Dev nD)

theorem V_h : V m c main_v2 = flat (m ((c : Thread nD τ).loc main_arg0)) := by
  show StableHlo.after hostOps0 _ (Proc.devRef .tc main_v2) = _
  after_results
  rfl
theorem V_w : V m c main_v3 = turned (m ((c : Thread nD τ).loc main_arg1)) := by
  show StableHlo.after hostOps0 _ (Proc.devRef .tc main_v3) = _
  after_results
  rfl

/-- Where the windows lie at point `t`: the rows of the matrix stay, the rows of the operand go by. -/
theorem index_at : ∀ t : Fin cfg0.N, win0_0.index t = ![2048, 0] ∧ win0_1.index t = ![t.val, 0] :=
  (by decide +kernel : ∀ t : Fin grid0.N, _)

variable (t : Fin cfg0.N)

theorem t_lt : t.val < 8 := lt_of_lt_of_eq t.isLt N_0

/-- The row of the operand that a row of point `t`'s block is, and the column of the matrix of a row of the scratch. -/
def rowOf (i : Fin 1024) : Fin 8192 := ⟨1024 * t.val + i.val, by have h := t_lt t; omega⟩
def lineOf (l : Fin 1024) : Fin 7696 := ⟨2048 + l.val, by omega⟩

theorem blk_h (i : Fin 1024) (k : Fin 2048) : (iblk m c 1 t : FVec Ideal S1024x2048 .bf16) (ix2 i k)
    = flat (m ((c : Thread nD τ).loc main_arg0)) (ix2 (rowOf t i) k) := by
  refine (congrFun (V_h m c) _).trans (congrArg (flat _) (place ?_ ?_))
  · show win0_1.index t (0 : Fin 2) * 1024 + 1 * i.val = 1024 * t.val + i.val
    rw [(index_at t).2]
    show t.val * 1024 + 1 * i.val = _
    omega
  · show win0_1.index t (1 : Fin 2) * 2048 + 1 * k.val = k.val
    rw [(index_at t).2]
    show 0 * 2048 + 1 * k.val = _
    omega

theorem blk_w (j : Fin 1024) (k : Fin 2048) : (iblk m c 0 t : FVec Ideal S1024x2048 .f32) (ix2 j k)
    = turned (m ((c : Thread nD τ).loc main_arg1)) (ix2 (lineOf j) k) := by
  refine (congrFun (V_w m c) _).trans (congrArg (turned _) (place ?_ ?_))
  · show win0_0.index t (0 : Fin 2) + 1 * j.val = 2048 + j.val
    rw [(index_at t).1]
    show 2048 + 1 * j.val = _
    omega
  · show win0_0.index t (1 : Fin 2) + 1 * k.val = k.val
    rw [(index_at t).1]
    show 0 + 1 * k.val = _
    omega

/-- What a point leaves in the scratch of the matrix. -/
theorem first_point (h : t.val % 8 = 0) : (outsAt0 m c t.val t.isLt).2 = k0_pay3 (iblk m c 0 t) := by
  rw [outsAt0_A m c t h]; dsimp only
  frame_out

theorem later_point (h : ¬ t.val % 8 = 0) :
    (outsAt0 m c t.val t.isLt).2 = (outsAt0 m c (t.val - 1) (lt_of_le_of_lt (Nat.sub_le _ _) t.isLt)).2 := by
  rw [outsAt0_B m c t h]
  rfl

/-- The block a point stores, from the rows of the matrix in the scratch and the rows of the operand. -/
def laid (w h : FVec Ideal S1024x2048 .bf16) (y : S8x2x144x512.Idx) : EReal :=
  if (y 2).val < 128 then
    ∑ k : Fin 2048, w (ix2 ⟨128 * (y 0).val + (y 2).val % 128, by have h : (y 0).val < 8 := (y 0).isLt; omega⟩ k)
      * h (ix2 ⟨512 * (y 1).val + (y 3).val, by have h : (y 1).val < 2 := (y 1).isLt; have h : (y 3).val < 512 := (y 3).isLt; omega⟩ k)
  else if (y 2).val = 128 then 1 else 0

theorem laid_row {w h : FVec Ideal S1024x2048 .bf16} {y : S8x2x144x512.Idx} {i q : Fin 1024} (hr : (y 2).val < 128)
    (hi : i.val = 128 * (y 0).val + (y 2).val) (hq : q.val = 512 * (y 1).val + (y 3).val) :
    ∑ k : Fin 2048, w (ix2 i k) * h (ix2 q k) = laid w h y := by
  unfold laid
  rw [if_pos hr]
  refine Finset.sum_congr rfl fun k _ => congrArg₂ (· * ·) (congrArg (fun z => w (ix2 z k)) (Fin.ext ?_))
    (congrArg (fun z => h (ix2 z k)) (Fin.ext hq))
  show i.val = 128 * (y 0).val + (y 2).val % 128
  omega

theorem laid_pad {w h : FVec Ideal S1024x2048 .bf16} {y : S8x2x144x512.Idx} {p : ℕ} (hp : p < 16) (hr : (y 2).val = 128 + p) :
    Scalar.select (IntOp.cmpi CmpIPredicate.eq (BitVec.ofNat 32 p) 0#32) (1 : EReal) 0 = laid w h y := by
  have e : Scalar.select (IntOp.cmpi CmpIPredicate.eq (BitVec.ofNat 32 p) 0#32) (1 : EReal) 0 = if p = 0 then 1 else 0 := by
    clear hr
    interval_cases p <;> rfl
  unfold laid
  rw [e, if_neg (show ¬(y 2).val < 128 by omega)]
  exact if_congr (show p = 0 ↔ (y 2).val = 128 by omega) rfl rfl

theorem out_of_scratch (y : S8x2x144x512.Idx) :
    (outsAt0 m c t.val t.isLt).1 y = laid (outsAt0 m c t.val t.isLt).2 (iblk m c 1 t) y := by
  by_cases ht : t.val % 8 = 0
  · rw [first_point m c t ht, outsAt0_A m c t ht]; dsimp only
    frame_out
    canon_tiles x h using View.cover_of_tiledBy _ ![1, 1, 16, 512] (by sl_kernel_rfl) y
    all_goals
      open_payloads
      pointwise
      first
      | have hr : (y 2).val < 128 := by omega
        exact laid_row hr (by dsimp only; omega) (by dsimp only; omega)
      | exact laid_pad x2_lt h2
  · rw [later_point m c t ht, outsAt0_B m c t ht]; dsimp only
    frame_out
    rw [read_unread_whole]
    canon_tiles x h using View.cover_of_tiledBy _ ![1, 1, 16, 512] (by sl_kernel_rfl) y
    all_goals
      open_payloads
      pointwise
      first
      | have hr : (y 2).val < 128 := by omega
        exact laid_row hr (by dsimp only; omega) (by dsimp only; omega)
      | exact laid_pad x2_lt h2

/-- The rows of the matrix are in the scratch after every point. -/
theorem scratch_after : ∀ (n : ℕ) (hn : n < cfg0.N) (j : Fin 1024) (k : Fin 2048), (outsAt0 m c n hn).2 (ix2 j k)
    = turned (m ((c : Thread nD τ).loc main_arg1)) (ix2 (lineOf j) k) := by
  intro n
  induction n with
  | zero =>
    intro hn j k
    rw [first_point m c ⟨0, hn⟩ rfl, ← blk_w m c ⟨0, hn⟩ j k]
    pointwise [k0_pay3]
  | succ n ih =>
    intro hn j k
    have h8 := t_lt ⟨n + 1, hn⟩
    rw [later_point m c ⟨n + 1, hn⟩ (by show ¬(n + 1) % 8 = 0; have h : n + 1 < 8 := h8; omega)]
    exact ih (Nat.lt_of_succ_lt hn) j k

/-- The laid-out block is the result's entries when the rows are its. -/
theorem laid_eq_entry {w h : FVec Ideal S1024x2048 .bf16} {X : FVec Ideal S2x4096x2048 .f32} {W : FVec Ideal S2048x7696 .f32}
    (y : S8x2x144x512.Idx) (a : Fin 8) (j : Fin 16) (r : Fin 144) (q : Fin 512) (s : Fin 8) (ha : (y 0).val = a.val)
    (hj : j.val = 2 * s.val + (y 1).val) (hr : (y 2).val = r.val) (hq : (y 3).val = q.val)
    (hh : ∀ (i : Fin 1024) k, h (ix2 i k) = flat X (ix2 ⟨1024 * s.val + i.val, by omega⟩ k))
    (hw : ∀ (l : Fin 1024) k, w (ix2 l k) = turned W (ix2 (lineOf l) k)) : laid w h y = entry X W a j r q := by
  have h1 : (y 1).val < 2 := (y 1).isLt
  by_cases h128 : r.val < 128
  · rw [← laid_row (i := ⟨128 * a.val + r.val, by omega⟩) (q := ⟨512 * (y 1).val + q.val, by omega⟩) (by omega)
      (by dsimp only; omega) (by dsimp only; omega), entry, if_pos h128, lin]
    refine Finset.sum_congr rfl fun k _ => ?_
    rw [hh, hw, flat_apply, turned_apply, mul_comm]
    have en : 1024 * s.val + (512 * (y 1).val + q.val) = 512 * j.val + q.val := by omega
    have el : (lineOf ⟨128 * a.val + r.val, by omega⟩) = ⟨2048 + 128 * a.val + r.val, by omega⟩ :=
      Fin.ext (by show 2048 + (128 * a.val + r.val) = _; dsimp only; omega)
    rw [el]
    simp only [en]
  · unfold laid entry
    rw [if_neg (by omega), if_neg h128, hr]

/-- The kernel's result for a head, a tile, a row and a key. -/
theorem kernel_apply (a : Fin 8) (j : Fin 16) (r : Fin 144) (q : Fin 512) : (Value.G5 m c : FVec Ideal S8x16x144x512 .bf16) (ix4 a j r q)
    = entry (m ((c : Thread nD τ).loc main_arg0)) (m ((c : Thread nD τ).loc main_arg1)) a j r q := by
  have hq : 8 * (a.val / 8 - 0) + 1 * (j.val / 2 - 0) + 1 * (r.val / 144 - 0) + 1 * (q.val / 512 - 0) = j.val / 2 := by omega
  have hpt : j.val / 2 < cfg0.N := lt_of_lt_of_eq (by omega) N_0.symm
  have e := out_of_scratch m c ⟨j.val / 2, hpt⟩ (Value.loc5Of (ix4 a j r q : S8x16x144x512.Idx))
  rw [laid_eq_entry (Value.loc5Of (ix4 a j r q : S8x16x144x512.Idx)) a j r q ⟨j.val / 2, by omega⟩
    (by show a.val % 8 = a.val; omega) (by show j.val = 2 * (j.val / 2) + j.val % 2; omega)
    (by show r.val % 144 = r.val; omega) (by show q.val % 512 = q.val; omega) (blk_h m c ⟨j.val / 2, hpt⟩)
    (scratch_after m c (j.val / 2) hpt)] at e
  rw [← e]
  unfold Value.G5
  rw [dif_pos (show Value.pt5Of (ix4 a j r q : S8x16x144x512.Idx) < cfg0.N from lt_of_eq_of_lt hq hpt), Value.outsAt0_sweep]
  exact congrArg (fun z : Vec Ideal S8x2x144x512 .bf16 × Vec Ideal S1024x2048 .bf16 =>
      z.1 (Value.loc5Of (ix4 a j r q : S8x16x144x512.Idx))) (Value.fold0_congr m c _ _ _ _ hq)

end Val

namespace Val.Reference

open Idealize.ShloMosaic Idealize.ShloMosaic.TcCoe Idealize.ShloMosaic.Pointwise Cert.Reference6Ideal Cert.Reference6Ideal.Gen

/-- The reference's operations, read at a head, a tile, a row and a key. -/
theorem reference_apply (x : FVec Ideal S2x4096x2048 .f32) (w : FVec Ideal S2048x7696 .f32) (a : Fin 8) (j : Fin 16) (r : Fin 144)
    (q : Fin 512) :
    (truncf .bf16 (transpose S8x16x144x512 [2, 0, 3, 1] (shapeCast S16x512x8x144 ((concatenate S8192x8x144 2
        [⟨S8192x8x128, ((shapeCast S8192x8x128 (extractStridedSlice S2x4096x1024 ![0, 0, 2048]
            (Host.dotGeneral (F := Ideal) dot_S2x4096x2048_S2048x7696_S2x4096x7696_2_0_01_1_n_n none x w)
            slices_S2x4096x7696_S2x4096x1024_0_0_2048) shapeCasts_S2x4096x1024_S8192x8x128)
            : (⟨S8192x8x128, .f32⟩ : BufTy).Contents (Elt Ideal))⟩,
          ⟨S8192x8x1, ((broadcastInDim S8192x8x1 ![] bcast_S_S8192x8x1 (constant (F := Ideal) S_ .f32 0x3F800000#32))
            : (⟨S8192x8x1, .f32⟩ : BufTy).Contents (Elt Ideal))⟩,
          ⟨S8192x8x15, ((broadcastInDim S8192x8x15 ![] bcast_S_S8192x8x15 (constant (F := Ideal) S_ .f32 0x00000000#32))
            : (⟨S8192x8x15, .f32⟩ : BufTy).Contents (Elt Ideal))⟩]
        concatenates_S8192x8x128_S8192x8x1_S8192x8x15_S8192x8x144_d2 : (⟨S8192x8x144, .f32⟩ : BufTy).Contents (Elt Ideal)))
      shapeCasts_S8192x8x144_S16x512x8x144) transposes_S16x512x8x144_S8x16x144x512_2_0_3_1) bitsLt_bf16_f32
      : FVec Ideal S8x16x144x512 .bf16) (ix4 a j r q) = Val.entry x w a j r q := by
  pointwise [Val.entry, Val.lin]
  have ek : j.val * 512 + q.val = 512 * j.val + q.val := by omega
  have el : 2048 + (a.val * 128 + r.val) = 2048 + 128 * a.val + r.val := by omega
  simp only [ek, el]
  by_cases h : r.val < 128
  · rw [dif_pos h, if_pos h]
  · rw [dif_neg h, if_neg h]
    by_cases h1 : r.val = 128
    · rw [dif_pos (by omega), if_pos h1]
    · rw [dif_neg (by omega), if_neg h1]

end Val.Reference

namespace Val

open Places Idealize.ShloMosaic Idealize.SL.Sem Idealize.ShloMosaic.Pointwise

/-- The reference runs, its arguments unchanged and every semaphore zero at the end. -/
theorem quiescent_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Kernel and reference end with the same result. -/
theorem algebraic : Cert.algebraic_Kernel6Ideal_Reference6Ideal := by
  intro m ρ m' ρ' _ hagree
  refine ⟨_, Cert.Kernel6Ideal.Value.run (F := Ideal) m ρ, ?_⟩
  refine (θ_run Cert.Reference6Ideal.defs _ _).mono (fun _ h c => ⟨?_, (h c).2⟩) (Cert.Reference6Ideal.Value.run (F := Ideal) m' ρ')
  rw [(h c).1]
  obtain ⟨h0, h1⟩ := hagree c
  rw [h0, h1]
  funext i
  rw [show i = ix4 (i 0) (i 1) (i 2) (i 3) from place4 rfl rfl rfl rfl]
  exact (Reference.reference_apply ..).trans (kernel_apply m c _ _ _ _).symm

end Val
-- ==== Proof.Rotary.lean ====
/-
  The normalisation of a head's 128 values and the rotation of its first 32 by the angles of a position, as the
  attention's keys and queries take them.
-/
module

public import Idealize.ShloMosaic.PureOps.Ideal.Laws

@[expose] public section

noncomputable section

namespace Rotary

open Idealize.ShloMosaic

/-- A value divided by the root of the mean of the squares (plus the small constant), times its gain. -/
def normed (v g : Fin 128 → EReal) (d : Fin 128) : EReal :=
  v d * Ideal.rsqrt (Ideal.div (∑ e, v e * v e) (Ideal.ofBits FTy.f32 0x43000000#32) + Ideal.ofBits FTy.f32 0x358637BD#32) * g d

/-- The first 16 values and the next 16 turned as pairs by the angles with cosine `p` and sine `s`; the others stay. -/
def turned (n : Fin 128 → EReal) (p s : Fin 16 → EReal) (r : Fin 128) : EReal :=
  if h : r.val < 16 then n r * p ⟨r.val, h⟩ - n ⟨16 + r.val, by omega⟩ * s ⟨r.val, h⟩
  else if h : r.val - 16 < 16 then n r * p ⟨r.val - 16, h⟩ + n ⟨r.val - 16, by omega⟩ * s ⟨r.val - 16, h⟩
  else n r

/-- The rotation by the positions of the values in the three parts. -/
theorem turned_low {n : Fin 128 → EReal} {p s : Fin 16 → EReal} {r : Fin 128} (h : r.val < 16) :
    turned n p s r = n r * p ⟨r.val, h⟩ - n ⟨16 + r.val, by omega⟩ * s ⟨r.val, h⟩ := dif_pos h
theorem turned_mid {n : Fin 128 → EReal} {p s : Fin 16 → EReal} {r : Fin 128} (h : ¬ r.val < 16) (h' : r.val - 16 < 16) :
    turned n p s r = n r * p ⟨r.val - 16, h'⟩ + n ⟨r.val - 16, by omega⟩ * s ⟨r.val - 16, h'⟩ := (dif_neg h).trans (dif_pos h')
theorem turned_high {n : Fin 128 → EReal} {p s : Fin 16 → EReal} {r : Fin 128} (h : ¬ r.val < 16) (h' : ¬ r.val - 16 < 16) :
    turned n p s r = n r := (dif_neg h).trans (dif_neg h')

end Rotary
-- ==== Proof.Key.lean ====
/-
  The attention's keys from the input projection: per head normalised, times the gains, and the first 32 of 128 values
  turned by the angles of the position. The kernel keeps the rows of the transposed matrix in scratch while the blocks of
  rows go by and stores every head of a block; over the reals its result is the reference's.
-/
module

public import proofs.«01_k».proof.Defs
public import proofs.«01_k».proof.Proof.Gen.Kernel7Ideal.Value
public import proofs.«01_k».proof.Proof.Gen.Reference7Ideal.Run
public import proofs.«01_k».proof.Proof.Places
public import proofs.«01_k».proof.Proof.Rotary
public import Idealize.ShloMosaic.Lib.Pipeline.ReadBack
public import Idealize.ShloMosaic.Adequacy
public import Idealize.ShloMosaic.Init
public import Idealize.ShloMosaic.Lib.Quiescent

@[expose] public section

set_option maxRecDepth 16384

noncomputable section

namespace Key

open Places Idealize.ShloMosaic Idealize.ShloMosaic.TcCoe Idealize.ShloMosaic.Pointwise Cert.Kernel7Ideal Cert.Kernel7Ideal.Gen

/-- The rows of both batches, one under the other. -/
def flat (x : FVec Ideal S2x4096x2048 .f32) : FVec Ideal S8192x2048 .f32 := shapeCast S8192x2048 x shapeCasts_S2x4096x2048_S8192x2048

/-- The matrix with its columns as rows. -/
def across (w : FVec Ideal S2048x7696 .f32) : FVec Ideal S7696x2048 .f32 :=
  transpose S7696x2048 [1, 0] w transposes_S2048x7696_S7696x2048_1_0

/-- The positions in a row. -/
def inRow (z : IVec S2x4096 32) : IVec S1x8192 32 := shapeCast S1x8192 z shapeCasts_S2x4096_S1x8192

/-- The gains in a column. -/
def inColumn (g : FVec Ideal S128 .f32) : FVec Ideal S128x1 .f32 := shapeCast S128x1 g shapeCasts_S128_S128x1

/-- The frequencies, the base to minus `i / 16`. -/
def freq : FVec Ideal S16 .f32 :=
  Host.powf (F := Ideal) (broadcastInDim S16 ![] bcast_S_S16 (constant (F := Ideal) S_ .f32 0x48F42400#32))
    (Host.divf (Host.negf (sitofp .f32 (iotaInDim S16 32 0))) (broadcastInDim S16 ![] bcast_S_S16 (constant S_ .f32 0x41800000#32)))

/-- The frequencies in a column. -/
def freqColumn : FVec Ideal S16x1 .f32 := shapeCast S16x1 freq shapeCasts_S16_S16x1

theorem flat_apply (x : FVec Ideal S2x4096x2048 .f32) (n : Fin 8192) (l : Fin 2048) :
    flat x (ix2 n l) = x (ix3 ⟨n.val / 4096, by omega⟩ ⟨n.val % 4096, by omega⟩ l) := by
  pointwise [flat]
theorem across_apply (w : FVec Ideal S2048x7696 .f32) (n : Fin 7696) (l : Fin 2048) : across w (ix2 n l) = w (ix2 l n) := by
  pointwise [across]
theorem inRow_apply (z : IVec S2x4096 32) (n : Fin 8192) :
    inRow z (ix2 0 n) = z (ix2 ⟨n.val / 4096, by omega⟩ ⟨n.val % 4096, by omega⟩) := by
  pointwise [inRow]
theorem inColumn_apply (g : FVec Ideal S128 .f32) (d : Fin 128) : inColumn g (ix2 d 0) = g (ix1 d) := by
  pointwise [inColumn]
theorem freqColumn_apply (i : Fin 16) : freqColumn (ix2 i 0) = freq (ix1 i) := by
  pointwise [freqColumn]

/-- A sum of products of the operand's row and the matrix's column. -/
def lin (x : FVec Ideal S2x4096x2048 .f32) (w : FVec Ideal S2048x7696 .f32) (n : Fin 8192) (l : Fin 7696) : EReal :=
  ∑ k : Fin 2048, x (ix3 ⟨n.val / 4096, by omega⟩ ⟨n.val % 4096, by omega⟩ k) * w (ix2 k l)

/-- The angle of a row's position for a frequency. -/
def angle (z : IVec S2x4096 32) (n : Fin 8192) (i : Fin 16) : EReal :=
  (FloatOps.sitofp (F := Ideal) .f32 (z (ix2 ⟨n.val / 4096, by omega⟩ ⟨n.val % 4096, by omega⟩)) : EReal) * freq (ix1 i)

/-- The result's entry for a row, a head and a value of the head. -/
def entry (x : FVec Ideal S2x4096x2048 .f32) (w : FVec Ideal S2048x7696 .f32) (g : FVec Ideal S128 .f32) (z : IVec S2x4096 32)
    (n : Fin 8192) (a : Fin 8) (r : Fin 128) : EReal :=
  Rotary.turned (Rotary.normed (fun d => lin x w n ⟨1024 + 128 * a.val + d.val, by omega⟩) fun d => g (ix1 d))
    (fun i => Ideal.cos (angle z n i)) (fun i => Ideal.sin (angle z n i)) r

/-- What the kernel computes of a head's 128 rows. -/
def head (v : FVec Ideal S128x1024 .f32) (p s : FVec Ideal S16x1024 .f32) (g : FVec Ideal S128x1 .f32) : FVec Ideal S1024x128 .bf16 :=
  let n : FVec Ideal S128x1024 .f32 := mulf (mulf v (broadcastTo S128x1024 (rsqrt (addf (divf
    (shapeCast S1x1024 (multiReduction .add [0] S1024 (mulf v v) 0x00000000#32 reduces_S128x1024_S1024 (.inl rfl) rfl) shapeCasts_S1024_S1x1024)
    (broadcast S1x1024 (Scalar.ofBits (F := Ideal) .f32 0x43000000#32))) (broadcast S1x1024 (Scalar.ofBits (F := Ideal) .f32 0x358637BD#32)))) broadcasts_S1x1024_S128x1024))
    (broadcastTo S128x1024 (shapeCast S128x1 g shapeCasts_S128x1_S128x1) broadcasts_S128x1_S128x1024)
  let a : FVec Ideal S16x1024 .f32 := extractStridedSlice S16x1024 ![0, 0] n slices_S128x1024_o0_0_S16x1024
  let b : FVec Ideal S16x1024 .f32 := extractStridedSlice S16x1024 ![16, 0] n slices_S128x1024_o16_0_S16x1024
  let u : FVec Ideal S128x1024 .f32 := concatenate S128x1024 0 [⟨S16x1024, subf (mulf a p) (mulf b s)⟩, ⟨S16x1024, addf (mulf b p) (mulf a s)⟩,
      ⟨S96x1024, extractStridedSlice S96x1024 ![32, 0] n slices_S128x1024_o32_0_S96x1024⟩] concatenates_S16x1024_S16x1024_S96x1024_S128x1024_d0
  truncf .bf16 (transpose S1024x128 [1, 0] u transposes_S128x1024_p1_0_S1024x128) bitsLt_bf16_f32

theorem head_apply (v : FVec Ideal S128x1024 .f32) (p s : FVec Ideal S16x1024 .f32) (g : FVec Ideal S128x1 .f32) (q : Fin 1024) (r : Fin 128) :
    head v p s g (ix2 q r) = Rotary.turned (Rotary.normed (fun d => v (ix2 d q)) fun d => g (ix2 d 0))
      (fun i => p (ix2 i q)) (fun i => s (ix2 i q)) r := by
  unfold head
  dsimp only
  pointwise
  by_cases hr : r.val < 16
  · rw [dif_pos hr, Rotary.turned_low hr]
    rfl
  · rw [dif_neg hr]
    by_cases hs : r.val - 16 < 16
    · rw [dif_pos hs, Rotary.turned_mid hr hs]
      have e : (⟨16 + (r.val - 16), by omega⟩ : Fin 128) = r := Fin.ext (by dsimp only; omega)
      rw [e]
      rfl
    · rw [dif_neg hs, Rotary.turned_high hr hs]
      have e : (⟨32 + (r.val - 16 - 16), by omega⟩ : Fin 128) = r := Fin.ext (by dsimp only; omega)
      rw [e]
      rfl

/-- The entry a point stores, from the rows of the matrix in the scratch and its blocks. -/
def stored (w h : FVec Ideal S1024x2048 .bf16) (z : IVec S1x1024 32) (g : FVec Ideal S128x1 .f32) (f : FVec Ideal S16x1 .f32)
    (q : Fin 1024) (a : Fin 8) (r : Fin 128) : EReal :=
  Rotary.turned (Rotary.normed (fun d => ∑ k : Fin 2048, w (ix2 ⟨128 * a.val + d.val, by omega⟩ k) * h (ix2 q k)) fun d => g (ix2 d 0))
    (fun i => Ideal.cos (f (ix2 i 0) * (FloatOps.sitofp (F := Ideal) .f32 (z (ix2 0 q)) : EReal)))
    (fun i => Ideal.sin (f (ix2 i 0) * (FloatOps.sitofp (F := Ideal) .f32 (z (ix2 0 q)) : EReal))) r

/-- The head's rows of the product, and the cosines and sines, read at an index. -/
theorem head_stored (w h : FVec Ideal S1024x2048 .bf16) (z : IVec S1x1024 32) (g : FVec Ideal S128x1 .f32) (f : FVec Ideal S16x1 .f32)
    (o : ℕ) (ho : S1024x1024.Slices ![o, 0] S128x1024) (x : S1024x128.Idx) (q : Fin 1024) (a : Fin 8) (r : Fin 128)
    (oa : o = 128 * a.val) (h0 : (x 0).val = q.val) (h1 : (x 1).val = r.val) :
    head (extractStridedSlice S128x1024 ![o, 0] (k0_pay3 w h) ho) (k0_pay5 f z) (k0_pay6 f z) g x = stored w h z g f q a r := by
  subst oa
  rw [show x = ix2 q r from place h0 h1, head_apply]
  unfold stored
  have e1 : ∀ d : Fin 128, (extractStridedSlice S128x1024 ![128 * a.val, 0] (k0_pay3 (F := Ideal) w h) ho : FVec Ideal S128x1024 .f32) (ix2 d q)
      = (∑ k : Fin 2048, w (ix2 ⟨128 * a.val + d.val, by omega⟩ k) * h (ix2 q k) : EReal) := by
    intro d
    pointwise [k0_pay3]
  have e2 : ∀ i : Fin 16, (k0_pay5 f z (ix2 i q) : Ideal .f32)
      = Ideal.cos (f (ix2 i 0) * (FloatOps.sitofp (F := Ideal) .f32 (z (ix2 0 q)) : EReal)) := by
    intro i
    pointwise [k0_pay5, k0_pay4]
  have e3 : ∀ i : Fin 16, (k0_pay6 f z (ix2 i q) : Ideal .f32)
      = Ideal.sin (f (ix2 i 0) * (FloatOps.sitofp (F := Ideal) .f32 (z (ix2 0 q)) : EReal)) := by
    intro i
    pointwise [k0_pay6, k0_pay4]
  simp only [e1, e2, e3]

variable (m : (ℓ : Loc nD τ sig) → Buf (Elt Ideal) ℓ) (c : Dev nD)

theorem V_h : V m c main_v1 = flat (m ((c : Thread nD τ).loc main_arg0)) := by
  show StableHlo.after hostOps0 _ (Proc.devRef .tc main_v1) = _
  after_results
  rfl
theorem V_w : V m c main_v2 = across (m ((c : Thread nD τ).loc main_arg1)) := by
  show StableHlo.after hostOps0 _ (Proc.devRef .tc main_v2) = _
  after_results
  rfl
theorem V_z : V m c main_v3 = inRow (m ((c : Thread nD τ).loc main_arg3)) := by
  show StableHlo.after hostOps0 _ (Proc.devRef .tc main_v3) = _
  after_results
  rfl
theorem V_g : V m c main_v4 = inColumn (m ((c : Thread nD τ).loc main_arg2)) := by
  show StableHlo.after hostOps0 _ (Proc.devRef .tc main_v4) = _
  after_results
  rfl
theorem V_f : V m c main_v11 = freqColumn := by
  show StableHlo.after hostOps0 _ (Proc.devRef .tc main_v11) = _
  after_results
  rfl

/-- Where the windows lie at point `t`: the rows of the matrix, the gains and the frequencies stay, the rows of the operand
and their positions go by. -/
theorem index_at : ∀ t : Fin cfg0.N, win0_0.index t = ![1024, 0] ∧ win0_1.index t = ![t.val, 0] ∧ win0_2.index t = ![0, t.val]
    ∧ win0_3.index t = ![0, 0] ∧ win0_4.index t = ![0, 0] :=
  (by decide +kernel : ∀ t : Fin grid0.N, _)

variable (t : Fin cfg0.N)

theorem t_lt : t.val < 8 := lt_of_lt_of_eq t.isLt N_0

/-- The row of the operand that a row of point `t`'s block is, and the column of the matrix of a row of the scratch. -/
def rowOf (i : Fin 1024) : Fin 8192 := ⟨1024 * t.val + i.val, by have h := t_lt t; omega⟩
def lineOf (l : Fin 1024) : Fin 7696 := ⟨1024 + l.val, by omega⟩

theorem blk_h (i : Fin 1024) (k : Fin 2048) : (iblk m c 1 t : FVec Ideal S1024x2048 .bf16) (ix2 i k)
    = flat (m ((c : Thread nD τ).loc main_arg0)) (ix2 (rowOf t i) k) := by
  refine (congrFun (V_h m c) _).trans (congrArg (flat _) (place ?_ ?_))
  · show win0_1.index t (0 : Fin 2) * 1024 + 1 * i.val = 1024 * t.val + i.val
    rw [(index_at t).2.1]
    show t.val * 1024 + 1 * i.val = _
    omega
  · show win0_1.index t (1 : Fin 2) * 2048 + 1 * k.val = k.val
    rw [(index_at t).2.1]
    show 0 * 2048 + 1 * k.val = _
    omega

theorem blk_w (j : Fin 1024) (k : Fin 2048) : (iblk m c 0 t : FVec Ideal S1024x2048 .f32) (ix2 j k)
    = across (m ((c : Thread nD τ).loc main_arg1)) (ix2 (lineOf j) k) := by
  refine (congrFun (V_w m c) _).trans (congrArg (across _) (place ?_ ?_))
  · show win0_0.index t (0 : Fin 2) + 1 * j.val = 1024 + j.val
    rw [(index_at t).1]
    show 1024 + 1 * j.val = _
    omega
  · show win0_0.index t (1 : Fin 2) + 1 * k.val = k.val
    rw [(index_at t).1]
    show 0 + 1 * k.val = _
    omega

theorem blk_z (i : Fin 1024) : (iblk m c 2 t : IVec S1x1024 32) (ix2 0 i)
    = inRow (m ((c : Thread nD τ).loc main_arg3)) (ix2 0 (rowOf t i)) := by
  refine (congrFun (V_z m c) _).trans (congrArg (inRow _) (place ?_ ?_))
  · show win0_2.index t (0 : Fin 2) * 1 + 1 * 0 = 0
    rw [(index_at t).2.2.1]
    rfl
  · show win0_2.index t (1 : Fin 2) * 1024 + 1 * i.val = 1024 * t.val + i.val
    rw [(index_at t).2.2.1]
    show t.val * 1024 + 1 * i.val = _
    omega

theorem blk_g (d : Fin 128) : (iblk m c 3 t : FVec Ideal S128x1 .f32) (ix2 d 0)
    = inColumn (m ((c : Thread nD τ).loc main_arg2)) (ix2 d 0) := by
  refine (congrFun (V_g m c) _).trans (congrArg (inColumn _) (place ?_ ?_))
  · show win0_3.index t (0 : Fin 2) * 128 + 1 * d.val = d.val
    rw [(index_at t).2.2.2.1]
    show 0 * 128 + 1 * d.val = _
    omega
  · show win0_3.index t (1 : Fin 2) * 1 + 1 * 0 = 0
    rw [(index_at t).2.2.2.1]
    rfl

theorem blk_f (i : Fin 16) : (iblk m c 4 t : FVec Ideal S16x1 .f32) (ix2 i 0) = freqColumn (ix2 i 0) := by
  refine (congrFun (V_f m c) _).trans (congrArg freqColumn (place ?_ ?_))
  · show win0_4.index t (0 : Fin 2) * 16 + 1 * i.val = i.val
    rw [(index_at t).2.2.2.2]
    show 0 * 16 + 1 * i.val = _
    omega
  · show win0_4.index t (1 : Fin 2) * 1 + 1 * 0 = 0
    rw [(index_at t).2.2.2.2]
    rfl

/-- What a point leaves in the scratch of the matrix. -/
theorem first_point (h : t.val % 8 = 0) : (outsAt0 m c t.val t.isLt).2 = k0_pay2 (iblk m c 0 t) := by
  rw [outsAt0_A m c t h]; dsimp only
  frame_out

theorem later_point (h : ¬ t.val % 8 = 0) :
    (outsAt0 m c t.val t.isLt).2 = (outsAt0 m c (t.val - 1) (lt_of_le_of_lt (Nat.sub_le _ _) t.isLt)).2 := by
  rw [outsAt0_B m c t h]
  rfl

theorem out_of_scratch (y : S1024x1024.Idx) (q : Fin 1024) (a : Fin 8) (r : Fin 128) (hq : (y 0).val = q.val)
    (ha : (y 1).val = 128 * a.val + r.val) : (outsAt0 m c t.val t.isLt).1 y
      = stored (outsAt0 m c t.val t.isLt).2 (iblk m c 1 t) (iblk m c 2 t) (iblk m c 3 t) (iblk m c 4 t) q a r := by
  by_cases ht : t.val % 8 = 0
  · rw [first_point m c t ht, outsAt0_A m c t ht]; dsimp only
    frame_out
    canon_tiles x h
    · exact head_stored _ _ _ _ _ 896 slices_S1024x1024_o896_0_S128x1024 x q a r (by omega) (by omega) (by omega)
    · exact head_stored _ _ _ _ _ 768 slices_S1024x1024_o768_0_S128x1024 x q a r (by omega) (by omega) (by omega)
    · exact head_stored _ _ _ _ _ 640 slices_S1024x1024_o640_0_S128x1024 x q a r (by omega) (by omega) (by omega)
    · exact head_stored _ _ _ _ _ 512 slices_S1024x1024_o512_0_S128x1024 x q a r (by omega) (by omega) (by omega)
    · exact head_stored _ _ _ _ _ 384 slices_S1024x1024_o384_0_S128x1024 x q a r (by omega) (by omega) (by omega)
    · exact head_stored _ _ _ _ _ 256 slices_S1024x1024_o256_0_S128x1024 x q a r (by omega) (by omega) (by omega)
    · exact head_stored _ _ _ _ _ 128 slices_S1024x1024_o128_0_S128x1024 x q a r (by omega) (by omega) (by omega)
    · exact head_stored _ _ _ _ _ 0 slices_S1024x1024_o0_0_S128x1024 x q a r (by omega) (by omega) (by omega)
  · rw [later_point m c t ht, outsAt0_B m c t ht]; dsimp only
    frame_out
    rw [read_unread_whole]
    canon_tiles x h
    · exact head_stored _ _ _ _ _ 896 slices_S1024x1024_o896_0_S128x1024 x q a r (by omega) (by omega) (by omega)
    · exact head_stored _ _ _ _ _ 768 slices_S1024x1024_o768_0_S128x1024 x q a r (by omega) (by omega) (by omega)
    · exact head_stored _ _ _ _ _ 640 slices_S1024x1024_o640_0_S128x1024 x q a r (by omega) (by omega) (by omega)
    · exact head_stored _ _ _ _ _ 512 slices_S1024x1024_o512_0_S128x1024 x q a r (by omega) (by omega) (by omega)
    · exact head_stored _ _ _ _ _ 384 slices_S1024x1024_o384_0_S128x1024 x q a r (by omega) (by omega) (by omega)
    · exact head_stored _ _ _ _ _ 256 slices_S1024x1024_o256_0_S128x1024 x q a r (by omega) (by omega) (by omega)
    · exact head_stored _ _ _ _ _ 128 slices_S1024x1024_o128_0_S128x1024 x q a r (by omega) (by omega) (by omega)
    · exact head_stored _ _ _ _ _ 0 slices_S1024x1024_o0_0_S128x1024 x q a r (by omega) (by omega) (by omega)

/-- The rows of the matrix are in the scratch after every point. -/
theorem scratch_after : ∀ (n : ℕ) (hn : n < cfg0.N) (j : Fin 1024) (k : Fin 2048), (outsAt0 m c n hn).2 (ix2 j k)
    = across (m ((c : Thread nD τ).loc main_arg1)) (ix2 (lineOf j) k) := by
  intro n
  induction n with
  | zero =>
    intro hn j k
    rw [first_point m c ⟨0, hn⟩ rfl, ← blk_w m c ⟨0, hn⟩ j k]
    pointwise [k0_pay2]
  | succ n ih =>
    intro hn j k
    have h8 := t_lt ⟨n + 1, hn⟩
    rw [later_point m c ⟨n + 1, hn⟩ (by show ¬(n + 1) % 8 = 0; have h : n + 1 < 8 := h8; omega)]
    exact ih (Nat.lt_of_succ_lt hn) j k

/-- What a point stores is the result's entries when the rows, the positions, the gains and the frequencies are its. -/
theorem stored_eq_entry {w h : FVec Ideal S1024x2048 .bf16} {z : IVec S1x1024 32} {g : FVec Ideal S128x1 .f32} {f : FVec Ideal S16x1 .f32}
    {X : FVec Ideal S2x4096x2048 .f32} {W : FVec Ideal S2048x7696 .f32} {G : FVec Ideal S128 .f32} {Z : IVec S2x4096 32}
    (q : Fin 1024) (a : Fin 8) (r : Fin 128) (n : Fin 8192)
    (hw : ∀ (l : Fin 1024) k, w (ix2 l k) = across W (ix2 (lineOf l) k)) (hh : ∀ k, h (ix2 q k) = flat X (ix2 n k))
    (hz : z (ix2 0 q) = inRow Z (ix2 0 n)) (hg : ∀ d, g (ix2 d 0) = inColumn G (ix2 d 0))
    (hf : ∀ i, f (ix2 i 0) = freqColumn (ix2 i 0)) : stored w h z g f q a r = entry X W G Z n a r := by
  unfold stored entry
  have e1 : ∀ d : Fin 128, ∑ k : Fin 2048, w (ix2 ⟨128 * a.val + d.val, by omega⟩ k) * h (ix2 q k)
      = lin X W n ⟨1024 + 128 * a.val + d.val, by omega⟩ := by
    intro d
    unfold lin
    refine Finset.sum_congr rfl fun k _ => ?_
    rw [hw, hh, flat_apply, across_apply, mul_comm]
    exact congrArg (fun l : Fin 7696 => X (ix3 ⟨n.val / 4096, by omega⟩ ⟨n.val % 4096, by omega⟩ k) * W (ix2 k l))
      (Fin.ext (Nat.add_assoc ..).symm)
  have e2 : ∀ i : Fin 16, f (ix2 i 0) * (FloatOps.sitofp (F := Ideal) .f32 (z (ix2 0 q)) : EReal) = angle Z n i := by
    intro i
    rw [hf, hz, inRow_apply, freqColumn_apply, mul_comm]
    rfl
  have e3 : ∀ d : Fin 128, g (ix2 d 0) = G (ix1 d) := fun d => (hg d).trans (inColumn_apply _ d)
  simp only [e1, e2, e3]

/-- The kernel's result for a row, a head and a value of the head. -/
theorem kernel_apply (n : Fin 8192) (l : Fin 1024) : (Value.G5 m c : FVec Ideal S8192x1024 .bf16) (ix2 n l)
    = entry (m ((c : Thread nD τ).loc main_arg0)) (m ((c : Thread nD τ).loc main_arg1)) (m ((c : Thread nD τ).loc main_arg2))
        (m ((c : Thread nD τ).loc main_arg3)) n ⟨l.val / 128, by omega⟩ ⟨l.val % 128, by omega⟩ := by
  have hq : 1 * (n.val / 1024 - 0) + 1 * (l.val / 1024 - 0) = n.val / 1024 := by omega
  have hpt : n.val / 1024 < cfg0.N := lt_of_lt_of_eq (by omega) N_0.symm
  have e := out_of_scratch m c ⟨n.val / 1024, hpt⟩ (Value.loc5Of (ix2 n l : S8192x1024.Idx)) ⟨n.val % 1024, by omega⟩
    ⟨l.val / 128, by omega⟩ ⟨l.val % 128, by omega⟩ rfl (by show l.val % 1024 = 128 * (l.val / 128) + l.val % 128; omega)
  have en : rowOf ⟨n.val / 1024, hpt⟩ ⟨n.val % 1024, by omega⟩ = n :=
    Fin.ext (by show 1024 * (n.val / 1024) + n.val % 1024 = n.val; omega)
  rw [stored_eq_entry _ _ _ n (scratch_after m c (n.val / 1024) hpt)
    (fun k => (blk_h m c ⟨n.val / 1024, hpt⟩ _ k).trans (by rw [en])) ((blk_z m c ⟨n.val / 1024, hpt⟩ _).trans (by rw [en]))
    (blk_g m c ⟨n.val / 1024, hpt⟩) (blk_f m c ⟨n.val / 1024, hpt⟩)] at e
  rw [← e]
  unfold Value.G5
  rw [dif_pos (show Value.pt5Of (ix2 n l : S8192x1024.Idx) < cfg0.N from lt_of_eq_of_lt hq hpt), Value.outsAt0_sweep]
  exact congrArg (fun z : Vec Ideal S1024x1024 .bf16 × Vec Ideal S1024x2048 .bf16 =>
      z.1 (Value.loc5Of (ix2 n l : S8192x1024.Idx))) (Value.fold0_congr m c _ _ _ _ hq)

end Key

namespace Key.Reference

open Idealize.ShloMosaic Idealize.ShloMosaic.TcCoe Idealize.ShloMosaic.Pointwise Cert.Reference7Ideal Cert.Reference7Ideal.Gen

/-- The product's columns, per head. -/
def heads (x : FVec Ideal S2x4096x2048 .f32) (w : FVec Ideal S2048x7696 .f32) : FVec Ideal S2x4096x8x128 .f32 :=
  shapeCast S2x4096x8x128 (extractStridedSlice S2x4096x1024 ![0, 0, 1024]
    (Host.dotGeneral (F := Ideal) dot_S2x4096x2048_S2048x7696_S2x4096x7696_2_0_01_1_n_n none x w)
    slices_S2x4096x7696_S2x4096x1024_0_0_1024) shapeCasts_S2x4096x1024_S2x4096x8x128

/-- The values of the heads divided by the root of their mean square, times the gains. -/
def scaled (y : FVec Ideal S2x4096x8x128 .f32) (g : FVec Ideal S128 .f32) : FVec Ideal S2x4096x8x128 .f32 :=
  mulf (mulf y (broadcastInDim S2x4096x8x128 ![0, 1, 2, 3] bcast_S2x4096x8x1_S2x4096x8x128_0_1_2_3 (Host.rsqrt (addf
      (Host.divf (broadcastInDim S2x4096x8x1 ![0, 1, 2] bcast_S2x4096x8_S2x4096x8x1_0_1_2
          (Host.reduceAdd (mulf y y) (constant S_ .f32 0x00000000#32) reducesTo_S2x4096x8x128_S2x4096x8_d3 h_S_))
        (broadcastInDim S2x4096x8x1 ![] bcast_S_S2x4096x8x1 (constant S_ .f32 0x43000000#32)))
      (broadcastInDim S2x4096x8x1 ![] bcast_S_S2x4096x8x1 (constant S_ .f32 0x358637BD#32))))))
    (broadcastInDim S2x4096x8x128 ![0, 1, 2, 3] bcast_S1x1x1x128_S2x4096x8x128_0_1_2_3
      (broadcastInDim S1x1x1x128 ![3] bcast_S128_S1x1x1x128_3 g))

/-- The angles of the positions. -/
def angles (z : IVec S2x4096 32) : FVec Ideal S2x4096x16 .f32 :=
  mulf (broadcastInDim S2x4096x16 ![0, 1, 2] bcast_S2x4096x1_S2x4096x16_0_1_2
      (broadcastInDim S2x4096x1 ![0, 1] bcast_S2x4096_S2x4096x1_0_1 (sitofp .f32 z)))
    (broadcastInDim S2x4096x16 ![0, 1, 2] bcast_S1x1x16_S2x4096x16_0_1_2 (broadcastInDim S1x1x16 ![2] bcast_S16_S1x1x16_2
      (Host.powf (F := Ideal) (broadcastInDim S16 ![] bcast_S_S16 (constant (F := Ideal) S_ .f32 0x48F42400#32))
        (Host.divf (Host.negf (sitofp .f32 (iotaInDim S16 32 0))) (broadcastInDim S16 ![] bcast_S_S16 (constant S_ .f32 0x41800000#32))))))

/-- A value per position and frequency, the same for all heads. -/
def forHeads (u : FVec Ideal S2x4096x16 .f32) : FVec Ideal S2x4096x8x16 .f32 :=
  broadcastInDim S2x4096x8x16 ![0, 1, 2, 3] bcast_S2x4096x1x16_S2x4096x8x16_0_1_2_3
    (broadcastInDim S2x4096x1x16 ![0, 1, 3] bcast_S2x4096x16_S2x4096x1x16_0_1_3 u)

/-- The two halves of the values that turn. -/
def firstHalf (y : FVec Ideal S2x4096x8x128 .f32) : FVec Ideal S2x4096x8x16 .f32 :=
  extractStridedSlice S2x4096x8x16 ![0, 0, 0, 0] (extractStridedSlice S2x4096x8x32 ![0, 0, 0, 0] y
    slices_S2x4096x8x128_S2x4096x8x32_0_0_0_0) slices_S2x4096x8x32_S2x4096x8x16_0_0_0_0
def secondHalf (y : FVec Ideal S2x4096x8x128 .f32) : FVec Ideal S2x4096x8x16 .f32 :=
  extractStridedSlice S2x4096x8x16 ![0, 0, 0, 16] (extractStridedSlice S2x4096x8x32 ![0, 0, 0, 0] y
    slices_S2x4096x8x128_S2x4096x8x32_0_0_0_0) slices_S2x4096x8x32_S2x4096x8x16_0_0_0_16

/-- The rotation of every head's first 32 values. -/
def rotated (y : FVec Ideal S2x4096x8x128 .f32) (u : FVec Ideal S2x4096x16 .f32) : FVec Ideal S2x4096x8x128 .f32 :=
  concatenate S2x4096x8x128 3 [⟨S2x4096x8x32, concatenate S2x4096x8x32 3
      [⟨S2x4096x8x16, subf (mulf (firstHalf y) (forHeads (Host.cos u))) (mulf (secondHalf y) (forHeads (Host.sin u)))⟩,
        ⟨S2x4096x8x16, addf (mulf (secondHalf y) (forHeads (Host.cos u))) (mulf (firstHalf y) (forHeads (Host.sin u)))⟩]
      concatenates_S2x4096x8x16_S2x4096x8x16_S2x4096x8x32_d3⟩,
    ⟨S2x4096x8x96, extractStridedSlice S2x4096x8x96 ![0, 0, 0, 32] y slices_S2x4096x8x128_S2x4096x8x96_0_0_0_32⟩]
    concatenates_S2x4096x8x32_S2x4096x8x96_S2x4096x8x128_d3

theorem heads_apply (x : FVec Ideal S2x4096x2048 .f32) (w : FVec Ideal S2048x7696 .f32) (b : Fin 2) (q : Fin 4096) (a : Fin 8)
    (r : Fin 128) : heads x w (ix4 b q a r)
      = Key.lin x w ⟨4096 * b.val + q.val, by omega⟩ ⟨1024 + 128 * a.val + r.val, by omega⟩ := by
  pointwise [heads, Key.lin]
  refine Finset.sum_congr rfl fun k _ => ?_
  rw [show ix3 (⟨(4096 * b.val + q.val) / 4096, by omega⟩ : Fin 2) (⟨(4096 * b.val + q.val) % 4096, by omega⟩ : Fin 4096) k = ix3 b q k from
      Places.place3 (by show (4096 * b.val + q.val) / 4096 = b.val; omega) (by show (4096 * b.val + q.val) % 4096 = q.val; omega) rfl]
  exact congrArg (fun l : Fin 7696 => x (ix3 b q k) * w (ix2 k l)) (Fin.ext (by dsimp only; omega))

theorem scaled_apply (y : FVec Ideal S2x4096x8x128 .f32) (g : FVec Ideal S128 .f32) (b : Fin 2) (q : Fin 4096) (a : Fin 8)
    (r : Fin 128) : scaled y g (ix4 b q a r) = Rotary.normed (fun d => y (ix4 b q a d)) (fun d => g (ix1 d)) r := by
  pointwise [scaled, Rotary.normed]

theorem angles_apply (z : IVec S2x4096 32) (b : Fin 2) (q : Fin 4096) (i : Fin 16) :
    angles z (ix3 b q i) = Key.angle z ⟨4096 * b.val + q.val, by omega⟩ i := by
  have e : (ix2 (⟨(4096 * b.val + q.val) / 4096, by omega⟩ : Fin 2) (⟨(4096 * b.val + q.val) % 4096, by omega⟩ : Fin 4096)) = ix2 b q :=
    Places.place (by show (4096 * b.val + q.val) / 4096 = b.val; omega) (by show (4096 * b.val + q.val) % 4096 = q.val; omega)
  unfold Key.angle
  dsimp only
  rw [e]
  pointwise [angles, Key.freq]

theorem rotated_apply (y : FVec Ideal S2x4096x8x128 .f32) (u : FVec Ideal S2x4096x16 .f32) (b : Fin 2) (q : Fin 4096) (a : Fin 8)
    (r : Fin 128) : rotated y u (ix4 b q a r) = Rotary.turned (fun d => y (ix4 b q a d)) (fun i => Ideal.cos (u (ix3 b q i)))
      (fun i => Ideal.sin (u (ix3 b q i))) r := by
  pointwise [rotated, firstHalf, secondHalf, forHeads]
  by_cases h32 : r.val < 32
  · rw [dif_pos h32]
    by_cases hr : r.val < 16
    · rw [dif_pos hr, Rotary.turned_low hr]
    · rw [dif_neg hr, Rotary.turned_mid hr (by omega)]
      have e : (⟨16 + (r.val - 16), by omega⟩ : Fin 128) = r := Fin.ext (by dsimp only; omega)
      rw [e]
  · rw [dif_neg h32, Rotary.turned_high (by omega) (by omega)]
    exact congrArg (fun d => y (ix4 b q a d)) (Fin.ext (by dsimp only; omega))

/-- The reference's result for a row and a column. -/
theorem result_apply (m : (ℓ : Loc nD τ sig) → Buf (Elt Ideal) ℓ) (c : Dev nD) (n : Fin 8192) (l : Fin 1024) :
    (Cert.Reference7Ideal.Value.res_main_v49 m c : FVec Ideal S8192x1024 .bf16) (ix2 n l)
      = Key.entry (m ((c : Thread nD τ).loc main_arg0)) (m ((c : Thread nD τ).loc main_arg1)) (m ((c : Thread nD τ).loc main_arg2))
          (m ((c : Thread nD τ).loc main_arg3)) n ⟨l.val / 128, by omega⟩ ⟨l.val % 128, by omega⟩ := by
  have e : Cert.Reference7Ideal.Value.res_main_v49 m c = truncf .bf16 (shapeCast S8192x1024 (rotated (scaled (heads (m ((c : Thread nD τ).loc main_arg0))
      (m ((c : Thread nD τ).loc main_arg1))) (m ((c : Thread nD τ).loc main_arg2))) (angles (m ((c : Thread nD τ).loc main_arg3))))
      shapeCasts_S2x4096x8x128_S8192x1024) bitsLt_bf16_f32 := rfl
  rw [e]
  pointwise
  rw [rotated_apply]
  unfold Key.entry
  have en : (⟨4096 * (n.val / 4096) + n.val % 4096, by omega⟩ : Fin 8192) = n := Fin.ext (by dsimp only; omega)
  simp only [scaled_apply, heads_apply, angles_apply, en]

end Key.Reference

namespace Key

open Places Idealize.ShloMosaic Idealize.SL.Sem Idealize.ShloMosaic.Pointwise

/-- The reference runs, its arguments unchanged and every semaphore zero at the end. -/
theorem quiescent_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference end with the same result. -/
theorem algebraic : Cert.algebraic_Kernel7Ideal_Reference7Ideal := by
  intro m ρ m' ρ' _ hagree
  refine ⟨_, Cert.Kernel7Ideal.Value.run (F := Ideal) m ρ, ?_⟩
  refine (θ_run Cert.Reference7Ideal.defs _ _).mono (fun _ h c => ⟨?_, (h c).2⟩) (Cert.Reference7Ideal.Value.run (F := Ideal) m' ρ')
  rw [(h c).1]
  obtain ⟨h0, h1, h2, h3⟩ := hagree c
  funext i
  rw [show i = ix2 (i 0) (i 1) from place rfl rfl]
  refine (Reference.result_apply m' c _ _).trans ?_
  rw [h0, h1, h2, h3]
  exact (kernel_apply m c _ _).symm

end Key
-- ==== Proof.Query.lean ====
/-
  The attention's queries from the input projection: per head normalised, times the gains, the first 32 of 128 values
  turned by the angles of the position, all of them scaled. The kernel keeps the rows of the transposed matrix in scratch
  while the blocks of rows go by and stores every head of a block; over the reals its result is the reference's.
-/
module

public import proofs.«01_k».proof.Defs
public import proofs.«01_k».proof.Proof.Gen.Kernel8Ideal.Value
public import proofs.«01_k».proof.Proof.Gen.Reference8Ideal.Run
public import proofs.«01_k».proof.Proof.Places
public import proofs.«01_k».proof.Proof.Rotary
public import Idealize.ShloMosaic.Lib.Pipeline.ReadBack
public import Idealize.ShloMosaic.Adequacy
public import Idealize.ShloMosaic.Init
public import Idealize.ShloMosaic.Lib.Quiescent

@[expose] public section

set_option maxRecDepth 16384

noncomputable section

namespace Query

open Places Idealize.ShloMosaic Idealize.ShloMosaic.TcCoe Idealize.ShloMosaic.Pointwise Cert.Kernel8Ideal Cert.Kernel8Ideal.Gen

/-- The rows of both batches, one under the other. -/
def flat (x : FVec Ideal S2x4096x2048 .f32) : FVec Ideal S8192x2048 .f32 := shapeCast S8192x2048 x shapeCasts_S2x4096x2048_S8192x2048

/-- The matrix with its columns as rows. -/
def across (w : FVec Ideal S2048x7696 .f32) : FVec Ideal S7696x2048 .f32 :=
  transpose S7696x2048 [1, 0] w transposes_S2048x7696_S7696x2048_1_0

/-- The positions in a row. -/
def inRow (z : IVec S2x4096 32) : IVec S1x8192 32 := shapeCast S1x8192 z shapeCasts_S2x4096_S1x8192

/-- The gains in a column. -/
def inColumn (g : FVec Ideal S128 .f32) : FVec Ideal S128x1 .f32 := shapeCast S128x1 g shapeCasts_S128_S128x1

/-- The frequencies, the base to minus `i / 16`. -/
def freq : FVec Ideal S16 .f32 :=
  Host.powf (F := Ideal) (broadcastInDim S16 ![] bcast_S_S16 (constant (F := Ideal) S_ .f32 0x48F42400#32))
    (Host.divf (Host.negf (sitofp .f32 (iotaInDim S16 32 0))) (broadcastInDim S16 ![] bcast_S_S16 (constant S_ .f32 0x41800000#32)))

/-- The frequencies in a column. -/
def freqColumn : FVec Ideal S16x1 .f32 := shapeCast S16x1 freq shapeCasts_S16_S16x1

theorem flat_apply (x : FVec Ideal S2x4096x2048 .f32) (n : Fin 8192) (l : Fin 2048) :
    flat x (ix2 n l) = x (ix3 ⟨n.val / 4096, by omega⟩ ⟨n.val % 4096, by omega⟩ l) := by
  pointwise [flat]
theorem across_apply (w : FVec Ideal S2048x7696 .f32) (n : Fin 7696) (l : Fin 2048) : across w (ix2 n l) = w (ix2 l n) := by
  pointwise [across]
theorem inRow_apply (z : IVec S2x4096 32) (n : Fin 8192) :
    inRow z (ix2 0 n) = z (ix2 ⟨n.val / 4096, by omega⟩ ⟨n.val % 4096, by omega⟩) := by
  pointwise [inRow]
theorem inColumn_apply (g : FVec Ideal S128 .f32) (d : Fin 128) : inColumn g (ix2 d 0) = g (ix1 d) := by
  pointwise [inColumn]
theorem freqColumn_apply (i : Fin 16) : freqColumn (ix2 i 0) = freq (ix1 i) := by
  pointwise [freqColumn]

/-- A sum of products of the operand's row and the matrix's column. -/
def lin (x : FVec Ideal S2x4096x2048 .f32) (w : FVec Ideal S2048x7696 .f32) (n : Fin 8192) (l : Fin 7696) : EReal :=
  ∑ k : Fin 2048, x (ix3 ⟨n.val / 4096, by omega⟩ ⟨n.val % 4096, by omega⟩ k) * w (ix2 k l)

/-- The angle of a row's position for a frequency. -/
def angle (z : IVec S2x4096 32) (n : Fin 8192) (i : Fin 16) : EReal :=
  (FloatOps.sitofp (F := Ideal) .f32 (z (ix2 ⟨n.val / 4096, by omega⟩ ⟨n.val % 4096, by omega⟩)) : EReal) * freq (ix1 i)

/-- The scale of the attention's logits times the base-two logarithm of e, as a float32. -/
def scale : EReal := Ideal.ofBits FTy.f32 0x3E0293EE#32

/-- The result's entry for a row, a head and a value of the head. -/
def entry (x : FVec Ideal S2x4096x2048 .f32) (w : FVec Ideal S2048x7696 .f32) (g : FVec Ideal S128 .f32) (z : IVec S2x4096 32)
    (n : Fin 8192) (a : Fin 8) (r : Fin 128) : EReal :=
  Rotary.turned (Rotary.normed (fun d => lin x w n ⟨128 * a.val + d.val, by omega⟩) fun d => g (ix1 d))
    (fun i => Ideal.cos (angle z n i)) (fun i => Ideal.sin (angle z n i)) r * scale

/-- What the kernel computes of a head's 128 rows. -/
def head (v : FVec Ideal S128x1024 .f32) (p s : FVec Ideal S16x1024 .f32) (g : FVec Ideal S128x1 .f32) : FVec Ideal S1x128x1024 .bf16 :=
  let n : FVec Ideal S128x1024 .f32 := mulf (mulf v (broadcastTo S128x1024 (rsqrt (addf (divf
    (shapeCast S1x1024 (multiReduction .add [0] S1024 (mulf v v) 0x00000000#32 reduces_S128x1024_S1024 (.inl rfl) rfl) shapeCasts_S1024_S1x1024)
    (broadcast S1x1024 (Scalar.ofBits (F := Ideal) .f32 0x43000000#32))) (broadcast S1x1024 (Scalar.ofBits (F := Ideal) .f32 0x358637BD#32)))) broadcasts_S1x1024_S128x1024))
    (broadcastTo S128x1024 (shapeCast S128x1 g shapeCasts_S128x1_S128x1) broadcasts_S128x1_S128x1024)
  let a : FVec Ideal S16x1024 .f32 := extractStridedSlice S16x1024 ![0, 0] n slices_S128x1024_o0_0_S16x1024
  let b : FVec Ideal S16x1024 .f32 := extractStridedSlice S16x1024 ![16, 0] n slices_S128x1024_o16_0_S16x1024
  let u : FVec Ideal S128x1024 .f32 := concatenate S128x1024 0 [⟨S16x1024, subf (mulf a p) (mulf b s)⟩, ⟨S16x1024, addf (mulf b p) (mulf a s)⟩,
      ⟨S96x1024, extractStridedSlice S96x1024 ![32, 0] n slices_S128x1024_o32_0_S96x1024⟩] concatenates_S16x1024_S16x1024_S96x1024_S128x1024_d0
  shapeCast S1x128x1024 (truncf .bf16 (mulf u (broadcast S128x1024 (Scalar.ofBits (F := Ideal) .f32 0x3E0293EE#32))) bitsLt_bf16_f32
    : FVec Ideal S128x1024 .bf16) shapeCasts_S128x1024_S1x128x1024

theorem head_apply (v : FVec Ideal S128x1024 .f32) (p s : FVec Ideal S16x1024 .f32) (g : FVec Ideal S128x1 .f32) (q : Fin 1024) (r : Fin 128) :
    head v p s g (ix3 0 r q) = Rotary.turned (Rotary.normed (fun d => v (ix2 d q)) fun d => g (ix2 d 0))
      (fun i => p (ix2 i q)) (fun i => s (ix2 i q)) r * scale := by
  unfold head scale
  dsimp only
  pointwise
  by_cases hr : r.val < 16
  · rw [dif_pos hr, Rotary.turned_low hr]
    rfl
  · rw [dif_neg hr]
    by_cases hs : r.val - 16 < 16
    · rw [dif_pos hs, Rotary.turned_mid hr hs]
      have e : (⟨16 + (r.val - 16), by omega⟩ : Fin 128) = r := Fin.ext (by dsimp only; omega)
      rw [e]
      rfl
    · rw [dif_neg hs, Rotary.turned_high hr hs]
      have e : (⟨32 + (r.val - 16 - 16), by omega⟩ : Fin 128) = r := Fin.ext (by dsimp only; omega)
      rw [e]
      rfl

/-- The entry a point stores, from the rows of the matrix in the scratch and its blocks. -/
def stored (w h : FVec Ideal S1024x2048 .bf16) (z : IVec S1x1024 32) (g : FVec Ideal S128x1 .f32) (f : FVec Ideal S16x1 .f32)
    (q : Fin 1024) (a : Fin 8) (r : Fin 128) : EReal :=
  Rotary.turned (Rotary.normed (fun d => ∑ k : Fin 2048, w (ix2 ⟨128 * a.val + d.val, by omega⟩ k) * h (ix2 q k)) fun d => g (ix2 d 0))
    (fun i => Ideal.cos (f (ix2 i 0) * (FloatOps.sitofp (F := Ideal) .f32 (z (ix2 0 q)) : EReal)))
    (fun i => Ideal.sin (f (ix2 i 0) * (FloatOps.sitofp (F := Ideal) .f32 (z (ix2 0 q)) : EReal))) r * scale

/-- The head's rows of the product, and the cosines and sines, read at an index. -/
theorem head_stored (w h : FVec Ideal S1024x2048 .bf16) (z : IVec S1x1024 32) (g : FVec Ideal S128x1 .f32) (f : FVec Ideal S16x1 .f32)
    (o : ℕ) (ho : S1024x1024.Slices ![o, 0] S128x1024) (x : S1x128x1024.Idx) (q : Fin 1024) (a : Fin 8) (r : Fin 128)
    (oa : o = 128 * a.val) (h0 : (x 0).val = 0) (h1 : (x 1).val = r.val) (h2 : (x 2).val = q.val) :
    head (extractStridedSlice S128x1024 ![o, 0] (k0_pay3 w h) ho) (k0_pay5 f z) (k0_pay6 f z) g x = stored w h z g f q a r := by
  subst oa
  rw [show x = ix3 0 r q from place3 h0 h1 h2, head_apply]
  unfold stored
  have e1 : ∀ d : Fin 128, (extractStridedSlice S128x1024 ![128 * a.val, 0] (k0_pay3 (F := Ideal) w h) ho : FVec Ideal S128x1024 .f32) (ix2 d q)
      = (∑ k : Fin 2048, w (ix2 ⟨128 * a.val + d.val, by omega⟩ k) * h (ix2 q k) : EReal) := by
    intro d
    pointwise [k0_pay3]
  have e2 : ∀ i : Fin 16, (k0_pay5 f z (ix2 i q) : Ideal .f32)
      = Ideal.cos (f (ix2 i 0) * (FloatOps.sitofp (F := Ideal) .f32 (z (ix2 0 q)) : EReal)) := by
    intro i
    pointwise [k0_pay5, k0_pay4]
  have e3 : ∀ i : Fin 16, (k0_pay6 f z (ix2 i q) : Ideal .f32)
      = Ideal.sin (f (ix2 i 0) * (FloatOps.sitofp (F := Ideal) .f32 (z (ix2 0 q)) : EReal)) := by
    intro i
    pointwise [k0_pay6, k0_pay4]
  simp only [e1, e2, e3]

variable (m : (ℓ : Loc nD τ sig) → Buf (Elt Ideal) ℓ) (c : Dev nD)

theorem V_h : V m c main_v1 = flat (m ((c : Thread nD τ).loc main_arg0)) := by
  show StableHlo.after hostOps0 _ (Proc.devRef .tc main_v1) = _
  after_results
  rfl
theorem V_w : V m c main_v2 = across (m ((c : Thread nD τ).loc main_arg1)) := by
  show StableHlo.after hostOps0 _ (Proc.devRef .tc main_v2) = _
  after_results
  rfl
theorem V_z : V m c main_v3 = inRow (m ((c : Thread nD τ).loc main_arg3)) := by
  show StableHlo.after hostOps0 _ (Proc.devRef .tc main_v3) = _
  after_results
  rfl
theorem V_g : V m c main_v4 = inColumn (m ((c : Thread nD τ).loc main_arg2)) := by
  show StableHlo.after hostOps0 _ (Proc.devRef .tc main_v4) = _
  after_results
  rfl
theorem V_f : V m c main_v11 = freqColumn := by
  show StableHlo.after hostOps0 _ (Proc.devRef .tc main_v11) = _
  after_results
  rfl

/-- Where the windows lie at point `t`: the rows of the matrix, the gains and the frequencies stay, the rows of the operand
and their positions go by. -/
theorem index_at : ∀ t : Fin cfg0.N, win0_0.index t = ![0, 0] ∧ win0_1.index t = ![t.val, 0] ∧ win0_2.index t = ![0, t.val]
    ∧ win0_3.index t = ![0, 0] ∧ win0_4.index t = ![0, 0] :=
  (by decide +kernel : ∀ t : Fin grid0.N, _)

variable (t : Fin cfg0.N)

theorem t_lt : t.val < 8 := lt_of_lt_of_eq t.isLt N_0

/-- The row of the operand that a row of point `t`'s block is, and the column of the matrix of a row of the scratch. -/
def rowOf (i : Fin 1024) : Fin 8192 := ⟨1024 * t.val + i.val, by have h := t_lt t; omega⟩
def lineOf (l : Fin 1024) : Fin 7696 := ⟨l.val, by omega⟩

theorem blk_h (i : Fin 1024) (k : Fin 2048) : (iblk m c 1 t : FVec Ideal S1024x2048 .bf16) (ix2 i k)
    = flat (m ((c : Thread nD τ).loc main_arg0)) (ix2 (rowOf t i) k) := by
  refine (congrFun (V_h m c) _).trans (congrArg (flat _) (place ?_ ?_))
  · show win0_1.index t (0 : Fin 2) * 1024 + 1 * i.val = 1024 * t.val + i.val
    rw [(index_at t).2.1]
    show t.val * 1024 + 1 * i.val = _
    omega
  · show win0_1.index t (1 : Fin 2) * 2048 + 1 * k.val = k.val
    rw [(index_at t).2.1]
    show 0 * 2048 + 1 * k.val = _
    omega

theorem blk_w (j : Fin 1024) (k : Fin 2048) : (iblk m c 0 t : FVec Ideal S1024x2048 .f32) (ix2 j k)
    = across (m ((c : Thread nD τ).loc main_arg1)) (ix2 (lineOf j) k) := by
  refine (congrFun (V_w m c) _).trans (congrArg (across _) (place ?_ ?_))
  · show win0_0.index t (0 : Fin 2) + 1 * j.val = j.val
    rw [(index_at t).1]
    show 0 + 1 * j.val = _
    omega
  · show win0_0.index t (1 : Fin 2) + 1 * k.val = k.val
    rw [(index_at t).1]
    show 0 + 1 * k.val = _
    omega

theorem blk_z (i : Fin 1024) : (iblk m c 2 t : IVec S1x1024 32) (ix2 0 i)
    = inRow (m ((c : Thread nD τ).loc main_arg3)) (ix2 0 (rowOf t i)) := by
  refine (congrFun (V_z m c) _).trans (congrArg (inRow _) (place ?_ ?_))
  · show win0_2.index t (0 : Fin 2) * 1 + 1 * 0 = 0
    rw [(index_at t).2.2.1]
    rfl
  · show win0_2.index t (1 : Fin 2) * 1024 + 1 * i.val = 1024 * t.val + i.val
    rw [(index_at t).2.2.1]
    show t.val * 1024 + 1 * i.val = _
    omega

theorem blk_g (d : Fin 128) : (iblk m c 3 t : FVec Ideal S128x1 .f32) (ix2 d 0)
    = inColumn (m ((c : Thread nD τ).loc main_arg2)) (ix2 d 0) := by
  refine (congrFun (V_g m c) _).trans (congrArg (inColumn _) (place ?_ ?_))
  · show win0_3.index t (0 : Fin 2) * 128 + 1 * d.val = d.val
    rw [(index_at t).2.2.2.1]
    show 0 * 128 + 1 * d.val = _
    omega
  · show win0_3.index t (1 : Fin 2) * 1 + 1 * 0 = 0
    rw [(index_at t).2.2.2.1]
    rfl

theorem blk_f (i : Fin 16) : (iblk m c 4 t : FVec Ideal S16x1 .f32) (ix2 i 0) = freqColumn (ix2 i 0) := by
  refine (congrFun (V_f m c) _).trans (congrArg freqColumn (place ?_ ?_))
  · show win0_4.index t (0 : Fin 2) * 16 + 1 * i.val = i.val
    rw [(index_at t).2.2.2.2]
    show 0 * 16 + 1 * i.val = _
    omega
  · show win0_4.index t (1 : Fin 2) * 1 + 1 * 0 = 0
    rw [(index_at t).2.2.2.2]
    rfl

/-- What a point leaves in the scratch of the matrix. -/
theorem first_point (h : t.val % 8 = 0) : (outsAt0 m c t.val t.isLt).2 = k0_pay2 (iblk m c 0 t) := by
  rw [outsAt0_A m c t h]; dsimp only
  frame_out

theorem later_point (h : ¬ t.val % 8 = 0) :
    (outsAt0 m c t.val t.isLt).2 = (outsAt0 m c (t.val - 1) (lt_of_le_of_lt (Nat.sub_le _ _) t.isLt)).2 := by
  rw [outsAt0_B m c t h]
  rfl

theorem out_of_scratch (y : S8x128x1024.Idx) (q : Fin 1024) (a : Fin 8) (r : Fin 128) (ha : (y 0).val = a.val)
    (hr : (y 1).val = r.val) (hq : (y 2).val = q.val) : (outsAt0 m c t.val t.isLt).1 y
      = stored (outsAt0 m c t.val t.isLt).2 (iblk m c 1 t) (iblk m c 2 t) (iblk m c 3 t) (iblk m c 4 t) q a r := by
  by_cases ht : t.val % 8 = 0
  · rw [first_point m c t ht, outsAt0_A m c t ht]; dsimp only
    frame_out
    canon_tiles x h
    · exact head_stored _ _ _ _ _ 896 slices_S1024x1024_o896_0_S128x1024 x q a r (by omega) (by omega) (by omega) (by omega)
    · exact head_stored _ _ _ _ _ 768 slices_S1024x1024_o768_0_S128x1024 x q a r (by omega) (by omega) (by omega) (by omega)
    · exact head_stored _ _ _ _ _ 640 slices_S1024x1024_o640_0_S128x1024 x q a r (by omega) (by omega) (by omega) (by omega)
    · exact head_stored _ _ _ _ _ 512 slices_S1024x1024_o512_0_S128x1024 x q a r (by omega) (by omega) (by omega) (by omega)
    · exact head_stored _ _ _ _ _ 384 slices_S1024x1024_o384_0_S128x1024 x q a r (by omega) (by omega) (by omega) (by omega)
    · exact head_stored _ _ _ _ _ 256 slices_S1024x1024_o256_0_S128x1024 x q a r (by omega) (by omega) (by omega) (by omega)
    · exact head_stored _ _ _ _ _ 128 slices_S1024x1024_o128_0_S128x1024 x q a r (by omega) (by omega) (by omega) (by omega)
    · exact head_stored _ _ _ _ _ 0 slices_S1024x1024_o0_0_S128x1024 x q a r (by omega) (by omega) (by omega) (by omega)
  · rw [later_point m c t ht, outsAt0_B m c t ht]; dsimp only
    frame_out
    rw [read_unread_whole]
    canon_tiles x h
    · exact head_stored _ _ _ _ _ 896 slices_S1024x1024_o896_0_S128x1024 x q a r (by omega) (by omega) (by omega) (by omega)
    · exact head_stored _ _ _ _ _ 768 slices_S1024x1024_o768_0_S128x1024 x q a r (by omega) (by omega) (by omega) (by omega)
    · exact head_stored _ _ _ _ _ 640 slices_S1024x1024_o640_0_S128x1024 x q a r (by omega) (by omega) (by omega) (by omega)
    · exact head_stored _ _ _ _ _ 512 slices_S1024x1024_o512_0_S128x1024 x q a r (by omega) (by omega) (by omega) (by omega)
    · exact head_stored _ _ _ _ _ 384 slices_S1024x1024_o384_0_S128x1024 x q a r (by omega) (by omega) (by omega) (by omega)
    · exact head_stored _ _ _ _ _ 256 slices_S1024x1024_o256_0_S128x1024 x q a r (by omega) (by omega) (by omega) (by omega)
    · exact head_stored _ _ _ _ _ 128 slices_S1024x1024_o128_0_S128x1024 x q a r (by omega) (by omega) (by omega) (by omega)
    · exact head_stored _ _ _ _ _ 0 slices_S1024x1024_o0_0_S128x1024 x q a r (by omega) (by omega) (by omega) (by omega)

/-- The rows of the matrix are in the scratch after every point. -/
theorem scratch_after : ∀ (n : ℕ) (hn : n < cfg0.N) (j : Fin 1024) (k : Fin 2048), (outsAt0 m c n hn).2 (ix2 j k)
    = across (m ((c : Thread nD τ).loc main_arg1)) (ix2 (lineOf j) k) := by
  intro n
  induction n with
  | zero =>
    intro hn j k
    rw [first_point m c ⟨0, hn⟩ rfl, ← blk_w m c ⟨0, hn⟩ j k]
    pointwise [k0_pay2]
  | succ n ih =>
    intro hn j k
    have h8 := t_lt ⟨n + 1, hn⟩
    rw [later_point m c ⟨n + 1, hn⟩ (by show ¬(n + 1) % 8 = 0; have h : n + 1 < 8 := h8; omega)]
    exact ih (Nat.lt_of_succ_lt hn) j k

/-- What a point stores is the result's entries when the rows, the positions, the gains and the frequencies are its. -/
theorem stored_eq_entry {w h : FVec Ideal S1024x2048 .bf16} {z : IVec S1x1024 32} {g : FVec Ideal S128x1 .f32} {f : FVec Ideal S16x1 .f32}
    {X : FVec Ideal S2x4096x2048 .f32} {W : FVec Ideal S2048x7696 .f32} {G : FVec Ideal S128 .f32} {Z : IVec S2x4096 32}
    (q : Fin 1024) (a : Fin 8) (r : Fin 128) (n : Fin 8192)
    (hw : ∀ (l : Fin 1024) k, w (ix2 l k) = across W (ix2 (lineOf l) k)) (hh : ∀ k, h (ix2 q k) = flat X (ix2 n k))
    (hz : z (ix2 0 q) = inRow Z (ix2 0 n)) (hg : ∀ d, g (ix2 d 0) = inColumn G (ix2 d 0))
    (hf : ∀ i, f (ix2 i 0) = freqColumn (ix2 i 0)) : stored w h z g f q a r = entry X W G Z n a r := by
  unfold stored entry
  have e1 : ∀ d : Fin 128, ∑ k : Fin 2048, w (ix2 ⟨128 * a.val + d.val, by omega⟩ k) * h (ix2 q k)
      = lin X W n ⟨128 * a.val + d.val, by omega⟩ := by
    intro d
    unfold lin
    refine Finset.sum_congr rfl fun k _ => ?_
    rw [hw, hh, flat_apply, across_apply, mul_comm]
    rfl
  have e2 : ∀ i : Fin 16, f (ix2 i 0) * (FloatOps.sitofp (F := Ideal) .f32 (z (ix2 0 q)) : EReal) = angle Z n i := by
    intro i
    rw [hf, hz, inRow_apply, freqColumn_apply, mul_comm]
    rfl
  have e3 : ∀ d : Fin 128, g (ix2 d 0) = G (ix1 d) := fun d => (hg d).trans (inColumn_apply _ d)
  simp only [e1, e2, e3]

/-- The kernel's result for a head, a value of the head and a row. -/
theorem kernel_apply (a : Fin 8) (r : Fin 128) (n : Fin 8192) : (Value.G5 m c : FVec Ideal S8x128x8192 .bf16) (ix3 a r n)
    = entry (m ((c : Thread nD τ).loc main_arg0)) (m ((c : Thread nD τ).loc main_arg1)) (m ((c : Thread nD τ).loc main_arg2))
        (m ((c : Thread nD τ).loc main_arg3)) n a r := by
  have hq : 8 * (a.val / 8 - 0) + 8 * (r.val / 128 - 0) + 1 * (n.val / 1024 - 0) = n.val / 1024 := by omega
  have hpt : n.val / 1024 < cfg0.N := lt_of_lt_of_eq (by omega) N_0.symm
  have e := out_of_scratch m c ⟨n.val / 1024, hpt⟩ (Value.loc5Of (ix3 a r n : S8x128x8192.Idx)) ⟨n.val % 1024, by omega⟩
    a r (by show a.val % 8 = a.val; omega) (by show r.val % 128 = r.val; omega) rfl
  have en : rowOf ⟨n.val / 1024, hpt⟩ ⟨n.val % 1024, by omega⟩ = n :=
    Fin.ext (by show 1024 * (n.val / 1024) + n.val % 1024 = n.val; omega)
  rw [stored_eq_entry _ _ _ n (scratch_after m c (n.val / 1024) hpt)
    (fun k => (blk_h m c ⟨n.val / 1024, hpt⟩ _ k).trans (by rw [en])) ((blk_z m c ⟨n.val / 1024, hpt⟩ _).trans (by rw [en]))
    (blk_g m c ⟨n.val / 1024, hpt⟩) (blk_f m c ⟨n.val / 1024, hpt⟩)] at e
  rw [← e]
  unfold Value.G5
  rw [dif_pos (show Value.pt5Of (ix3 a r n : S8x128x8192.Idx) < cfg0.N from lt_of_eq_of_lt hq hpt), Value.outsAt0_sweep]
  exact congrArg (fun z : Vec Ideal S8x128x1024 .bf16 × Vec Ideal S1024x2048 .bf16 =>
      z.1 (Value.loc5Of (ix3 a r n : S8x128x8192.Idx))) (Value.fold0_congr m c _ _ _ _ hq)

end Query

namespace Query.Reference

open Idealize.ShloMosaic Idealize.ShloMosaic.TcCoe Idealize.ShloMosaic.Pointwise Cert.Reference8Ideal Cert.Reference8Ideal.Gen

/-- The product's columns, per head. -/
def heads (x : FVec Ideal S2x4096x2048 .f32) (w : FVec Ideal S2048x7696 .f32) : FVec Ideal S2x4096x8x128 .f32 :=
  shapeCast S2x4096x8x128 (extractStridedSlice S2x4096x1024 ![0, 0, 0]
    (Host.dotGeneral (F := Ideal) dot_S2x4096x2048_S2048x7696_S2x4096x7696_2_0_01_1_n_n none x w)
    slices_S2x4096x7696_S2x4096x1024_0_0_0) shapeCasts_S2x4096x1024_S2x4096x8x128

/-- The values of the heads divided by the root of their mean square, times the gains. -/
def scaled (y : FVec Ideal S2x4096x8x128 .f32) (g : FVec Ideal S128 .f32) : FVec Ideal S2x4096x8x128 .f32 :=
  mulf (mulf y (broadcastInDim S2x4096x8x128 ![0, 1, 2, 3] bcast_S2x4096x8x1_S2x4096x8x128_0_1_2_3 (Host.rsqrt (addf
      (Host.divf (broadcastInDim S2x4096x8x1 ![0, 1, 2] bcast_S2x4096x8_S2x4096x8x1_0_1_2
          (Host.reduceAdd (mulf y y) (constant S_ .f32 0x00000000#32) reducesTo_S2x4096x8x128_S2x4096x8_d3 h_S_))
        (broadcastInDim S2x4096x8x1 ![] bcast_S_S2x4096x8x1 (constant S_ .f32 0x43000000#32)))
      (broadcastInDim S2x4096x8x1 ![] bcast_S_S2x4096x8x1 (constant S_ .f32 0x358637BD#32))))))
    (broadcastInDim S2x4096x8x128 ![0, 1, 2, 3] bcast_S1x1x1x128_S2x4096x8x128_0_1_2_3
      (broadcastInDim S1x1x1x128 ![3] bcast_S128_S1x1x1x128_3 g))

/-- The angles of the positions. -/
def angles (z : IVec S2x4096 32) : FVec Ideal S2x4096x16 .f32 :=
  mulf (broadcastInDim S2x4096x16 ![0, 1, 2] bcast_S2x4096x1_S2x4096x16_0_1_2
      (broadcastInDim S2x4096x1 ![0, 1] bcast_S2x4096_S2x4096x1_0_1 (sitofp .f32 z)))
    (broadcastInDim S2x4096x16 ![0, 1, 2] bcast_S1x1x16_S2x4096x16_0_1_2 (broadcastInDim S1x1x16 ![2] bcast_S16_S1x1x16_2
      (Host.powf (F := Ideal) (broadcastInDim S16 ![] bcast_S_S16 (constant (F := Ideal) S_ .f32 0x48F42400#32))
        (Host.divf (Host.negf (sitofp .f32 (iotaInDim S16 32 0))) (broadcastInDim S16 ![] bcast_S_S16 (constant S_ .f32 0x41800000#32))))))

/-- A value per position and frequency, the same for all heads. -/
def forHeads (u : FVec Ideal S2x4096x16 .f32) : FVec Ideal S2x4096x8x16 .f32 :=
  broadcastInDim S2x4096x8x16 ![0, 1, 2, 3] bcast_S2x4096x1x16_S2x4096x8x16_0_1_2_3
    (broadcastInDim S2x4096x1x16 ![0, 1, 3] bcast_S2x4096x16_S2x4096x1x16_0_1_3 u)

/-- The two halves of the values that turn. -/
def firstHalf (y : FVec Ideal S2x4096x8x128 .f32) : FVec Ideal S2x4096x8x16 .f32 :=
  extractStridedSlice S2x4096x8x16 ![0, 0, 0, 0] (extractStridedSlice S2x4096x8x32 ![0, 0, 0, 0] y
    slices_S2x4096x8x128_S2x4096x8x32_0_0_0_0) slices_S2x4096x8x32_S2x4096x8x16_0_0_0_0
def secondHalf (y : FVec Ideal S2x4096x8x128 .f32) : FVec Ideal S2x4096x8x16 .f32 :=
  extractStridedSlice S2x4096x8x16 ![0, 0, 0, 16] (extractStridedSlice S2x4096x8x32 ![0, 0, 0, 0] y
    slices_S2x4096x8x128_S2x4096x8x32_0_0_0_0) slices_S2x4096x8x32_S2x4096x8x16_0_0_0_16

/-- The rotation of every head's first 32 values. -/
def rotated (y : FVec Ideal S2x4096x8x128 .f32) (u : FVec Ideal S2x4096x16 .f32) : FVec Ideal S2x4096x8x128 .f32 :=
  concatenate S2x4096x8x128 3 [⟨S2x4096x8x32, concatenate S2x4096x8x32 3
      [⟨S2x4096x8x16, subf (mulf (firstHalf y) (forHeads (Host.cos u))) (mulf (secondHalf y) (forHeads (Host.sin u)))⟩,
        ⟨S2x4096x8x16, addf (mulf (secondHalf y) (forHeads (Host.cos u))) (mulf (firstHalf y) (forHeads (Host.sin u)))⟩]
      concatenates_S2x4096x8x16_S2x4096x8x16_S2x4096x8x32_d3⟩,
    ⟨S2x4096x8x96, extractStridedSlice S2x4096x8x96 ![0, 0, 0, 32] y slices_S2x4096x8x128_S2x4096x8x96_0_0_0_32⟩]
    concatenates_S2x4096x8x32_S2x4096x8x96_S2x4096x8x128_d3

theorem heads_apply (x : FVec Ideal S2x4096x2048 .f32) (w : FVec Ideal S2048x7696 .f32) (b : Fin 2) (q : Fin 4096) (a : Fin 8)
    (r : Fin 128) : heads x w (ix4 b q a r)
      = Query.lin x w ⟨4096 * b.val + q.val, by omega⟩ ⟨128 * a.val + r.val, by omega⟩ := by
  pointwise [heads, Query.lin]
  refine Finset.sum_congr rfl fun k _ => ?_
  rw [show ix3 (⟨(4096 * b.val + q.val) / 4096, by omega⟩ : Fin 2) (⟨(4096 * b.val + q.val) % 4096, by omega⟩ : Fin 4096) k = ix3 b q k from
      Places.place3 (by show (4096 * b.val + q.val) / 4096 = b.val; omega) (by show (4096 * b.val + q.val) % 4096 = q.val; omega) rfl]
  exact congrArg (fun l : Fin 7696 => x (ix3 b q k) * w (ix2 k l)) (Fin.ext (by dsimp only; omega))

theorem scaled_apply (y : FVec Ideal S2x4096x8x128 .f32) (g : FVec Ideal S128 .f32) (b : Fin 2) (q : Fin 4096) (a : Fin 8)
    (r : Fin 128) : scaled y g (ix4 b q a r) = Rotary.normed (fun d => y (ix4 b q a d)) (fun d => g (ix1 d)) r := by
  pointwise [scaled, Rotary.normed]

theorem angles_apply (z : IVec S2x4096 32) (b : Fin 2) (q : Fin 4096) (i : Fin 16) :
    angles z (ix3 b q i) = Query.angle z ⟨4096 * b.val + q.val, by omega⟩ i := by
  have e : (ix2 (⟨(4096 * b.val + q.val) / 4096, by omega⟩ : Fin 2) (⟨(4096 * b.val + q.val) % 4096, by omega⟩ : Fin 4096)) = ix2 b q :=
    Places.place (by show (4096 * b.val + q.val) / 4096 = b.val; omega) (by show (4096 * b.val + q.val) % 4096 = q.val; omega)
  unfold Query.angle
  dsimp only
  rw [e]
  pointwise [angles, Query.freq]

theorem rotated_apply (y : FVec Ideal S2x4096x8x128 .f32) (u : FVec Ideal S2x4096x16 .f32) (b : Fin 2) (q : Fin 4096) (a : Fin 8)
    (r : Fin 128) : rotated y u (ix4 b q a r) = Rotary.turned (fun d => y (ix4 b q a d)) (fun i => Ideal.cos (u (ix3 b q i)))
      (fun i => Ideal.sin (u (ix3 b q i))) r := by
  pointwise [rotated, firstHalf, secondHalf, forHeads]
  by_cases h32 : r.val < 32
  · rw [dif_pos h32]
    by_cases hr : r.val < 16
    · rw [dif_pos hr, Rotary.turned_low hr]
    · rw [dif_neg hr, Rotary.turned_mid hr (by omega)]
      have e : (⟨16 + (r.val - 16), by omega⟩ : Fin 128) = r := Fin.ext (by dsimp only; omega)
      rw [e]
  · rw [dif_neg h32, Rotary.turned_high (by omega) (by omega)]
    exact congrArg (fun d => y (ix4 b q a d)) (Fin.ext (by dsimp only; omega))

/-- The reference's result for a head, a value of the head and a row. -/
theorem result_apply (m : (ℓ : Loc nD τ sig) → Buf (Elt Ideal) ℓ) (c : Dev nD) (a : Fin 8) (r : Fin 128) (n : Fin 8192) :
    (Cert.Reference8Ideal.Value.res_main_v52 m c : FVec Ideal S8x128x8192 .bf16) (ix3 a r n)
      = Query.entry (m ((c : Thread nD τ).loc main_arg0)) (m ((c : Thread nD τ).loc main_arg1)) (m ((c : Thread nD τ).loc main_arg2))
          (m ((c : Thread nD τ).loc main_arg3)) n a r := by
  have e : Cert.Reference8Ideal.Value.res_main_v52 m c = truncf .bf16 (transpose S8x128x8192 [1, 2, 0] (shapeCast S8192x8x128
      (mulf (rotated (scaled (heads (m ((c : Thread nD τ).loc main_arg0)) (m ((c : Thread nD τ).loc main_arg1)))
          (m ((c : Thread nD τ).loc main_arg2))) (angles (m ((c : Thread nD τ).loc main_arg3))))
        (broadcastInDim S2x4096x8x128 ![] bcast_S_S2x4096x8x128 (constant (F := Ideal) S_ .f32 0x3E0293EE#32)))
      shapeCasts_S2x4096x8x128_S8192x8x128) transposes_S8192x8x128_S8x128x8192_1_2_0) bitsLt_bf16_f32 := rfl
  rw [e]
  pointwise
  rw [rotated_apply]
  unfold Query.entry Query.scale
  have en : (⟨4096 * (n.val / 4096) + n.val % 4096, by omega⟩ : Fin 8192) = n := Fin.ext (by dsimp only; omega)
  simp only [scaled_apply, heads_apply, angles_apply, en]

end Query.Reference

namespace Query

open Places Idealize.ShloMosaic Idealize.SL.Sem Idealize.ShloMosaic.Pointwise

/-- The reference runs, its arguments unchanged and every semaphore zero at the end. -/
theorem quiescent_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Kernel and reference end with the same result. -/
theorem algebraic : Cert.algebraic_Kernel8Ideal_Reference8Ideal := by
  intro m ρ m' ρ' _ hagree
  refine ⟨_, Cert.Kernel8Ideal.Value.run (F := Ideal) m ρ, ?_⟩
  refine (θ_run Cert.Reference8Ideal.defs _ _).mono (fun _ h c => ⟨?_, (h c).2⟩) (Cert.Reference8Ideal.Value.run (F := Ideal) m' ρ')
  rw [(h c).1]
  obtain ⟨h0, h1, h2, h3⟩ := hagree c
  funext i
  rw [show i = ix3 (i 0) (i 1) (i 2) from place3 rfl rfl rfl]
  refine (Reference.result_apply m' c _ _ _).trans ?_
  rw [h0, h1, h2, h3]
  exact (kernel_apply m c _ _ _).symm

end Query
-- ==== Proof.Indexer.lean ====
/-
  The sparse attention's index from the input projection: the index queries of sixteen heads, the first 16 of a head's 64
  values turned by the angles of the position and all of them scaled; the one index key, turned, with the columns behind it;
  and the heads' weights. The kernel keeps the rows of the transposed matrix in scratch while the blocks of rows go by; over
  the reals its three results are the reference's.
-/
module

public import proofs.«01_k».proof.Defs
public import proofs.«01_k».proof.Proof.Gen.Kernel9Ideal.Value
public import proofs.«01_k».proof.Proof.Gen.Reference9Ideal.Run
public import proofs.«01_k».proof.Proof.Places
public import Idealize.ShloMosaic.Lib.Pipeline.ReadBack
public import Idealize.ShloMosaic.Adequacy
public import Idealize.ShloMosaic.Init
public import Idealize.ShloMosaic.Lib.Quiescent

@[expose] public section

set_option maxRecDepth 16384

noncomputable section

namespace Indexer

open Places Idealize.ShloMosaic Idealize.ShloMosaic.TcCoe Idealize.ShloMosaic.Pointwise Cert.Kernel9Ideal Cert.Kernel9Ideal.Gen

/-- The rows of both batches, one under the other. -/
def flat (x : FVec Ideal S2x4096x2048 .f32) : FVec Ideal S8192x2048 .f32 := shapeCast S8192x2048 x shapeCasts_S2x4096x2048_S8192x2048

/-- The matrix with its columns as rows. -/
def across (w : FVec Ideal S2048x7696 .f32) : FVec Ideal S7696x2048 .f32 :=
  transpose S7696x2048 [1, 0] w transposes_S2048x7696_S7696x2048_1_0

/-- The positions in a row. -/
def inRow (z : IVec S2x4096 32) : IVec S1x8192 32 := shapeCast S1x8192 z shapeCasts_S2x4096_S1x8192

/-- The frequencies, the base to minus `i / 8`. -/
def freq : FVec Ideal S8 .f32 :=
  Host.powf (F := Ideal) (broadcastInDim S8 ![] bcast_S_S8 (constant (F := Ideal) S_ .f32 0x48F42400#32))
    (Host.divf (Host.negf (sitofp .f32 (iotaInDim S8 32 0))) (broadcastInDim S8 ![] bcast_S_S8 (constant S_ .f32 0x41000000#32)))

/-- The frequencies in a column. -/
def freqColumn : FVec Ideal S8x1 .f32 := shapeCast S8x1 freq shapeCasts_S8_S8x1

theorem flat_apply (x : FVec Ideal S2x4096x2048 .f32) (n : Fin 8192) (l : Fin 2048) :
    flat x (ix2 n l) = x (ix3 ⟨n.val / 4096, by omega⟩ ⟨n.val % 4096, by omega⟩ l) := by
  pointwise [flat]
theorem across_apply (w : FVec Ideal S2048x7696 .f32) (n : Fin 7696) (l : Fin 2048) : across w (ix2 n l) = w (ix2 l n) := by
  pointwise [across]
theorem inRow_apply (z : IVec S2x4096 32) (n : Fin 8192) :
    inRow z (ix2 0 n) = z (ix2 ⟨n.val / 4096, by omega⟩ ⟨n.val % 4096, by omega⟩) := by
  pointwise [inRow]
theorem freqColumn_apply (i : Fin 8) : freqColumn (ix2 i 0) = freq (ix1 i) := by
  pointwise [freqColumn]

/-- The columns of the product for the index, 3072 to 4223, in a row. -/
def column (x : FVec Ideal S2x4096x2048 .f32) (w : FVec Ideal S2048x7696 .f32) (n : Fin 8192) (l : Fin 1152) : EReal :=
  ∑ k : Fin 2048, x (ix3 ⟨n.val / 4096, by omega⟩ ⟨n.val % 4096, by omega⟩ k) * w (ix2 k ⟨3072 + l.val, by omega⟩)

/-- The cosine and the sine of the angle of a row's position for a frequency. -/
def angle (z : IVec S2x4096 32) (n : Fin 8192) (i : Fin 8) : EReal :=
  (FloatOps.sitofp (F := Ideal) .f32 (z (ix2 ⟨n.val / 4096, by omega⟩ ⟨n.val % 4096, by omega⟩)) : EReal) * freq (ix1 i)
def cosine (z : IVec S2x4096 32) (n : Fin 8192) (i : Fin 8) : EReal := Ideal.cos (angle z n i)
def sine (z : IVec S2x4096 32) (n : Fin 8192) (i : Fin 8) : EReal := Ideal.sin (angle z n i)

/-- The first 8 values and the next 8 turned as pairs by the angles with cosine `p` and sine `s`; the others stay. -/
def turned (n : Fin 64 → EReal) (p s : Fin 8 → EReal) (r : Fin 64) : EReal :=
  if h : r.val < 8 then n r * p ⟨r.val, h⟩ - n ⟨8 + r.val, by omega⟩ * s ⟨r.val, h⟩
  else if h : r.val - 8 < 8 then n r * p ⟨r.val - 8, h⟩ + n ⟨r.val - 8, by omega⟩ * s ⟨r.val - 8, h⟩
  else n r

theorem turned_low {n : Fin 64 → EReal} {p s : Fin 8 → EReal} {r : Fin 64} (h : r.val < 8) :
    turned n p s r = n r * p ⟨r.val, h⟩ - n ⟨8 + r.val, by omega⟩ * s ⟨r.val, h⟩ := dif_pos h
theorem turned_mid {n : Fin 64 → EReal} {p s : Fin 8 → EReal} {r : Fin 64} (h : ¬ r.val < 8) (h' : r.val - 8 < 8) :
    turned n p s r = n r * p ⟨r.val - 8, h'⟩ + n ⟨r.val - 8, by omega⟩ * s ⟨r.val - 8, h'⟩ := (dif_neg h).trans (dif_pos h')
theorem turned_high {n : Fin 64 → EReal} {p s : Fin 8 → EReal} {r : Fin 64} (h : ¬ r.val < 8) (h' : ¬ r.val - 8 < 8) :
    turned n p s r = n r := (dif_neg h).trans (dif_neg h')

/-- The entries of the three results from a row's columns `v` and the cosines and sines of its position: the index queries
(head `l`, value `r`), the index key with the columns behind it, and the heads' weights. -/
def query (v : Fin 1152 → EReal) (p s : Fin 8 → EReal) (l : Fin 16) (r : Fin 64) : EReal :=
  turned (fun d => v ⟨64 * l.val + d.val, by omega⟩) p s r * Ideal.ofBits FTy.f32 0x3E000000#32
def key (v : Fin 1152 → EReal) (p s : Fin 8 → EReal) (r : Fin 128) : EReal :=
  if h : r.val < 64 then turned (fun d => v ⟨1024 + d.val, by omega⟩) p s ⟨r.val, h⟩ else v ⟨1024 + r.val, by omega⟩
def weight (v : Fin 1152 → EReal) (a : Fin 16) : EReal := v ⟨1088 + a.val, by omega⟩ * Ideal.ofBits FTy.f32 0x3E800000#32

/-- What the kernel computes of a head's 64 rows. -/
def head (v : FVec Ideal S64x1024 .f32) (p s : FVec Ideal S8x1024 .f32) : FVec Ideal S1x64x1024 .bf16 :=
  let a : FVec Ideal S8x1024 .f32 := extractStridedSlice S8x1024 ![0, 0] v slices_S64x1024_o0_0_S8x1024
  let b : FVec Ideal S8x1024 .f32 := extractStridedSlice S8x1024 ![8, 0] v slices_S64x1024_o8_0_S8x1024
  let u : FVec Ideal S64x1024 .f32 := concatenate S64x1024 0 [⟨S8x1024, subf (mulf a p) (mulf b s)⟩, ⟨S8x1024, addf (mulf b p) (mulf a s)⟩,
      ⟨S48x1024, extractStridedSlice S48x1024 ![16, 0] v slices_S64x1024_o16_0_S48x1024⟩] concatenates_S8x1024_S8x1024_S48x1024_S64x1024_d0
  shapeCast S1x64x1024 (truncf .bf16 (mulf u (broadcast S64x1024 (Scalar.ofBits (F := Ideal) .f32 0x3E000000#32))) bitsLt_bf16_f32
    : FVec Ideal S64x1024 .bf16) shapeCasts_S64x1024_S1x64x1024

theorem head_apply (v : FVec Ideal S64x1024 .f32) (p s : FVec Ideal S8x1024 .f32) (q : Fin 1024) (r : Fin 64) :
    head v p s (ix3 0 r q) = turned (fun d => v (ix2 d q)) (fun i => p (ix2 i q)) (fun i => s (ix2 i q)) r
      * Ideal.ofBits FTy.f32 0x3E000000#32 := by
  unfold head
  pointwise
  by_cases hr : r.val < 8
  · rw [dif_pos hr, turned_low hr]
  · rw [dif_neg hr]
    by_cases hs : r.val - 8 < 8
    · rw [dif_pos hs, turned_mid hr hs]
      have e : (⟨8 + (r.val - 8), by omega⟩ : Fin 64) = r := Fin.ext (by dsimp only; omega)
      rw [e]
    · rw [dif_neg hs, turned_high hr hs]
      have e : (⟨16 + (r.val - 8 - 8), by omega⟩ : Fin 64) = r := Fin.ext (by dsimp only; omega)
      rw [e]

/-- A row's columns of the product, and the cosines and sines, that a point reads off its blocks. -/
def lines (w : FVec Ideal S1152x2048 .bf16) (h : FVec Ideal S1024x2048 .bf16) (q : Fin 1024) (l : Fin 1152) : EReal :=
  ∑ k : Fin 2048, w (ix2 l k) * h (ix2 q k)
def turn (f : FVec Ideal S8x1 .f32) (z : IVec S1x1024 32) (q : Fin 1024) (i : Fin 8) : EReal :=
  f (ix2 i 0) * (FloatOps.sitofp (F := Ideal) .f32 (z (ix2 0 q)) : EReal)

theorem product_apply (w : FVec Ideal S1152x2048 .bf16) (h : FVec Ideal S1024x2048 .bf16) (q : Fin 1024) (l : Fin 1152) :
    (k0_pay6 (F := Ideal) w h : FVec Ideal S1152x1024 .f32) (ix2 l q) = lines w h q l := by
  pointwise [k0_pay6, lines]
theorem cos_apply (f : FVec Ideal S8x1 .f32) (z : IVec S1x1024 32) (q : Fin 1024) (i : Fin 8) :
    (k0_pay8 (F := Ideal) f z : FVec Ideal S8x1024 .f32) (ix2 i q) = Ideal.cos (turn f z q i) := by
  pointwise [k0_pay8, k0_pay7, turn]
theorem sin_apply (f : FVec Ideal S8x1 .f32) (z : IVec S1x1024 32) (q : Fin 1024) (i : Fin 8) :
    (k0_pay9 (F := Ideal) f z : FVec Ideal S8x1024 .f32) (ix2 i q) = Ideal.sin (turn f z q i) := by
  pointwise [k0_pay9, k0_pay7, turn]

/-- The head's rows of the product, turned and scaled, read at an index. -/
theorem head_stored (w : FVec Ideal S1152x2048 .bf16) (h : FVec Ideal S1024x2048 .bf16) (z : IVec S1x1024 32) (f : FVec Ideal S8x1 .f32)
    (o : ℕ) (ho : S1152x1024.Slices ![o, 0] S64x1024) (x : S1x64x1024.Idx) (q : Fin 1024) (l : Fin 16) (r : Fin 64)
    (oa : o = 64 * l.val) (h0 : (x 0).val = 0) (h1 : (x 1).val = r.val) (h2 : (x 2).val = q.val) :
    head (extractStridedSlice S64x1024 ![o, 0] (k0_pay6 w h) ho) (k0_pay8 f z) (k0_pay9 f z) x
      = query (lines w h q) (fun i => Ideal.cos (turn f z q i)) (fun i => Ideal.sin (turn f z q i)) l r := by
  subst oa
  rw [show x = ix3 0 r q from place3 h0 h1 h2, head_apply]
  unfold query
  have e1 : ∀ d : Fin 64, (extractStridedSlice S64x1024 ![64 * l.val, 0] (k0_pay6 (F := Ideal) w h) ho : FVec Ideal S64x1024 .f32) (ix2 d q)
      = lines w h q ⟨64 * l.val + d.val, by omega⟩ := by
    intro d
    rw [← product_apply]
    pointwise
  simp only [e1, cos_apply, sin_apply]

/-- The index key with the columns behind it, as a point stores them. -/
theorem key_stored (w : FVec Ideal S1152x2048 .bf16) (h : FVec Ideal S1024x2048 .bf16) (z : IVec S1x1024 32) (f : FVec Ideal S8x1 .f32)
    (q : Fin 1024) (r : Fin 128) : (k0_pay3 (k0_pay6 w h) (k0_pay8 f z) (k0_pay9 f z) : FVec Ideal S1024x128 .bf16) (ix2 q r)
      = key (lines w h q) (fun i => Ideal.cos (turn f z q i)) (fun i => Ideal.sin (turn f z q i)) r := by
  have e : ∀ (v : FVec Ideal S1152x1024 .f32) (p s : FVec Ideal S8x1024 .f32), (k0_pay3 v p s : FVec Ideal S1024x128 .bf16) (ix2 q r)
      = key (fun l => v (ix2 l q)) (fun i => p (ix2 i q)) (fun i => s (ix2 i q)) r := by
    intro v p s
    unfold key
    pointwise [k0_pay3, k0_pay2]
    by_cases h64 : r.val < 64
    · rw [dif_pos h64, dif_pos h64]
      by_cases hr : r.val < 8
      · rw [dif_pos hr, turned_low (r := ⟨r.val, h64⟩) hr]
      · rw [dif_neg hr]
        by_cases hs : r.val - 8 < 8
        · rw [dif_pos hs, turned_mid (r := ⟨r.val, h64⟩) hr hs]
          have e : (⟨1024 + (8 + (r.val - 8)), by omega⟩ : Fin 1152) = ⟨1024 + r.val, by omega⟩ := Fin.ext (by dsimp only; omega)
          rw [e]
        · rw [dif_neg hs, turned_high (r := ⟨r.val, h64⟩) hr hs]
          exact congrArg (fun l => v (ix2 l q)) (Fin.ext (by show 1024 + (16 + (r.val - 8 - 8)) = 1024 + r.val; omega))
    · rw [dif_neg h64, dif_neg h64]
      exact congrArg (fun l => v (ix2 l q)) (Fin.ext (by dsimp only; omega))
  rw [e]
  simp only [product_apply, cos_apply, sin_apply]

/-- The heads' weights, as a point stores them. -/
theorem weight_stored (w : FVec Ideal S1152x2048 .bf16) (h : FVec Ideal S1024x2048 .bf16) (q : Fin 1024) (a : Fin 16) :
    (k0_pay4 (k0_pay6 w h) : FVec Ideal S16x1024 .f32) (ix2 a q) = weight (lines w h q) a := by
  have e : ∀ v : FVec Ideal S1152x1024 .f32, (k0_pay4 v : FVec Ideal S16x1024 .f32) (ix2 a q) = weight (fun l => v (ix2 l q)) a := by
    intro v
    unfold weight
    pointwise [k0_pay4, k0_pay2]
    exact congrArg (fun l => v (ix2 l q) * Ideal.ofBits FTy.f32 0x3E800000#32) (Fin.ext (by dsimp only; omega))
  rw [e]
  simp only [product_apply]

variable (m : (ℓ : Loc nD τ sig) → Buf (Elt Ideal) ℓ) (c : Dev nD)

theorem V_h : V m c main_v2 = flat (m ((c : Thread nD τ).loc main_arg0)) := by
  show StableHlo.after hostOps0 _ (Proc.devRef .tc main_v2) = _
  after_results
  rfl
theorem V_w : V m c main_v3 = across (m ((c : Thread nD τ).loc main_arg1)) := by
  show StableHlo.after hostOps0 _ (Proc.devRef .tc main_v3) = _
  after_results
  rfl
theorem V_z : V m c main_v4 = inRow (m ((c : Thread nD τ).loc main_arg2)) := by
  show StableHlo.after hostOps0 _ (Proc.devRef .tc main_v4) = _
  after_results
  rfl
theorem V_f : V m c main_v11 = freqColumn := by
  show StableHlo.after hostOps0 _ (Proc.devRef .tc main_v11) = _
  after_results
  rfl

/-- Where the windows lie at point `t`: the rows of the matrix and the frequencies stay, the rows of the operand and their
positions go by. -/
theorem index_at : ∀ t : Fin cfg0.N, win0_0.index t = ![3072, 0] ∧ win0_1.index t = ![t.val, 0] ∧ win0_2.index t = ![0, t.val]
    ∧ win0_4.index t = ![0, 0] :=
  (by decide +kernel : ∀ t : Fin grid0.N, _)

variable (t : Fin cfg0.N)

theorem t_lt : t.val < 8 := lt_of_lt_of_eq t.isLt N_0

/-- The row of the operand that a row of point `t`'s block is, and the column of the matrix of a row of the scratch. -/
def rowOf (i : Fin 1024) : Fin 8192 := ⟨1024 * t.val + i.val, by have h := t_lt t; omega⟩
def lineOf (l : Fin 1152) : Fin 7696 := ⟨3072 + l.val, by omega⟩

theorem blk_h (i : Fin 1024) (k : Fin 2048) : (iblk m c 1 t : FVec Ideal S1024x2048 .bf16) (ix2 i k)
    = flat (m ((c : Thread nD τ).loc main_arg0)) (ix2 (rowOf t i) k) := by
  refine (congrFun (V_h m c) _).trans (congrArg (flat _) (place ?_ ?_))
  · show win0_1.index t (0 : Fin 2) * 1024 + 1 * i.val = 1024 * t.val + i.val
    rw [(index_at t).2.1]
    show t.val * 1024 + 1 * i.val = _
    omega
  · show win0_1.index t (1 : Fin 2) * 2048 + 1 * k.val = k.val
    rw [(index_at t).2.1]
    show 0 * 2048 + 1 * k.val = _
    omega

theorem blk_w (j : Fin 1152) (k : Fin 2048) : (iblk m c 0 t : FVec Ideal S1152x2048 .f32) (ix2 j k)
    = across (m ((c : Thread nD τ).loc main_arg1)) (ix2 (lineOf j) k) := by
  refine (congrFun (V_w m c) _).trans (congrArg (across _) (place ?_ ?_))
  · show win0_0.index t (0 : Fin 2) + 1 * j.val = 3072 + j.val
    rw [(index_at t).1]
    show 3072 + 1 * j.val = _
    omega
  · show win0_0.index t (1 : Fin 2) + 1 * k.val = k.val
    rw [(index_at t).1]
    show 0 + 1 * k.val = _
    omega

theorem blk_z (i : Fin 1024) : (iblk m c 2 t : IVec S1x1024 32) (ix2 0 i)
    = inRow (m ((c : Thread nD τ).loc main_arg2)) (ix2 0 (rowOf t i)) := by
  refine (congrFun (V_z m c) _).trans (congrArg (inRow _) (place ?_ ?_))
  · show win0_2.index t (0 : Fin 2) * 1 + 1 * 0 = 0
    rw [(index_at t).2.2.1]
    rfl
  · show win0_2.index t (1 : Fin 2) * 1024 + 1 * i.val = 1024 * t.val + i.val
    rw [(index_at t).2.2.1]
    show t.val * 1024 + 1 * i.val = _
    omega

theorem blk_f (i : Fin 8) : (iblk m c 4 t : FVec Ideal S8x1 .f32) (ix2 i 0) = freqColumn (ix2 i 0) := by
  refine (congrFun (V_f m c) _).trans (congrArg freqColumn (place ?_ ?_))
  · show win0_4.index t (0 : Fin 2) * 8 + 1 * i.val = i.val
    rw [(index_at t).2.2.2]
    show 0 * 8 + 1 * i.val = _
    omega
  · show win0_4.index t (1 : Fin 2) * 1 + 1 * 0 = 0
    rw [(index_at t).2.2.2]
    rfl

/-- What a point leaves in the scratch of the matrix. -/
theorem first_point (h : t.val % 8 = 0) : (outsAt0 m c t.val t.isLt).2.2.2 = k0_pay5 (iblk m c 0 t) := by
  rw [outsAt0_A m c t h]; dsimp only
  frame_out

theorem later_point (h : ¬ t.val % 8 = 0) :
    (outsAt0 m c t.val t.isLt).2.2.2 = (outsAt0 m c (t.val - 1) (lt_of_le_of_lt (Nat.sub_le _ _) t.isLt)).2.2.2 := by
  rw [outsAt0_B m c t h]
  rfl

/-- The three blocks a point stores, from what is in the scratch and the point's blocks. -/
theorem queries_of_scratch (y : S8x128x1024.Idx) (q : Fin 1024) (l : Fin 16) (r : Fin 64) (ha : (y 0).val = l.val / 2)
    (hr : (y 1).val = 64 * (l.val % 2) + r.val) (hq : (y 2).val = q.val) : (outsAt0 m c t.val t.isLt).1 y
      = query (lines (outsAt0 m c t.val t.isLt).2.2.2 (iblk m c 1 t) q) (fun i => Ideal.cos (turn (iblk m c 4 t) (iblk m c 2 t) q i))
          (fun i => Ideal.sin (turn (iblk m c 4 t) (iblk m c 2 t) q i)) l r := by
  by_cases ht : t.val % 8 = 0
  · rw [first_point m c t ht, outsAt0_A m c t ht]; dsimp only
    frame_out
    canon_tiles x h
    · exact head_stored _ _ _ _ 960 slices_S1152x1024_o960_0_S64x1024 x q l r (by omega) (by omega) (by omega) (by omega)
    · exact head_stored _ _ _ _ 896 slices_S1152x1024_o896_0_S64x1024 x q l r (by omega) (by omega) (by omega) (by omega)
    · exact head_stored _ _ _ _ 832 slices_S1152x1024_o832_0_S64x1024 x q l r (by omega) (by omega) (by omega) (by omega)
    · exact head_stored _ _ _ _ 768 slices_S1152x1024_o768_0_S64x1024 x q l r (by omega) (by omega) (by omega) (by omega)
    · exact head_stored _ _ _ _ 704 slices_S1152x1024_o704_0_S64x1024 x q l r (by omega) (by omega) (by omega) (by omega)
    · exact head_stored _ _ _ _ 640 slices_S1152x1024_o640_0_S64x1024 x q l r (by omega) (by omega) (by omega) (by omega)
    · exact head_stored _ _ _ _ 576 slices_S1152x1024_o576_0_S64x1024 x q l r (by omega) (by omega) (by omega) (by omega)
    · exact head_stored _ _ _ _ 512 slices_S1152x1024_o512_0_S64x1024 x q l r (by omega) (by omega) (by omega) (by omega)
    · exact head_stored _ _ _ _ 448 slices_S1152x1024_o448_0_S64x1024 x q l r (by omega) (by omega) (by omega) (by omega)
    · exact head_stored _ _ _ _ 384 slices_S1152x1024_o384_0_S64x1024 x q l r (by omega) (by omega) (by omega) (by omega)
    · exact head_stored _ _ _ _ 320 slices_S1152x1024_o320_0_S64x1024 x q l r (by omega) (by omega) (by omega) (by omega)
    · exact head_stored _ _ _ _ 256 slices_S1152x1024_o256_0_S64x1024 x q l r (by omega) (by omega) (by omega) (by omega)
    · exact head_stored _ _ _ _ 192 slices_S1152x1024_o192_0_S64x1024 x q l r (by omega) (by omega) (by omega) (by omega)
    · exact head_stored _ _ _ _ 128 slices_S1152x1024_o128_0_S64x1024 x q l r (by omega) (by omega) (by omega) (by omega)
    · exact head_stored _ _ _ _ 64 slices_S1152x1024_o64_0_S64x1024 x q l r (by omega) (by omega) (by omega) (by omega)
    · exact head_stored _ _ _ _ 0 slices_S1152x1024_o0_0_S64x1024 x q l r (by omega) (by omega) (by omega) (by omega)
  · rw [later_point m c t ht, outsAt0_B m c t ht]; dsimp only
    frame_out
    rw [read_unread_whole]
    canon_tiles x h
    · exact head_stored _ _ _ _ 960 slices_S1152x1024_o960_0_S64x1024 x q l r (by omega) (by omega) (by omega) (by omega)
    · exact head_stored _ _ _ _ 896 slices_S1152x1024_o896_0_S64x1024 x q l r (by omega) (by omega) (by omega) (by omega)
    · exact head_stored _ _ _ _ 832 slices_S1152x1024_o832_0_S64x1024 x q l r (by omega) (by omega) (by omega) (by omega)
    · exact head_stored _ _ _ _ 768 slices_S1152x1024_o768_0_S64x1024 x q l r (by omega) (by omega) (by omega) (by omega)
    · exact head_stored _ _ _ _ 704 slices_S1152x1024_o704_0_S64x1024 x q l r (by omega) (by omega) (by omega) (by omega)
    · exact head_stored _ _ _ _ 640 slices_S1152x1024_o640_0_S64x1024 x q l r (by omega) (by omega) (by omega) (by omega)
    · exact head_stored _ _ _ _ 576 slices_S1152x1024_o576_0_S64x1024 x q l r (by omega) (by omega) (by omega) (by omega)
    · exact head_stored _ _ _ _ 512 slices_S1152x1024_o512_0_S64x1024 x q l r (by omega) (by omega) (by omega) (by omega)
    · exact head_stored _ _ _ _ 448 slices_S1152x1024_o448_0_S64x1024 x q l r (by omega) (by omega) (by omega) (by omega)
    · exact head_stored _ _ _ _ 384 slices_S1152x1024_o384_0_S64x1024 x q l r (by omega) (by omega) (by omega) (by omega)
    · exact head_stored _ _ _ _ 320 slices_S1152x1024_o320_0_S64x1024 x q l r (by omega) (by omega) (by omega) (by omega)
    · exact head_stored _ _ _ _ 256 slices_S1152x1024_o256_0_S64x1024 x q l r (by omega) (by omega) (by omega) (by omega)
    · exact head_stored _ _ _ _ 192 slices_S1152x1024_o192_0_S64x1024 x q l r (by omega) (by omega) (by omega) (by omega)
    · exact head_stored _ _ _ _ 128 slices_S1152x1024_o128_0_S64x1024 x q l r (by omega) (by omega) (by omega) (by omega)
    · exact head_stored _ _ _ _ 64 slices_S1152x1024_o64_0_S64x1024 x q l r (by omega) (by omega) (by omega) (by omega)
    · exact head_stored _ _ _ _ 0 slices_S1152x1024_o0_0_S64x1024 x q l r (by omega) (by omega) (by omega) (by omega)

theorem keys_of_scratch (q : Fin 1024) (r : Fin 128) : ((outsAt0 m c t.val t.isLt).2.1 : FVec Ideal S1024x128 .bf16) (ix2 q r)
      = key (lines (outsAt0 m c t.val t.isLt).2.2.2 (iblk m c 1 t) q) (fun i => Ideal.cos (turn (iblk m c 4 t) (iblk m c 2 t) q i))
          (fun i => Ideal.sin (turn (iblk m c 4 t) (iblk m c 2 t) q i)) r := by
  by_cases ht : t.val % 8 = 0
  · rw [first_point m c t ht, outsAt0_A m c t ht]; dsimp only
    frame_out
    exact key_stored _ _ _ _ q r
  · rw [later_point m c t ht, outsAt0_B m c t ht]; dsimp only
    frame_out
    rw [read_unread_whole]
    exact key_stored _ _ _ _ q r

theorem weights_of_scratch (q : Fin 1024) (a : Fin 16) : ((outsAt0 m c t.val t.isLt).2.2.1 : FVec Ideal S16x1024 .f32) (ix2 a q)
      = weight (lines (outsAt0 m c t.val t.isLt).2.2.2 (iblk m c 1 t) q) a := by
  by_cases ht : t.val % 8 = 0
  · rw [first_point m c t ht, outsAt0_A m c t ht]; dsimp only
    frame_out
    exact weight_stored _ _ q a
  · rw [later_point m c t ht, outsAt0_B m c t ht]; dsimp only
    frame_out
    rw [read_unread_whole]
    exact weight_stored _ _ q a

/-- The rows of the matrix are in the scratch after every point. -/
theorem scratch_after : ∀ (n : ℕ) (hn : n < cfg0.N) (j : Fin 1152) (k : Fin 2048), (outsAt0 m c n hn).2.2.2 (ix2 j k)
    = across (m ((c : Thread nD τ).loc main_arg1)) (ix2 (lineOf j) k) := by
  intro n
  induction n with
  | zero =>
    intro hn j k
    rw [first_point m c ⟨0, hn⟩ rfl, ← blk_w m c ⟨0, hn⟩ j k]
    pointwise [k0_pay5]
  | succ n ih =>
    intro hn j k
    have h8 := t_lt ⟨n + 1, hn⟩
    rw [later_point m c ⟨n + 1, hn⟩ (by show ¬(n + 1) % 8 = 0; have h : n + 1 < 8 := h8; omega)]
    exact ih (Nat.lt_of_succ_lt hn) j k

/-- The columns and the angles a point reads are the row's when its blocks are the row's. -/
theorem lines_eq {w : FVec Ideal S1152x2048 .bf16} {h : FVec Ideal S1024x2048 .bf16} {X : FVec Ideal S2x4096x2048 .f32}
    {W : FVec Ideal S2048x7696 .f32} (q : Fin 1024) (n : Fin 8192) (hw : ∀ (l : Fin 1152) k, w (ix2 l k) = across W (ix2 (lineOf l) k))
    (hh : ∀ k, h (ix2 q k) = flat X (ix2 n k)) : lines w h q = column X W n := by
  funext l
  unfold lines column
  refine Finset.sum_congr rfl fun k _ => ?_
  rw [hw, hh, flat_apply, across_apply, mul_comm]
  rfl

theorem turn_eq {f : FVec Ideal S8x1 .f32} {z : IVec S1x1024 32} {Z : IVec S2x4096 32} (q : Fin 1024) (n : Fin 8192)
    (hz : z (ix2 0 q) = inRow Z (ix2 0 n)) (hf : ∀ i, f (ix2 i 0) = freqColumn (ix2 i 0)) : turn f z q = angle Z n := by
  funext i
  unfold turn
  rw [hf, hz, inRow_apply, freqColumn_apply, mul_comm]
  rfl

/-- What point `n / 1024` reads for row `n`. -/
theorem row_lines (n : Fin 8192) (hpt : n.val / 1024 < cfg0.N) :
    lines (outsAt0 m c (n.val / 1024) hpt).2.2.2 (iblk m c 1 ⟨n.val / 1024, hpt⟩) ⟨n.val % 1024, by omega⟩
      = column (m ((c : Thread nD τ).loc main_arg0)) (m ((c : Thread nD τ).loc main_arg1)) n := by
  have en : rowOf ⟨n.val / 1024, hpt⟩ ⟨n.val % 1024, by omega⟩ = n :=
    Fin.ext (by show 1024 * (n.val / 1024) + n.val % 1024 = n.val; omega)
  exact lines_eq _ n (scratch_after m c (n.val / 1024) hpt) (fun k => (blk_h m c ⟨n.val / 1024, hpt⟩ _ k).trans (by rw [en]))

theorem row_turn (n : Fin 8192) (hpt : n.val / 1024 < cfg0.N) :
    turn (iblk m c 4 ⟨n.val / 1024, hpt⟩) (iblk m c 2 ⟨n.val / 1024, hpt⟩) ⟨n.val % 1024, by omega⟩
      = angle (m ((c : Thread nD τ).loc main_arg2)) n := by
  have en : rowOf ⟨n.val / 1024, hpt⟩ ⟨n.val % 1024, by omega⟩ = n :=
    Fin.ext (by show 1024 * (n.val / 1024) + n.val % 1024 = n.val; omega)
  exact turn_eq _ n ((blk_z m c ⟨n.val / 1024, hpt⟩ _).trans (by rw [en])) (blk_f m c ⟨n.val / 1024, hpt⟩)

/-- The kernel's index queries for a pair of heads, a value of the pair and a row. -/
theorem kernel_queries (a : Fin 8) (r : Fin 128) (n : Fin 8192) : (Value.G5 m c : FVec Ideal S8x128x8192 .bf16) (ix3 a r n)
    = query (column (m ((c : Thread nD τ).loc main_arg0)) (m ((c : Thread nD τ).loc main_arg1)) n)
        (cosine (m ((c : Thread nD τ).loc main_arg2)) n) (sine (m ((c : Thread nD τ).loc main_arg2)) n)
        ⟨2 * a.val + r.val / 64, by omega⟩ ⟨r.val % 64, by omega⟩ := by
  have hq : 8 * (a.val / 8 - 0) + 8 * (r.val / 128 - 0) + 1 * (n.val / 1024 - 0) = n.val / 1024 := by omega
  have hpt : n.val / 1024 < cfg0.N := lt_of_lt_of_eq (by omega) N_0.symm
  have e := queries_of_scratch m c ⟨n.val / 1024, hpt⟩ (Value.loc5Of (ix3 a r n : S8x128x8192.Idx)) ⟨n.val % 1024, by omega⟩
    ⟨2 * a.val + r.val / 64, by omega⟩ ⟨r.val % 64, by omega⟩ (by show a.val % 8 = (2 * a.val + r.val / 64) / 2; omega)
    (by show r.val % 128 = 64 * ((2 * a.val + r.val / 64) % 2) + r.val % 64; omega) rfl
  rw [row_lines m c n hpt, row_turn m c n hpt] at e
  unfold cosine sine
  rw [← e]
  unfold Value.G5
  rw [dif_pos (show Value.pt5Of (ix3 a r n : S8x128x8192.Idx) < cfg0.N from lt_of_eq_of_lt hq hpt), Value.outsAt0_sweep]
  exact congrArg (fun z : Vec Ideal S8x128x1024 .bf16 × Vec Ideal S1024x128 .bf16 × Vec Ideal S16x1024 .f32 × Vec Ideal S1152x2048 .bf16 => z.1 (Value.loc5Of (ix3 a r n : S8x128x8192.Idx))) (Value.fold0_congr m c _ _ _ _ hq)

/-- The kernel's index key, and the columns behind it, for a row. -/
theorem kernel_keys (n : Fin 8192) (r : Fin 128) : (Value.G6 m c : FVec Ideal S8192x128 .bf16) (ix2 n r)
    = key (column (m ((c : Thread nD τ).loc main_arg0)) (m ((c : Thread nD τ).loc main_arg1)) n)
        (cosine (m ((c : Thread nD τ).loc main_arg2)) n) (sine (m ((c : Thread nD τ).loc main_arg2)) n) r := by
  have hq : 1 * (n.val / 1024 - 0) + 1 * (r.val / 128 - 0) = n.val / 1024 := by omega
  have hpt : n.val / 1024 < cfg0.N := lt_of_lt_of_eq (by omega) N_0.symm
  have e := keys_of_scratch m c ⟨n.val / 1024, hpt⟩ ⟨n.val % 1024, by omega⟩ r
  rw [row_lines m c n hpt, row_turn m c n hpt] at e
  unfold cosine sine
  rw [← e]
  unfold Value.G6
  rw [dif_pos (show Value.pt6Of (ix2 n r : S8192x128.Idx) < cfg0.N from lt_of_eq_of_lt hq hpt), Value.outsAt0_sweep]
  rw [show (ix2 (⟨n.val % 1024, by omega⟩ : Fin 1024) r : S1024x128.Idx) = Value.loc6Of (ix2 n r : S8192x128.Idx) from
    (place rfl (by show r.val % 128 = r.val; omega)).symm]
  exact congrArg (fun z : Vec Ideal S8x128x1024 .bf16 × Vec Ideal S1024x128 .bf16 × Vec Ideal S16x1024 .f32 × Vec Ideal S1152x2048 .bf16 => z.2.1 (Value.loc6Of (ix2 n r : S8192x128.Idx))) (Value.fold0_congr m c _ _ _ _ hq)

/-- The kernel's weight of a head for a row. -/
theorem kernel_weights (a : Fin 16) (n : Fin 8192) : (Value.G7 m c : FVec Ideal S16x8192 .f32) (ix2 a n)
    = weight (column (m ((c : Thread nD τ).loc main_arg0)) (m ((c : Thread nD τ).loc main_arg1)) n) a := by
  have hq : 8 * (a.val / 16 - 0) + 1 * (n.val / 1024 - 0) = n.val / 1024 := by omega
  have hpt : n.val / 1024 < cfg0.N := lt_of_lt_of_eq (by omega) N_0.symm
  have e := weights_of_scratch m c ⟨n.val / 1024, hpt⟩ ⟨n.val % 1024, by omega⟩ a
  rw [row_lines m c n hpt] at e
  rw [← e]
  unfold Value.G7
  rw [dif_pos (show Value.pt7Of (ix2 a n : S16x8192.Idx) < cfg0.N from lt_of_eq_of_lt hq hpt), Value.outsAt0_sweep]
  rw [show (ix2 a (⟨n.val % 1024, by omega⟩ : Fin 1024) : S16x1024.Idx) = Value.loc7Of (ix2 a n : S16x8192.Idx) from
    (place (by show a.val % 16 = a.val; omega) rfl).symm]
  exact congrArg (fun z : Vec Ideal S8x128x1024 .bf16 × Vec Ideal S1024x128 .bf16 × Vec Ideal S16x1024 .f32 × Vec Ideal S1152x2048 .bf16 => z.2.2.1 (Value.loc7Of (ix2 a n : S16x8192.Idx))) (Value.fold0_congr m c _ _ _ _ hq)

end Indexer

namespace Indexer.Reference

open Idealize.ShloMosaic Idealize.ShloMosaic.TcCoe Idealize.ShloMosaic.Pointwise Cert.Reference9Ideal Cert.Reference9Ideal.Gen

/-- The product's rows and columns. -/
def product (x : FVec Ideal S2x4096x2048 .f32) (w : FVec Ideal S2048x7696 .f32) : FVec Ideal S2x4096x7696 .f32 :=
  Host.dotGeneral (F := Ideal) dot_S2x4096x2048_S2048x7696_S2x4096x7696_2_0_01_1_n_n none x w

/-- The angles of the positions. -/
def angles (z : IVec S2x4096 32) : FVec Ideal S2x4096x8 .f32 :=
  mulf (broadcastInDim S2x4096x8 ![0, 1, 2] bcast_S2x4096x1_S2x4096x8_0_1_2
      (broadcastInDim S2x4096x1 ![0, 1] bcast_S2x4096_S2x4096x1_0_1 (sitofp .f32 z)))
    (broadcastInDim S2x4096x8 ![0, 1, 2] bcast_S1x1x8_S2x4096x8_0_1_2 (broadcastInDim S1x1x8 ![2] bcast_S8_S1x1x8_2
      (Host.powf (F := Ideal) (broadcastInDim S8 ![] bcast_S_S8 (constant (F := Ideal) S_ .f32 0x48F42400#32))
        (Host.divf (Host.negf (sitofp .f32 (iotaInDim S8 32 0))) (broadcastInDim S8 ![] bcast_S_S8 (constant S_ .f32 0x41000000#32))))))

/-- A value per position and frequency, for the key's one head and for the queries' sixteen. -/
def forOne (u : FVec Ideal S2x4096x8 .f32) : FVec Ideal S2x4096x1x8 .f32 :=
  broadcastInDim S2x4096x1x8 ![0, 1, 3] bcast_S2x4096x8_S2x4096x1x8_0_1_3 u
def forHeads (u : FVec Ideal S2x4096x8 .f32) : FVec Ideal S2x4096x16x8 .f32 :=
  broadcastInDim S2x4096x16x8 ![0, 1, 2, 3] bcast_S2x4096x1x8_S2x4096x16x8_0_1_2_3 (forOne u)

/-- The columns of the queries per head, and the two halves of the values that turn. -/
def heads (y : FVec Ideal S2x4096x7696 .f32) : FVec Ideal S2x4096x16x64 .f32 :=
  shapeCast S2x4096x16x64 (extractStridedSlice S2x4096x1024 ![0, 0, 3072] y slices_S2x4096x7696_S2x4096x1024_0_0_3072)
    shapeCasts_S2x4096x1024_S2x4096x16x64
def firstHalf (y : FVec Ideal S2x4096x16x64 .f32) : FVec Ideal S2x4096x16x8 .f32 :=
  extractStridedSlice S2x4096x16x8 ![0, 0, 0, 0] (extractStridedSlice S2x4096x16x16 ![0, 0, 0, 0] y
    slices_S2x4096x16x64_S2x4096x16x16_0_0_0_0) slices_S2x4096x16x16_S2x4096x16x8_0_0_0_0
def secondHalf (y : FVec Ideal S2x4096x16x64 .f32) : FVec Ideal S2x4096x16x8 .f32 :=
  extractStridedSlice S2x4096x16x8 ![0, 0, 0, 8] (extractStridedSlice S2x4096x16x16 ![0, 0, 0, 0] y
    slices_S2x4096x16x64_S2x4096x16x16_0_0_0_0) slices_S2x4096x16x16_S2x4096x16x8_0_0_0_8

/-- The columns of the key as one head, and the two halves of the values that turn. -/
def single (y : FVec Ideal S2x4096x7696 .f32) : FVec Ideal S2x4096x1x64 .f32 :=
  broadcastInDim S2x4096x1x64 ![0, 1, 3] bcast_S2x4096x64_S2x4096x1x64_0_1_3
    (extractStridedSlice S2x4096x64 ![0, 0, 4096] y slices_S2x4096x7696_S2x4096x64_0_0_4096)
def firstOne (y : FVec Ideal S2x4096x1x64 .f32) : FVec Ideal S2x4096x1x8 .f32 :=
  extractStridedSlice S2x4096x1x8 ![0, 0, 0, 0] (extractStridedSlice S2x4096x1x16 ![0, 0, 0, 0] y
    slices_S2x4096x1x64_S2x4096x1x16_0_0_0_0) slices_S2x4096x1x16_S2x4096x1x8_0_0_0_0
def secondOne (y : FVec Ideal S2x4096x1x64 .f32) : FVec Ideal S2x4096x1x8 .f32 :=
  extractStridedSlice S2x4096x1x8 ![0, 0, 0, 8] (extractStridedSlice S2x4096x1x16 ![0, 0, 0, 0] y
    slices_S2x4096x1x64_S2x4096x1x16_0_0_0_0) slices_S2x4096x1x16_S2x4096x1x8_0_0_0_8

/-- The rotation of every head's first 16 values, and of the key's. -/
def rotated (y : FVec Ideal S2x4096x16x64 .f32) (u : FVec Ideal S2x4096x8 .f32) : FVec Ideal S2x4096x16x64 .f32 :=
  concatenate S2x4096x16x64 3 [⟨S2x4096x16x16, concatenate S2x4096x16x16 3
      [⟨S2x4096x16x8, subf (mulf (firstHalf y) (forHeads (Host.cos u))) (mulf (secondHalf y) (forHeads (Host.sin u)))⟩,
        ⟨S2x4096x16x8, addf (mulf (secondHalf y) (forHeads (Host.cos u))) (mulf (firstHalf y) (forHeads (Host.sin u)))⟩]
      concatenates_S2x4096x16x8_S2x4096x16x8_S2x4096x16x16_d3⟩,
    ⟨S2x4096x16x48, extractStridedSlice S2x4096x16x48 ![0, 0, 0, 16] y slices_S2x4096x16x64_S2x4096x16x48_0_0_0_16⟩]
    concatenates_S2x4096x16x16_S2x4096x16x48_S2x4096x16x64_d3
def rotatedOne (y : FVec Ideal S2x4096x1x64 .f32) (u : FVec Ideal S2x4096x8 .f32) : FVec Ideal S2x4096x1x64 .f32 :=
  concatenate S2x4096x1x64 3 [⟨S2x4096x1x16, concatenate S2x4096x1x16 3
      [⟨S2x4096x1x8, subf (mulf (firstOne y) (forOne (Host.cos u))) (mulf (secondOne y) (forOne (Host.sin u)))⟩,
        ⟨S2x4096x1x8, addf (mulf (secondOne y) (forOne (Host.cos u))) (mulf (firstOne y) (forOne (Host.sin u)))⟩]
      concatenates_S2x4096x1x8_S2x4096x1x8_S2x4096x1x16_d3⟩,
    ⟨S2x4096x1x48, extractStridedSlice S2x4096x1x48 ![0, 0, 0, 16] y slices_S2x4096x1x64_S2x4096x1x48_0_0_0_16⟩]
    concatenates_S2x4096x1x16_S2x4096x1x48_S2x4096x1x64_d3

theorem product_apply (x : FVec Ideal S2x4096x2048 .f32) (w : FVec Ideal S2048x7696 .f32) (n : Fin 8192) (l : Fin 1152) :
    product x w (ix3 ⟨n.val / 4096, by omega⟩ ⟨n.val % 4096, by omega⟩ ⟨3072 + l.val, by omega⟩) = Indexer.column x w n l := by
  pointwise [product, Indexer.column]

theorem angles_apply (z : IVec S2x4096 32) (n : Fin 8192) (i : Fin 8) :
    angles z (ix3 ⟨n.val / 4096, by omega⟩ ⟨n.val % 4096, by omega⟩ i) = Indexer.angle z n i := by
  pointwise [angles, Indexer.angle, Indexer.freq]

theorem rotated_apply (y : FVec Ideal S2x4096x7696 .f32) (u : FVec Ideal S2x4096x8 .f32) (b : Fin 2) (q : Fin 4096) (a : Fin 16)
    (r : Fin 64) : rotated (heads y) u (ix4 b q a r) = Indexer.turned (fun d => y (ix3 b q ⟨3072 + (64 * a.val + d.val), by omega⟩))
      (fun i => Ideal.cos (u (ix3 b q i))) (fun i => Ideal.sin (u (ix3 b q i))) r := by
  have eh : ∀ d : Fin 64, heads y (ix4 b q a d) = y (ix3 b q ⟨3072 + (64 * a.val + d.val), by omega⟩) := by
    intro d
    pointwise [heads]
    exact congrArg (fun l => y (ix3 b q l)) (Fin.ext (by dsimp only; omega))
  generalize heads y = g at eh
  simp only [← eh]
  pointwise [rotated, firstHalf, secondHalf, forHeads, forOne]
  by_cases h16 : r.val < 16
  · rw [dif_pos h16]
    by_cases hr : r.val < 8
    · rw [dif_pos hr, Indexer.turned_low hr]
    · rw [dif_neg hr, Indexer.turned_mid hr (by omega)]
      have e : (⟨8 + (r.val - 8), by omega⟩ : Fin 64) = r := Fin.ext (by dsimp only; omega)
      rw [e]
  · rw [dif_neg h16, Indexer.turned_high (by omega) (by omega)]
    exact congrArg (fun d => g (ix4 b q a d)) (Fin.ext (by dsimp only; omega))

theorem rotatedOne_apply (y : FVec Ideal S2x4096x7696 .f32) (u : FVec Ideal S2x4096x8 .f32) (b : Fin 2) (q : Fin 4096)
    (r : Fin 64) : rotatedOne (single y) u (ix4 b q 0 r) = Indexer.turned (fun d => y (ix3 b q ⟨3072 + (1024 + d.val), by omega⟩))
      (fun i => Ideal.cos (u (ix3 b q i))) (fun i => Ideal.sin (u (ix3 b q i))) r := by
  have eh : ∀ d : Fin 64, single y (ix4 b q 0 d) = y (ix3 b q ⟨3072 + (1024 + d.val), by omega⟩) := by
    intro d
    pointwise [single]
    exact congrArg (fun l => y (ix3 b q l)) (Fin.ext (by dsimp only; omega))
  generalize single y = g at eh
  simp only [← eh]
  pointwise [rotatedOne, firstOne, secondOne, forOne]
  by_cases h16 : r.val < 16
  · rw [dif_pos h16]
    by_cases hr : r.val < 8
    · rw [dif_pos hr, Indexer.turned_low hr]
    · rw [dif_neg hr, Indexer.turned_mid hr (by omega)]
      have e : (⟨8 + (r.val - 8), by omega⟩ : Fin 64) = r := Fin.ext (by dsimp only; omega)
      rw [e]
  · rw [dif_neg h16, Indexer.turned_high (by omega) (by omega)]
    exact congrArg (fun d => g (ix4 b q 0 d)) (Fin.ext (by dsimp only; omega))

/-- The reference's index queries for a pair of heads, a value of the pair and a row. -/
theorem queries_apply (m : (ℓ : Loc nD τ sig) → Buf (Elt Ideal) ℓ) (c : Dev nD) (a : Fin 8) (r : Fin 128) (n : Fin 8192) :
    (Cert.Reference9Ideal.Value.res_main_v75 m c : FVec Ideal S8x128x8192 .bf16) (ix3 a r n)
      = Indexer.query (Indexer.column (m ((c : Thread nD τ).loc main_arg0)) (m ((c : Thread nD τ).loc main_arg1)) n)
          (Indexer.cosine (m ((c : Thread nD τ).loc main_arg2)) n) (Indexer.sine (m ((c : Thread nD τ).loc main_arg2)) n)
          ⟨2 * a.val + r.val / 64, by omega⟩ ⟨r.val % 64, by omega⟩ := by
  have e : Cert.Reference9Ideal.Value.res_main_v75 m c = truncf .bf16 (transpose S8x128x8192 [1, 2, 0] (shapeCast S8192x8x128
      (mulf (rotated (heads (product (m ((c : Thread nD τ).loc main_arg0)) (m ((c : Thread nD τ).loc main_arg1))))
          (angles (m ((c : Thread nD τ).loc main_arg2))))
        (broadcastInDim S2x4096x16x64 ![] bcast_S_S2x4096x16x64 (constant (F := Ideal) S_ .f32 0x3E000000#32)))
      shapeCasts_S2x4096x16x64_S8192x8x128) transposes_S8192x8x128_S8x128x8192_1_2_0) bitsLt_bf16_f32 := rfl
  rw [e]
  pointwise
  have ea : a.val * 2 + r.val / 64 = 2 * a.val + r.val / 64 := by omega
  simp only [ea]
  rw [rotated_apply]
  unfold Indexer.query Indexer.cosine Indexer.sine
  simp only [← angles_apply, ← product_apply]

/-- The reference's index key, and the columns behind it, for a row. -/
theorem keys_apply (m : (ℓ : Loc nD τ sig) → Buf (Elt Ideal) ℓ) (c : Dev nD) (n : Fin 8192) (r : Fin 128) :
    (Cert.Reference9Ideal.Value.res_main_v77 m c : FVec Ideal S8192x128 .bf16) (ix2 n r)
      = Indexer.key (Indexer.column (m ((c : Thread nD τ).loc main_arg0)) (m ((c : Thread nD τ).loc main_arg1)) n)
          (Indexer.cosine (m ((c : Thread nD τ).loc main_arg2)) n) (Indexer.sine (m ((c : Thread nD τ).loc main_arg2)) n) r := by
  have e : Cert.Reference9Ideal.Value.res_main_v77 m c = truncf .bf16 (shapeCast S8192x128 (concatenate S2x4096x128 2
      [⟨S2x4096x64, ((shapeCast S2x4096x64 (rotatedOne (single (product (m ((c : Thread nD τ).loc main_arg0)) (m ((c : Thread nD τ).loc main_arg1))))
          (angles (m ((c : Thread nD τ).loc main_arg2)))) shapeCasts_S2x4096x1x64_S2x4096x64) : FVec Ideal S2x4096x64 .f32)⟩,
        ⟨S2x4096x64, (extractStridedSlice S2x4096x64 ![0, 0, 4160] (product (m ((c : Thread nD τ).loc main_arg0))
          (m ((c : Thread nD τ).loc main_arg1))) slices_S2x4096x7696_S2x4096x64_0_0_4160 : FVec Ideal S2x4096x64 .f32)⟩]
      concatenates_S2x4096x64_S2x4096x64_S2x4096x128_d2 : FVec Ideal S2x4096x128 .f32) shapeCasts_S2x4096x128_S8192x128) bitsLt_bf16_f32 := rfl
  rw [e]
  unfold Indexer.key Indexer.cosine Indexer.sine
  simp only [← angles_apply, ← product_apply]
  pointwise
  by_cases h64 : r.val < 64
  · rw [dif_pos h64, dif_pos h64]
    exact rotatedOne_apply _ _ _ _ _
  · rw [dif_neg h64, dif_neg h64]
    exact congrArg (fun l => product _ _ (ix3 _ _ l)) (Fin.ext (by dsimp only; omega))

/-- The reference's weight of a head for a row. -/
theorem weights_apply (x : FVec Ideal S2x4096x2048 .f32) (w : FVec Ideal S2048x7696 .f32) (a : Fin 16) (n : Fin 8192) :
    (transpose S16x8192 [1, 0] (shapeCast S8192x16 (mulf (extractStridedSlice S2x4096x16 ![0, 0, 4160]
        (Host.dotGeneral (F := Ideal) dot_S2x4096x2048_S2048x7696_S2x4096x7696_2_0_01_1_n_n none x w) slices_S2x4096x7696_S2x4096x16_0_0_4160)
      (broadcastInDim S2x4096x16 ![] bcast_S_S2x4096x16 (constant (F := Ideal) S_ .f32 0x3E800000#32))) shapeCasts_S2x4096x16_S8192x16)
      transposes_S8192x16_S16x8192_1_0 : FVec Ideal S16x8192 .f32) (ix2 a n) = Indexer.weight (Indexer.column x w n) a := by
  unfold Indexer.weight Indexer.column
  pointwise
  refine congrArg (· * Ideal.ofBits FTy.f32 0x3E800000#32) (Finset.sum_congr rfl fun k _ => congrArg (fun l => x _ * w (ix2 k l)) (Fin.ext ?_))
  dsimp only
  omega

end Indexer.Reference

namespace Indexer

open Places Idealize.ShloMosaic Idealize.SL.Sem Idealize.ShloMosaic.Pointwise

/-- The reference runs, its arguments unchanged and every semaphore zero at the end. -/
theorem quiescent_reference : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- Kernel and reference end with the same three results. -/
theorem algebraic : Cert.algebraic_Kernel9Ideal_Reference9Ideal := by
  intro m ρ m' ρ' _ hagree
  refine ⟨_, _, _, Cert.Kernel9Ideal.Value.run (F := Ideal) m ρ, ?_⟩
  refine (θ_run Cert.Reference9Ideal.defs _ _).mono (fun _ h c => ⟨?_, ?_, ?_, (h c).2.2.2⟩) (Cert.Reference9Ideal.Value.run (F := Ideal) m' ρ')
  · rw [(h c).1]
    obtain ⟨h0, h1, h2⟩ := hagree c
    funext i
    rw [show i = ix3 (i 0) (i 1) (i 2) from place3 rfl rfl rfl]
    refine (Reference.queries_apply m' c _ _ _).trans ?_
    rw [h0, h1, h2]
    exact (kernel_queries m c _ _ _).symm
  · rw [(h c).2.1]
    obtain ⟨h0, h1, h2⟩ := hagree c
    funext i
    rw [show i = ix2 (i 0) (i 1) from place rfl rfl]
    refine (Reference.keys_apply m' c _ _).trans ?_
    rw [h0, h1, h2]
    exact (kernel_keys m c _ _).symm
  · rw [(h c).2.2.1]
    obtain ⟨h0, h1, -⟩ := hagree c
    rw [h0, h1]
    funext i
    rw [show i = ix2 (i 0) (i 1) from place rfl rfl]
    exact (Reference.weights_apply ..).trans (kernel_weights m c _ _).symm

end Indexer
-- ==== Proof.lean ====
/-
  The claims of the nine kernels, put together: the frames from the generated runs, the ideal reading as the
  printed program without any rewriting, and the agreement with the reference: the recurrence's on real operands
  from `Agree`, the matrix products' on all operands from `Glu`, `Down`, `OutProj`, `Rkv`, `Val`, `Key`, `Query` and `Indexer`.
-/
module

public import proofs.«01_k».proof.Defs
public import proofs.«01_k».proof.Proof.Gen.Kernel.Frame
public import proofs.«01_k».proof.Proof.Agree
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Glu
public import proofs.«01_k».proof.Proof.Down
public import proofs.«01_k».proof.Proof.OutProj
public import proofs.«01_k».proof.Proof.Rkv
public import proofs.«01_k».proof.Proof.Val
public import proofs.«01_k».proof.Proof.Key
public import proofs.«01_k».proof.Proof.Query
public import proofs.«01_k».proof.Proof.Indexer
public import Idealize.ShloMosaic.Adequacy
public import Idealize.ShloMosaic.Init
public import Idealize.ShloMosaic.Lib.Quiescent

@[expose] public section

noncomputable section

namespace Cert.Proof

open Idealize.ShloMosaic Idealize.SL.Sem RwkvCore

/-- The reference runs, its arguments unchanged and every semaphore zero at the end. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On real operands kernel and reference end with the same result. -/
theorem algebraic : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5, h6, h7, h8, h9⟩ := hagree c
  have D := realArgs_of (hpre c)
  funext i
  obtain ⟨b, t, h, d, rfl⟩ := index_split i
  exact (reference_apply m' c h0 h1 h2 h3 h4 h5 h6 h7 h8 h9 D b t h d).trans (kernel_apply' m c D b t h d).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, preFacts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, Glu.quiescent_reference,
  fun m ρ _ => Cert.Kernel3.Gen.frame m ρ, fun m ρ _ => Cert.Kernel3Ideal.Gen.frame m ρ, Down.quiescent_reference,
  fun m ρ _ => Cert.Kernel4.Gen.frame m ρ, fun m ρ _ => Cert.Kernel4Ideal.Gen.frame m ρ, OutProj.quiescent_reference,
  fun m ρ _ => Cert.Kernel5.Gen.frame m ρ, fun m ρ _ => Cert.Kernel5Ideal.Gen.frame m ρ, Rkv.quiescent_reference,
  fun m ρ _ => Cert.Kernel6.Gen.frame m ρ, fun m ρ _ => Cert.Kernel6Ideal.Gen.frame m ρ, Val.quiescent_reference,
  fun m ρ _ => Cert.Kernel7.Gen.frame m ρ, fun m ρ _ => Cert.Kernel7Ideal.Gen.frame m ρ, Key.quiescent_reference,
  fun m ρ _ => Cert.Kernel8.Gen.frame m ρ, fun m ρ _ => Cert.Kernel8Ideal.Gen.frame m ρ, Query.quiescent_reference,
  fun m ρ _ => Cert.Kernel9.Gen.frame m ρ, fun m ρ _ => Cert.Kernel9Ideal.Gen.frame m ρ, Indexer.quiescent_reference,
  (trivial : preserves_Kernel_KernelIdeal), algebraic,
  (trivial : preserves_Kernel2_Kernel2Ideal), Glu.algebraic,
  (trivial : preserves_Kernel3_Kernel3Ideal), Down.algebraic,
  (trivial : preserves_Kernel4_Kernel4Ideal), OutProj.algebraic,
  (trivial : preserves_Kernel5_Kernel5Ideal), Rkv.algebraic,
  (trivial : preserves_Kernel6_Kernel6Ideal), Val.algebraic,
  (trivial : preserves_Kernel7_Kernel7Ideal), Key.algebraic,
  (trivial : preserves_Kernel8_Kernel8Ideal), Query.algebraic,
  (trivial : preserves_Kernel9_Kernel9Ideal), Indexer.algebraic⟩

end Cert.Proof

end
